-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_places [hPre_places : Cert.Pre_places.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_places.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_places [hPre_places : Cert.Pre_places.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_places.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_routed [hPre_routed : Cert.Pre_routed.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_routed.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_routed [hPre_routed : Cert.Pre_routed.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_routed.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_queries [hPre_finite_queries : Cert.Pre_finite_queries.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_queries.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).1 = (fun _ => 1#1)
    ∧ (Cert.Pre_finite_queries.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.1 = (fun _ => 1#1)
    ∧ (Cert.Pre_finite_queries.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_queries [hPre_finite_queries : Cert.Pre_finite_queries.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_queries.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).1 = (fun _ => 1#1)
    ∧ (Cert.Pre_finite_queries.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.1 = (fun _ => 1#1)
    ∧ (Cert.Pre_finite_queries.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_places [hKernel5Ideal : Cert.Kernel5Ideal.Facts] [hPre_places : Cert.Pre_places.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_places m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_places [hReference5Ideal : Cert.Reference5Ideal.Facts] [hPre_places : Cert.Pre_places.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_places m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_routed [hKernel6Ideal : Cert.Kernel6Ideal.Facts] [hPre_routed : Cert.Pre_routed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_routed m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_routed [hReference6Ideal : Cert.Reference6Ideal.Facts] [hPre_routed : Cert.Pre_routed.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_routed m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite_queries [hKernel8Ideal : Cert.Kernel8Ideal.Facts] [hPre_finite_queries : Cert.Pre_finite_queries.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_queries m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite_queries [hReference8Ideal : Cert.Reference8Ideal.Facts] [hPre_finite_queries : Cert.Pre_finite_queries.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_queries m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_places [hKernel5Ideal : Cert.Kernel5Ideal.Facts] [hReference5Ideal : Cert.Reference5Ideal.Facts] [hPre_places : Cert.Pre_places.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_places m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_routed [hKernel6Ideal : Cert.Kernel6Ideal.Facts] [hReference6Ideal : Cert.Reference6Ideal.Facts] [hPre_routed : Cert.Pre_routed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_routed m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v58) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite_queries [hKernel8Ideal : Cert.Kernel8Ideal.Facts] [hReference8Ideal : Cert.Reference8Ideal.Facts] [hPre_finite_queries : Cert.Pre_finite_queries.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_queries m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v56_0)) (v1 : (c : Dev Cert.Kernel8Ideal.nD) → Buf (Elt Ideal) ((c.tc : Thread Cert.Kernel8Ideal.nD Cert.Kernel8Ideal.τ).loc Cert.Kernel8Ideal.main_v56_1)) (v2 : (c : Dev Cert.Kernel8Ideal.nD) → Buf (Elt Ideal) ((c.tc : Thread Cert.Kernel8Ideal.nD Cert.Kernel8Ideal.τ).loc Cert.Kernel8Ideal.main_v56_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v56_0) = v0 c
          ∧ r.2.mem ((c.tc : Thread Cert.Kernel8Ideal.nD Cert.Kernel8Ideal.τ).loc Cert.Kernel8Ideal.main_v56_1) = v1 c
          ∧ r.2.mem ((c.tc : Thread Cert.Kernel8Ideal.nD Cert.Kernel8Ideal.τ).loc Cert.Kernel8Ideal.main_v56_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v92) = v0 c
          ∧ r.2.mem ((c.tc : Thread Cert.Reference8Ideal.nD Cert.Reference8Ideal.τ).loc Cert.Reference8Ideal.main_v94) = v1 c
          ∧ r.2.mem ((c.tc : Thread Cert.Reference8Ideal.nD Cert.Reference8Ideal.τ).loc Cert.Reference8Ideal.main_v96) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_scores : Cert.Pre_finite_scores.Facts) (hPre_places : Cert.Pre_places.Facts) (hPre_routed : Cert.Pre_routed.Facts) (hPre_finite_queries : Cert.Pre_finite_queries.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_places (hKernel5Ideal := hKernel5Ideal) (hPre_places := hPre_places)
    ∧ quiescent_Reference5Ideal (hReference5Ideal := hReference5Ideal)
    ∧ quiescent_Reference5Ideal_pre_places (hReference5Ideal := hReference5Ideal) (hPre_places := hPre_places)
    ∧ quiescent_Kernel6 (hKernel6 := hKernel6)
    ∧ quiescent_Kernel6Ideal (hKernel6Ideal := hKernel6Ideal)
    ∧ quiescent_Kernel6Ideal_pre_routed (hKernel6Ideal := hKernel6Ideal) (hPre_routed := hPre_routed)
    ∧ quiescent_Reference6Ideal (hReference6Ideal := hReference6Ideal)
    ∧ quiescent_Reference6Ideal_pre_routed (hReference6Ideal := hReference6Ideal) (hPre_routed := hPre_routed)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_queries (hKernel8Ideal := hKernel8Ideal) (hPre_finite_queries := hPre_finite_queries)
    ∧ quiescent_Reference8Ideal (hReference8Ideal := hReference8Ideal)
    ∧ quiescent_Reference8Ideal_pre_finite_queries (hReference8Ideal := hReference8Ideal) (hPre_finite_queries := hPre_finite_queries)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_places (hKernel5Ideal := hKernel5Ideal) (hReference5Ideal := hReference5Ideal) (hPre_places := hPre_places)
    ∧ preserves_Kernel6_Kernel6Ideal
    ∧ algebraic_Kernel6Ideal_Reference6Ideal_pre_routed (hKernel6Ideal := hKernel6Ideal) (hReference6Ideal := hReference6Ideal) (hPre_routed := hPre_routed)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_queries (hKernel8Ideal := hKernel8Ideal) (hReference8Ideal := hReference8Ideal) (hPre_finite_queries := hPre_finite_queries)
    ∧ preserves_Kernel9_Kernel9Ideal
    ∧ algebraic_Kernel9Ideal_Reference9Ideal (hKernel9Ideal := hKernel9Ideal) (hReference9Ideal := hReference9Ideal)
-- ==== Pre_finite_queries.lean ====
abbrev S16x4096x544 : Shape := ⟨3, ![16, 4096, 544]⟩
abbrev S16x4096 : Shape := ⟨2, ![16, 4096]⟩
abbrev S256 : Shape := ⟨1, ![256]⟩
abbrev S256x768 : Shape := ⟨2, ![256, 768]⟩
abbrev S256x1024 : Shape := ⟨2, ![256, 1024]⟩
abbrev S256x8x96 : Shape := ⟨3, ![256, 8, 96]⟩
abbrev S256x8x32 : Shape := ⟨3, ![256, 8, 32]⟩
abbrev S16x4096x256 : Shape := ⟨3, ![16, 4096, 256]⟩
abbrev S_ : Shape := ⟨0, ![]⟩

class Facts : Prop where
  shapeCasts_S256x768_S256x8x96 : S256x768.ShapeCasts S256x8x96
  slices_S256x8x96_S256x8x32_0_0_64 : S256x8x96.Slices ![0, 0, 64] S256x8x32
  slices_S16x4096x544_S16x4096x256_0_0_0 : S16x4096x544.Slices ![0, 0, 0] S16x4096x256
  bcast_S_S16x4096x256 : S_.BroadcastsInDim S16x4096x256 (![] : Fin 0 → Fin S16x4096x256.rank)
  bcast_S_S256 : S_.BroadcastsInDim S256 (![] : Fin 0 → Fin S256.rank)
  bcast_S_S256x8x32 : S_.BroadcastsInDim S256x8x32 (![] : Fin 0 → Fin S256x8x32.rank)

variable [Facts]

def fn {F : FTy → Type} [FloatOps F] (main_arg0 : FVec F S16x4096x544 .f32) (main_arg1 : IVec S16x4096 32) (main_arg2 : FVec F S256 .f32) (main_arg3 : FVec F S256x768 .f32) (main_arg4 : FVec F S256 .f32) (main_arg5 : FVec F S256x1024 .f32) : IVec S16x4096x256 1 × IVec S256 1 × IVec S256x8x32 1 :=
  let main_v0 : FVec F S256x8x96 .f32 := shapeCast S256x8x96 main_arg3 shapeCasts_S256x768_S256x8x96
  let main_v1 : FVec F S256x8x32 .f32 := (extractStridedSlice S256x8x32 ![0, 0, 64] · slices_S256x8x96_S256x8x32_0_0_64) main_v0
  let main_v2 : FVec F S16x4096x256 .f32 := (extractStridedSlice S16x4096x256 ![0, 0, 0] · slices_S16x4096x544_S16x4096x256_0_0_0) main_arg0
  let main_v3 : FVec F S16x4096x256 .f32 := Host.absf main_v2
  let main_cst : FVec F S_ .f32 := constant S_ .f32 0x7F800000#32
  let main_v4 : FVec F S16x4096x256 .f32 := broadcastInDim S16x4096x256 ![] bcast_S_S16x4096x256 main_cst
  let main_v5 : IVec S16x4096x256 1 := cmpf .olt main_v3 main_v4
  let main_v6 : FVec F S256 .f32 := Host.absf main_arg2
  let main_cst_0 : FVec F S_ .f32 := constant S_ .f32 0x7F800000#32
  let main_v7 : FVec F S256 .f32 := broadcastInDim S256 ![] bcast_S_S256 main_cst_0
  let main_v8 : IVec S256 1 := cmpf .olt main_v6 main_v7
  let main_v9 : FVec F S256x8x32 .f32 := Host.absf main_v1
  let main_cst_1 : FVec F S_ .f32 := constant S_ .f32 0x7F800000#32
  let main_v10 : FVec F S256x8x32 .f32 := broadcastInDim S256x8x32 ![] bcast_S_S256x8x32 main_cst_1
  let main_v11 : IVec S256x8x32 1 := cmpf .olt main_v9 main_v10
  (main_v5, main_v8, main_v11)
-- ==== Pre_finite_scores.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S_ : Shape := ⟨0, ![]⟩

class Facts : Prop where
  bcast_S_S16x4096x8x64 : S_.BroadcastsInDim S16x4096x8x64 (![] : Fin 0 → Fin S16x4096x8x64.rank)
  bcast_S_S16x4096x8x32 : S_.BroadcastsInDim S16x4096x8x32 (![] : Fin 0 → Fin S16x4096x8x32.rank)
  bcast_S_S16x4096x32 : S_.BroadcastsInDim S16x4096x32 (![] : Fin 0 → Fin S16x4096x32.rank)

variable [Facts]

def fn {F : FTy → Type} [FloatOps F] (main_arg0 : FVec F S16x4096x8x64 .f32) (main_arg1 : FVec F S16x4096x8x32 .f32) (main_arg2 : FVec F S16x4096x8x64 .f32) (main_arg3 : FVec F S16x4096x32 .f32) (main_arg4 : FVec F S16x4096x8x64 .f32) : IVec S16x4096x8x64 1 × IVec S16x4096x8x32 1 × IVec S16x4096x8x64 1 × IVec S16x4096x32 1 :=
  let main_v0 : FVec F S16x4096x8x64 .f32 := Host.absf main_arg0
  let main_cst : FVec F S_ .f32 := constant S_ .f32 0x7F800000#32
  let main_v1 : FVec F S16x4096x8x64 .f32 := broadcastInDim S16x4096x8x64 ![] bcast_S_S16x4096x8x64 main_cst
  let main_v2 : IVec S16x4096x8x64 1 := cmpf .olt main_v0 main_v1
  let main_v3 : FVec F S16x4096x8x32 .f32 := Host.absf main_arg1
  let main_cst_0 : FVec F S_ .f32 := constant S_ .f32 0x7F800000#32
  let main_v4 : FVec F S16x4096x8x32 .f32 := broadcastInDim S16x4096x8x32 ![] bcast_S_S16x4096x8x32 main_cst_0
  let main_v5 : IVec S16x4096x8x32 1 := cmpf .olt main_v3 main_v4
  let main_v6 : FVec F S16x4096x8x64 .f32 := Host.absf main_arg2
  let main_cst_1 : FVec F S_ .f32 := constant S_ .f32 0x7F800000#32
  let main_v7 : FVec F S16x4096x8x64 .f32 := broadcastInDim S16x4096x8x64 ![] bcast_S_S16x4096x8x64 main_cst_1
  let main_v8 : IVec S16x4096x8x64 1 := cmpf .olt main_v6 main_v7
  let main_v9 : FVec F S16x4096x32 .f32 := Host.absf main_arg3
  let main_cst_2 : FVec F S_ .f32 := constant S_ .f32 0x7F800000#32
  let main_v10 : FVec F S16x4096x32 .f32 := broadcastInDim S16x4096x32 ![] bcast_S_S16x4096x32 main_cst_2
  let main_v11 : IVec S16x4096x32 1 := cmpf .olt main_v9 main_v10
  (main_v2, main_v5, main_v8, main_v11)
-- ==== Pre_places.lean ====
abbrev S16x4096x1024 : Shape := ⟨3, ![16, 4096, 1024]⟩
abbrev S65536x1024 : Shape := ⟨2, ![65536, 1024]⟩
abbrev S65536 : Shape := ⟨1, ![65536]⟩
abbrev S1024 : Shape := ⟨1, ![1024]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : FVec F S16x4096x1024 .f32) (main_arg1 : FVec F S65536x1024 .bf16) (main_arg2 : IVec S65536 32) (main_arg3 : FVec F S1024 .f32) : IVec S65536 1 :=
  let main_c : IVec S_ 32 := constantI S_ 32 0#32
  let main_v0 : IVec S65536 32 := broadcastInDim S65536 ![] bcast_S_S65536 main_c
  let main_v1 : IVec S65536 1 := cmpi .sge main_arg2 main_v0
  let main_c_0 : IVec S_ 32 := constantI S_ 32 1024#32
  let main_v2 : IVec S65536 32 := broadcastInDim S65536 ![] bcast_S_S65536 main_c_0
  let main_v3 : IVec S65536 1 := cmpi .slt main_arg2 main_v2
  let main_v4 : IVec S65536 1 := andi main_v1 main_v3
  main_v4
-- ==== Pre_routed.lean ====
abbrev S64x8x128 : Shape := ⟨3, ![64, 8, 128]⟩
abbrev S65536x1024 : Shape := ⟨2, ![65536, 1024]⟩
abbrev S65536x128 : Shape := ⟨2, ![65536, 128]⟩
abbrev S32x1024x256 : Shape := ⟨3, ![32, 1024, 256]⟩
abbrev S32x256x1024 : Shape := ⟨3, ![32, 256, 1024]⟩
abbrev S65536x32 : Shape := ⟨2, ![65536, 32]⟩
abbrev S64x1024x4x8 : Shape := ⟨4, ![64, 1024, 4, 8]⟩
abbrev S64x1x4 : Shape := ⟨3, ![64, 1, 4]⟩
abbrev S64x4 : Shape := ⟨2, ![64, 4]⟩
abbrev S64x1x4x1 : Shape := ⟨4, ![64, 1, 4, 1]⟩
abbrev S_ : Shape := ⟨0, ![]⟩

class Facts : Prop where
  slices_S65536x128_S65536x32_0_4 : S65536x128.Slices ![0, 4] S65536x32
  shapeCasts_S65536x32_S64x1024x4x8 : S65536x32.ShapeCasts S64x1024x4x8
  slices_S64x8x128_S64x1x4_0_0_0 : S64x8x128.Slices ![0, 0, 0] S64x1x4
  shapeCasts_S64x1x4_S64x4 : S64x1x4.ShapeCasts S64x4
  bcast_S64x4_S64x1x4x1_0_2 : S64x4.BroadcastsInDim S64x1x4x1 (![0, 2] : Fin 2 → Fin S64x1x4x1.rank)
  slices_S64x8x128_S64x1x4_0_0_1 : S64x8x128.Slices ![0, 0, 1] S64x1x4
  bcast_S_S64x1024x4x8 : S_.BroadcastsInDim S64x1024x4x8 (![] : Fin 0 → Fin S64x1024x4x8.rank)
  bcast_S64x1x4x1_S64x1024x4x8_0_1_2_3 : S64x1x4x1.BroadcastsInDim S64x1024x4x8 (![0, 1, 2, 3] : Fin 4 → Fin S64x1024x4x8.rank)

variable [Facts]

def fn {F : FTy → Type} [FloatOps F] (main_arg0 : IVec S64x8x128 32) (main_arg1 : FVec F S65536x1024 .bf16) (main_arg2 : FVec F S65536x128 .f32) (main_arg3 : FVec F S32x1024x256 .f32) (main_arg4 : FVec F S32x1024x256 .f32) (main_arg5 : FVec F S32x256x1024 .f32) : IVec S64x1024x4x8 1 :=
  let main_v0 : FVec F S65536x32 .f32 := (extractStridedSlice S65536x32 ![0, 4] · slices_S65536x128_S65536x32_0_4) main_arg2
  let main_v1 : FVec F S64x1024x4x8 .f32 := shapeCast S64x1024x4x8 main_v0 shapeCasts_S65536x32_S64x1024x4x8
  let main_v2 : IVec S64x1024x4x8 32 := iotaInDim S64x1024x4x8 32 1
  let main_v3 : IVec S64x1x4 32 := (extractStridedSlice S64x1x4 ![0, 0, 0] · slices_S64x8x128_S64x1x4_0_0_0) main_arg0
  let main_v4 : IVec S64x4 32 := shapeCast S64x4 main_v3 shapeCasts_S64x1x4_S64x4
  let main_v5 : IVec S64x1x4x1 32 := broadcastInDim S64x1x4x1 ![0, 2] bcast_S64x4_S64x1x4x1_0_2 main_v4
  let main_v6 : IVec S64x1x4 32 := (extractStridedSlice S64x1x4 ![0, 0, 1] · slices_S64x8x128_S64x1x4_0_0_1) main_arg0
  let main_v7 : IVec S64x4 32 := shapeCast S64x4 main_v6 shapeCasts_S64x1x4_S64x4
  let main_v8 : IVec S64x1x4x1 32 := broadcastInDim S64x1x4x1 ![0, 2] bcast_S64x4_S64x1x4x1_0_2 main_v7
  let main_cst : FVec F S_ .f32 := constant S_ .f32 0x00000000#32
  let main_v9 : FVec F S64x1024x4x8 .f32 := broadcastInDim S64x1024x4x8 ![] bcast_S_S64x1024x4x8 main_cst
  let main_v10 : IVec S64x1024x4x8 1 := cmpf .oeq main_v1 main_v9
  let main_v11 : IVec S64x1024x4x8 32 := broadcastInDim S64x1024x4x8 ![0, 1, 2, 3] bcast_S64x1x4x1_S64x1024x4x8_0_1_2_3 main_v5
  let main_v12 : IVec S64x1024x4x8 1 := cmpi .sle main_v11 main_v2
  let main_v13 : IVec S64x1024x4x8 32 := broadcastInDim S64x1024x4x8 ![0, 1, 2, 3] bcast_S64x1x4x1_S64x1024x4x8_0_1_2_3 main_v8
  let main_v14 : IVec S64x1024x4x8 1 := cmpi .slt main_v2 main_v13
  let main_v15 : IVec S64x1024x4x8 1 := andi main_v12 main_v14
  let main_v16 : IVec S64x1024x4x8 1 := ori main_v10 main_v15
  main_v16
-- ==== Kernel.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S_ : Shape := ⟨0, ![]⟩
abbrev S16x4096x1x32 : Shape := ⟨4, ![16, 4096, 1, 32]⟩
abbrev S16x4096x8x128 : Shape := ⟨4, ![16, 4096, 8, 128]⟩
abbrev S16x4096x8x1 : Shape := ⟨4, ![16, 4096, 8, 1]⟩
abbrev S16x4096x8x63 : Shape := ⟨4, ![16, 4096, 8, 63]⟩
abbrev S16x8x4096x128 : Shape := ⟨4, ![16, 8, 4096, 128]⟩
abbrev S16x4096x512 : Shape := ⟨3, ![16, 4096, 512]⟩
abbrev S1x2x4096x128 : Shape := ⟨4, ![1, 2, 4096, 128]⟩
abbrev S1x4096x128 : Shape := ⟨3, ![1, 4096, 128]⟩
abbrev S1x1x256x128 : Shape := ⟨4, ![1, 1, 256, 128]⟩
abbrev S256x128 : Shape := ⟨2, ![256, 128]⟩
abbrev S1x1x4096x128 : Shape := ⟨4, ![1, 1, 4096, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩
abbrev S1x256x128 : Shape := ⟨3, ![1, 256, 128]⟩

abbrev nBuf : Space → Nat
  | .hbm => 26
  | .vmem => 8
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x32, .f32⟩
  | .hbm, ⟨2, _⟩ => ⟨S16x4096x8x64, .f32⟩
  | .hbm, ⟨3, _⟩ => ⟨S16x4096x32, .f32⟩
  | .hbm, ⟨4, _⟩ => ⟨S16x4096x8x64, .f32⟩
  | .hbm, ⟨5, _⟩ => ⟨S_, .f32⟩
  | .hbm, ⟨6, _⟩ => ⟨S16x4096x8x32, .f32⟩
  | .hbm, ⟨7, _⟩ => ⟨S16x4096x1x32, .f32⟩
  | .hbm, ⟨8, _⟩ => ⟨S16x4096x8x32, .f32⟩
  | .hbm, ⟨9, _⟩ => ⟨S16x4096x8x128, .f32⟩
  | .hbm, ⟨10, _⟩ => ⟨S_, .f32⟩
  | .hbm, ⟨11, _⟩ => ⟨S16x4096x8x128, .f32⟩
  | .hbm, ⟨12, _⟩ => ⟨S16x4096x8x128, .f32⟩
  | .hbm, ⟨13, _⟩ => ⟨S16x4096x8x128, .f32⟩
  | .hbm, ⟨14, _⟩ => ⟨S_, .f32⟩
  | .hbm, ⟨15, _⟩ => ⟨S16x4096x8x1, .f32⟩
  | .hbm, ⟨16, _⟩ => ⟨S_, .f32⟩
  | .hbm, ⟨17, _⟩ => ⟨S16x4096x8x63, .f32⟩
  | .hbm, ⟨18, _⟩ => ⟨S16x4096x8x128, .f32⟩
  | .hbm, ⟨19, _⟩ => ⟨S16x8x4096x128, .f32⟩
  | .hbm, ⟨20, _⟩ => ⟨S16x8x4096x128, .bf16⟩
  | .hbm, ⟨21, _⟩ => ⟨S16x8x4096x128, .f32⟩
  | .hbm, ⟨22, _⟩ => ⟨S16x8x4096x128, .bf16⟩
  | .hbm, ⟨23, _⟩ => ⟨S16x8x4096x128, .f32⟩
  | .hbm, ⟨24, _⟩ => ⟨S16x8x4096x128, .bf16⟩
  | .hbm, ⟨25, _⟩ => ⟨S16x4096x512, .f32⟩
  | .local _ .vmem, ⟨0, _⟩ => ⟨S1x2x4096x128, .bf16⟩
  | .local _ .vmem, ⟨1, _⟩ => ⟨S1x2x4096x128, .bf16⟩
  | .local _ .vmem, ⟨2, _⟩ => ⟨S1x2x4096x128, .bf16⟩
  | .local _ .vmem, ⟨3, _⟩ => ⟨S1x2x4096x128, .bf16⟩
  | .local _ .vmem, ⟨4, _⟩ => ⟨S1x2x4096x128, .bf16⟩
  | .local _ .vmem, ⟨5, _⟩ => ⟨S1x2x4096x128, .bf16⟩
  | .local _ .vmem, ⟨6, _⟩ => ⟨S1x4096x128, .f32⟩
  | .local _ .vmem, ⟨7, _⟩ => ⟨S1x4096x128, .f32⟩
  | _, _ => ⟨S16x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  v1
def k0_off1 (k0_t1 : Fin k0_t1_loop.trips) : Fin 4 → Nat :=
  let c0 : Index := 0#32
  let c0_1 : Index := 0#32
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  let v2 : BitVec 32 := v1
  let v3 : Index := Scalar.indexCast v2
  let c0_2 : Index := 0#32
  ![0, 0, v3.toNat, 0]
def k0_off2 (k0_t1 : Fin k0_t1_loop.trips) : Fin 4 → Nat :=
  let c0_13 : Index := 0#32
  let c1 : Index := 1#32
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  let v2 : BitVec 32 := v1
  let v21 : Index := Scalar.indexCast v2
  let c0_14 : Index := 0#32
  ![0, 1, v21.toNat, 0]
def k0_off3 (k0_t1 : Fin k0_t1_loop.trips) : Fin 3 → Nat :=
  let c0_27 : Index := 0#32
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  let v2 : BitVec 32 := v1
  let v44 : Index := Scalar.indexCast v2
  let c0_28 : Index := 0#32
  ![0, v44.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S16x8x4096x4096 : Shape := ⟨4, ![16, 8, 4096, 4096]⟩
abbrev S16x4096x4096x8 : Shape := ⟨4, ![16, 4096, 4096, 8]⟩
abbrev S_ : Shape := ⟨0, ![]⟩
abbrev S16x8x4096 : Shape := ⟨3, ![16, 8, 4096]⟩
abbrev S16x8x4096x1 : Shape := ⟨4, ![16, 8, 4096, 1]⟩
abbrev S16x8x64x4096 : Shape := ⟨4, ![16, 8, 64, 4096]⟩
abbrev S16x4096x512 : Shape := ⟨3, ![16, 4096, 512]⟩

abbrev nBuf : Space → Nat
  | .hbm => 29
  | .vmem => 0
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x32, .f32⟩
  | .hbm, ⟨2, _⟩ => ⟨S16x4096x8x64, .f32⟩
  | .hbm, ⟨3, _⟩ => ⟨S16x4096x32, .f32⟩
  | .hbm, ⟨4, _⟩ => ⟨S16x4096x8x64, .f32⟩
  | .hbm, ⟨5, _⟩ => ⟨S16x8x4096x4096, .f32⟩
  | .hbm, ⟨6, _⟩ => ⟨S16x4096x4096x8, .f32⟩
  | .hbm, ⟨7, _⟩ => ⟨S16x8x4096x4096, .f32⟩
  | .hbm, ⟨8, _⟩ => ⟨S16x8x4096x4096, .f32⟩
  | .hbm, ⟨9, _⟩ => ⟨S_, .f32⟩
  | .hbm, ⟨10, _⟩ => ⟨S16x8x4096x4096, .f32⟩
  | .hbm, ⟨11, _⟩ => ⟨S16x8x4096x4096, .f32⟩
  | .hbm, ⟨12, _⟩ => ⟨S_, .f32⟩
  | .hbm, ⟨13, _⟩ => ⟨S16x8x4096, .f32⟩
  | .hbm, ⟨14, _⟩ => ⟨S_, .f32⟩
  | .hbm, ⟨15, _⟩ => ⟨S16x8x4096, .f32⟩
  | .hbm, ⟨16, _⟩ => ⟨S16x8x4096, .f32⟩
  | .hbm, ⟨17, _⟩ => ⟨S16x8x4096x1, .f32⟩
  | .hbm, ⟨18, _⟩ => ⟨S16x8x4096x4096, .f32⟩
  | .hbm, ⟨19, _⟩ => ⟨S16x8x4096x4096, .f32⟩
  | .hbm, ⟨20, _⟩ => ⟨S16x8x4096x4096, .f32⟩
  | .hbm, ⟨21, _⟩ => ⟨S_, .f32⟩
  | .hbm, ⟨22, _⟩ => ⟨S16x8x4096, .f32⟩
  | .hbm, ⟨23, _⟩ => ⟨S16x8x4096x1, .f32⟩
  | .hbm, ⟨24, _⟩ => ⟨S16x8x4096x4096, .f32⟩
  | .hbm, ⟨25, _⟩ => ⟨S16x8x4096x4096, .f32⟩
  | .hbm, ⟨26, _⟩ => ⟨S16x8x64x4096, .f32⟩
  | .hbm, ⟨27, _⟩ => ⟨S16x4096x8x64, .f32⟩
  | .hbm, ⟨28, _⟩ => ⟨S16x4096x512, .f32⟩
  | _, _ => ⟨S16x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S16x4096x1024 : Shape := ⟨3, ![16, 4096, 1024]⟩
abbrev S1024 : Shape := ⟨1, ![1024]⟩
abbrev S1024x8224 : Shape := ⟨2, ![1024, 8224]⟩
abbrev S65536x1024 : Shape := ⟨2, ![65536, 1024]⟩
abbrev S1x1024 : Shape := ⟨2, ![1, 1024]⟩
abbrev S1024x32 : Shape := ⟨2, ![1024, 32]⟩
abbrev S1024x16 : Shape := ⟨2, ![1024, 16]⟩
abbrev S_ : Shape := ⟨0, ![]⟩
abbrev S1024x64 : Shape := ⟨2, ![1024, 64]⟩
abbrev S1024x4096 : Shape := ⟨2, ![1024, 4096]⟩
abbrev S1024x1536 : Shape := ⟨2, ![1024, 1536]⟩
abbrev S1024x512 : Shape := ⟨2, ![1024, 512]⟩
abbrev S1024x256 : Shape := ⟨2, ![1024, 256]⟩
abbrev S1024x8448 : Shape := ⟨2, ![1024, 8448]⟩
abbrev S65536x8448 : Shape := ⟨2, ![65536, 8448]⟩
abbrev S1024x1024 : Shape := ⟨2, ![1024, 1024]⟩
abbrev S1024x2816 : Shape := ⟨2, ![1024, 2816]⟩
abbrev S1024x1 : Shape := ⟨2, ![1024, 1]⟩

abbrev nBuf : Space → Nat
  | .hbm => 23
  | .vmem => 8
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x8224, .f32⟩
  | .hbm, ⟨3, _⟩ => ⟨S65536x1024, .f32⟩
  | .hbm, ⟨4, _⟩ => ⟨S1x1024, .f32⟩
  | .hbm, ⟨5, _⟩ => ⟨S1024x32, .f32⟩
  | .hbm, ⟨6, _⟩ => ⟨S1024x16, .f32⟩
  | .hbm, ⟨7, _⟩ => ⟨S1024x16, .f32⟩
  | .hbm, ⟨8, _⟩ => ⟨S1024x16, .f32⟩
  | .hbm, ⟨9, _⟩ => ⟨S1024x32, .f32⟩
  | .hbm, ⟨10, _⟩ => ⟨S_, .f32⟩
  | .hbm, ⟨11, _⟩ => ⟨S1024x64, .f32⟩
  | .hbm, ⟨12, _⟩ => ⟨S_, .f32⟩
  | .hbm, ⟨13, _⟩ => ⟨S1024x32, .f32⟩
  | .hbm, ⟨14, _⟩ => ⟨S1024x4096, .f32⟩
  | .hbm, ⟨15, _⟩ => ⟨S1024x1536, .f32⟩
  | .hbm, ⟨16, _⟩ => ⟨S1024x1536, .f32⟩
  | .hbm, ⟨17, _⟩ => ⟨S1024x512, .f32⟩
  | .hbm, ⟨18, _⟩ => ⟨S1024x256, .f32⟩
  | .hbm, ⟨19, _⟩ => ⟨S1024x256, .f32⟩
  | .hbm, ⟨20, _⟩ => ⟨S1024x8448, .f32⟩
  | .hbm, ⟨21, _⟩ => ⟨S1024x8448, .bf16⟩
  | .hbm, ⟨22, _⟩ => ⟨S65536x8448, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .bf16⟩
  | .local _ .vmem, ⟨7, _⟩ => ⟨S1024x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16x4096x1024 : Shape := ⟨3, ![16, 4096, 1024]⟩
abbrev S1024 : Shape := ⟨1, ![1024]⟩
abbrev S1024x8224 : Shape := ⟨2, ![1024, 8224]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S65536x1024 : Shape := ⟨2, ![65536, 1024]⟩
abbrev S65536x8224 : Shape := ⟨2, ![65536, 8224]⟩
abbrev S65536x1536 : Shape := ⟨2, ![65536, 1536]⟩
abbrev S65536x512 : Shape := ⟨2, ![65536, 512]⟩
abbrev S65536x544 : Shape := ⟨2, ![65536, 544]⟩
abbrev S65536x4096 : Shape := ⟨2, ![65536, 4096]⟩
abbrev S1024x32 : Shape := ⟨2, ![1024, 32]⟩
abbrev S1024x16 : Shape := ⟨2, ![1024, 16]⟩
abbrev S65536x32 : Shape := ⟨2, ![65536, 32]⟩
abbrev S65536x64 : Shape := ⟨2, ![65536, 64]⟩
abbrev S65536x8448 : Shape := ⟨2, ![65536, 8448]⟩

abbrev nBuf : Space → Nat
  | .hbm => 40
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x8224, .f32⟩
  | .hbm, ⟨3, _⟩ => ⟨S16x4096x1024, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S16x4096x1, .f32⟩
  | .hbm, ⟨14, _⟩ => ⟨S16x4096x1024, .f32⟩
  | .hbm, ⟨15, _⟩ => ⟨S16x4096x1024, .f32⟩
  | .hbm, ⟨16, _⟩ => ⟨S1x1x1024, .f32⟩
  | .hbm, ⟨17, _⟩ => ⟨S16x4096x1024, .f32⟩
  | .hbm, ⟨18, _⟩ => ⟨S16x4096x1024, .f32⟩
  | .hbm, ⟨19, _⟩ => ⟨S65536x1024, .f32⟩
  | .hbm, ⟨20, _⟩ => ⟨S65536x8224, .f32⟩
  | .hbm, ⟨21, _⟩ => ⟨S65536x1536, .f32⟩
  | .hbm, ⟨22, _⟩ => ⟨S65536x512, .f32⟩
  | .hbm, ⟨23, _⟩ => ⟨S65536x544, .f32⟩
  | .hbm, ⟨24, _⟩ => ⟨S65536x1536, .f32⟩
  | .hbm, ⟨25, _⟩ => ⟨S65536x4096, .f32⟩
  | .hbm, ⟨26, _⟩ => ⟨S1024x32, .f32⟩
  | .hbm, ⟨27, _⟩ => ⟨S1024x16, .f32⟩
  | .hbm, ⟨28, _⟩ => ⟨S1024x16, .f32⟩
  | .hbm, ⟨29, _⟩ => ⟨S1024x16, .f32⟩
  | .hbm, ⟨30, _⟩ => ⟨S1024x32, .f32⟩
  | .hbm, ⟨31, _⟩ => ⟨S65536x32, .f32⟩
  | .hbm, ⟨32, _⟩ => ⟨S65536x512, .f32⟩
  | .hbm, ⟨33, _⟩ => ⟨S65536x32, .f32⟩
  | .hbm, ⟨34, _⟩ => ⟨S_, .f32⟩
  | .hbm, ⟨35, _⟩ => ⟨S65536x64, .f32⟩
  | .hbm, ⟨36, _⟩ => ⟨S_, .f32⟩
  | .hbm, ⟨37, _⟩ => ⟨S65536x32, .f32⟩
  | .hbm, ⟨38, _⟩ => ⟨S65536x8448, .f32⟩
  | .hbm, ⟨39, _⟩ => ⟨S65536x8448, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x4096x8448 : Shape := ⟨3, ![16, 4096, 8448]⟩
abbrev S16x4096x512 : Shape := ⟨3, ![16, 4096, 512]⟩
abbrev S4x1024 : Shape := ⟨2, ![4, 1024]⟩
abbrev S512x1024 : Shape := ⟨2, ![512, 1024]⟩
abbrev S512x2048 : Shape := ⟨2, ![512, 2048]⟩
abbrev S1024x1024 : Shape := ⟨2, ![1024, 1024]⟩
abbrev S1x512x1024 : Shape := ⟨3, ![1, 512, 1024]⟩
abbrev S1x512x4096 : Shape := ⟨3, ![1, 512, 4096]⟩
abbrev S1x512x512 : Shape := ⟨3, ![1, 512, 512]⟩
abbrev S512x512 : Shape := ⟨2, ![512, 512]⟩
abbrev S1x1024 : Shape := ⟨2, ![1, 1024]⟩

abbrev nBuf : Space → Nat
  | .hbm => 18
  | .vmem => 20
  | .smem => 0
  | _ => 0

abbrev bufTy : (tb : Table) → Fin (tcTables nBuf tb) → BufTy
  | .hbm, ⟨0, _⟩ => ⟨S16x4096x1024, .f32⟩
  | .hbm, ⟨1, _⟩ => ⟨S16x4096x8448, .bf16⟩
  | .hbm, ⟨2, _⟩ => ⟨S16x4096x512, .f32⟩
  | .hbm, ⟨3, _⟩ => ⟨S16x4096x512, .f32⟩
  | .hbm, ⟨4, _⟩ => ⟨S16x4096x512, .f32⟩
  | .hbm, ⟨5, _⟩ => ⟨S16x4096x512, .f32⟩
  | .hbm, ⟨6, _⟩ => ⟨S4x1024, .f32⟩
  | .hbm, ⟨7, _⟩ => ⟨S512x1024, .f32⟩
  | .hbm, ⟨8, _⟩ => ⟨S512x2048, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S512x1024, .bf16⟩
  | .hbm, ⟨13, _⟩ => ⟨S512x2048, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x4096, .bf16⟩
  | .local _ .vmem, ⟨3, _⟩ => ⟨S1x512x4096, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S4x1024, .f32⟩
  | .local _ .vmem, ⟨13, _⟩ => ⟨S512x1024, .bf16⟩
  | .local _ .vmem, ⟨14, _⟩ => ⟨S512x2048, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x512x1024, .f32⟩
  | .local _ .vmem, ⟨19, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S16x4096x1024 : Shape := ⟨3, ![16, 4096, 1024]⟩
abbrev S16x4096x8448 : Shape := ⟨3, ![16, 4096, 8448]⟩
abbrev S16x4096x512 : Shape := ⟨3, ![16, 4096, 512]⟩
abbrev S4x1024 : Shape := ⟨2, ![4, 1024]⟩
abbrev S512x1024 : Shape := ⟨2, ![512, 1024]⟩
abbrev S512x2048 : Shape := ⟨2, ![512, 2048]⟩
abbrev S1024x1024 : Shape := ⟨2, ![1024, 1024]⟩
abbrev S_ : Shape := ⟨0, ![]⟩
abbrev S16x4096x2048 : Shape := ⟨3, ![16, 4096, 2048]⟩
abbrev S16x4096x4096 : Shape := ⟨3, ![16, 4096, 4096]⟩
abbrev S16x4096x4x1024 : Shape := ⟨4, ![16, 4096, 4, 1024]⟩
abbrev S1x1x4x1024 : Shape := ⟨4, ![1, 1, 4, 1024]⟩
abbrev S16x4096x1x1024 : Shape := ⟨4, ![16, 4096, 1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x8448, .bf16⟩
  | .hbm, ⟨2, _⟩ => ⟨S16x4096x512, .f32⟩
  | .hbm, ⟨3, _⟩ => ⟨S16x4096x512, .f32⟩
  | .hbm, ⟨4, _⟩ => ⟨S16x4096x512, .f32⟩
  | .hbm, ⟨5, _⟩ => ⟨S16x4096x512, .f32⟩
  | .hbm, ⟨6, _⟩ => ⟨S4x1024, .f32⟩
  | .hbm, ⟨7, _⟩ => ⟨S512x1024, .f32⟩
  | .hbm, ⟨8, _⟩ => ⟨S512x2048, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S16x4096x1024, .f32⟩
  | .hbm, ⟨13, _⟩ => ⟨S16x4096x512, .f32⟩
  | .hbm, ⟨14, _⟩ => ⟨S16x4096x512, .f32⟩
  | .hbm, ⟨15, _⟩ => ⟨S_, .f32⟩
  | .hbm, ⟨16, _⟩ => ⟨S16x4096x512, .f32⟩
  | .hbm, ⟨17, _⟩ => ⟨S16x4096x512, .f32⟩
  | .hbm, ⟨18, _⟩ => ⟨S16x4096x512, .f32⟩
  | .hbm, ⟨19, _⟩ => ⟨S_, .f32⟩
  | .hbm, ⟨20, _⟩ => ⟨S16x4096x512, .f32⟩
  | .hbm, ⟨21, _⟩ => ⟨S16x4096x512, .f32⟩
  | .hbm, ⟨22, _⟩ => ⟨S16x4096x512, .f32⟩
  | .hbm, ⟨23, _⟩ => ⟨S_, .f32⟩
  | .hbm, ⟨24, _⟩ => ⟨S16x4096x512, .f32⟩
  | .hbm, ⟨25, _⟩ => ⟨S16x4096x512, .f32⟩
  | .hbm, ⟨26, _⟩ => ⟨S_, .f32⟩
  | .hbm, ⟨27, _⟩ => ⟨S16x4096x512, .f32⟩
  | .hbm, ⟨28, _⟩ => ⟨S16x4096x512, .f32⟩
  | .hbm, ⟨29, _⟩ => ⟨S16x4096x512, .f32⟩
  | .hbm, ⟨30, _⟩ => ⟨S16x4096x2048, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S_, .f32⟩
  | .hbm, ⟨36, _⟩ => ⟨S16x4096x1024, .f32⟩
  | .hbm, ⟨37, _⟩ => ⟨S16x4096x1024, .f32⟩
  | .hbm, ⟨38, _⟩ => ⟨S_, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S16x4096x1024, .f32⟩
  | .hbm, ⟨43, _⟩ => ⟨S16x4096x1024, .f32⟩
  | .hbm, ⟨44, _⟩ => ⟨S16x4096x4096, .bf16⟩
  | .hbm, ⟨45, _⟩ => ⟨S16x4096x4096, .f32⟩
  | .hbm, ⟨46, _⟩ => ⟨S16x4096x4x1024, .f32⟩
  | .hbm, ⟨47, _⟩ => ⟨S1x1x4x1024, .f32⟩
  | .hbm, ⟨48, _⟩ => ⟨S16x4096x4x1024, .f32⟩
  | .hbm, ⟨49, _⟩ => ⟨S16x4096x4x1024, .f32⟩
  | .hbm, ⟨50, _⟩ => ⟨S16x4096x4x1024, .f32⟩
  | .hbm, ⟨51, _⟩ => ⟨S16x4096x4x1024, .f32⟩
  | .hbm, ⟨52, _⟩ => ⟨S_, .f32⟩
  | .hbm, ⟨53, _⟩ => ⟨S16x4096x4x1024, .f32⟩
  | .hbm, ⟨54, _⟩ => ⟨S16x4096x4x1024, .f32⟩
  | .hbm, ⟨55, _⟩ => ⟨S_, .f32⟩
  | .hbm, ⟨56, _⟩ => ⟨S16x4096x4x1024, .f32⟩
  | .hbm, ⟨57, _⟩ => ⟨S16x4096x4x1024, .f32⟩
  | .hbm, ⟨58, _⟩ => ⟨S16x4096x1x1024, .f32⟩
  | .hbm, ⟨59, _⟩ => ⟨S16x4096x1024, .f32⟩
  | .hbm, ⟨60, _⟩ => ⟨S16x4096x1024, .f32⟩
  | .hbm, ⟨61, _⟩ => ⟨S16x4096x1x1024, .f32⟩
  | .hbm, ⟨62, _⟩ => ⟨S16x4096x1024, .f32⟩
  | .hbm, ⟨63, _⟩ => ⟨S16x4096x1024, .f32⟩
  | .hbm, ⟨64, _⟩ => ⟨S16x4096x1024, .f32⟩
  | .hbm, ⟨65, _⟩ => ⟨S16x4096x1x1024, .f32⟩
  | .hbm, ⟨66, _⟩ => ⟨S16x4096x1024, .f32⟩
  | .hbm, ⟨67, _⟩ => ⟨S16x4096x1024, .f32⟩
  | .hbm, ⟨68, _⟩ => ⟨S16x4096x1024, .f32⟩
  | .hbm, ⟨69, _⟩ => ⟨S16x4096x1x1024, .f32⟩
  | .hbm, ⟨70, _⟩ => ⟨S16x4096x1024, .f32⟩
  | .hbm, ⟨71, _⟩ => ⟨S16x4096x1024, .f32⟩
  | .hbm, ⟨72, _⟩ => ⟨S16x4096x1024, .f32⟩
  | .hbm, ⟨73, _⟩ => ⟨S16x4096x1024, .f32⟩
  | .hbm, ⟨74, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel4.lean ====
abbrev S16x4096x1024 : Shape := ⟨3, ![16, 4096, 1024]⟩
abbrev S16x256x1024 : Shape := ⟨3, ![16, 256, 1024]⟩
abbrev S1024 : Shape := ⟨1, ![1024]⟩
abbrev S1024x512 : Shape := ⟨2, ![1024, 512]⟩
abbrev S512x1024 : Shape := ⟨2, ![512, 1024]⟩
abbrev S1x1024 : Shape := ⟨2, ![1, 1024]⟩
abbrev S1x512x1024 : Shape := ⟨3, ![1, 512, 1024]⟩
abbrev S1x256x1024 : Shape := ⟨3, ![1, 256, 1024]⟩
abbrev S512 : Shape := ⟨1, ![512]⟩
abbrev S512x1 : Shape := ⟨2, ![512, 1]⟩
abbrev S512x512 : Shape := ⟨2, ![512, 512]⟩
abbrev S1x256x128 : Shape := ⟨3, ![1, 256, 128]⟩
abbrev S256x128 : Shape := ⟨2, ![256, 128]⟩
abbrev S512x128 : Shape := ⟨2, ![512, 128]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S16x4096x1024, .f32⟩
  | .hbm, ⟨1, _⟩ => ⟨S16x256x1024, .bf16⟩
  | .hbm, ⟨2, _⟩ => ⟨S1024, .f32⟩
  | .hbm, ⟨3, _⟩ => ⟨S1024x512, .f32⟩
  | .hbm, ⟨4, _⟩ => ⟨S512x1024, .f32⟩
  | .hbm, ⟨5, _⟩ => ⟨S1x1024, .f32⟩
  | .hbm, ⟨6, _⟩ => ⟨S1024x512, .bf16⟩
  | .hbm, ⟨7, _⟩ => ⟨S512x1024, .bf16⟩
  | .hbm, ⟨8, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x256x1024, .bf16⟩
  | .local _ .vmem, ⟨4, _⟩ => ⟨S1x256x1024, .bf16⟩
  | .local _ .vmem, ⟨5, _⟩ => ⟨S1024x512, .bf16⟩
  | .local _ .vmem, ⟨6, _⟩ => ⟨S512x1024, .bf16⟩
  | .local _ .vmem, ⟨7, _⟩ => ⟨S1x512x1024, .f32⟩
  | .local _ .vmem, ⟨8, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16x4096x1024 : Shape := ⟨3, ![16, 4096, 1024]⟩
abbrev S16x256x1024 : Shape := ⟨3, ![16, 256, 1024]⟩
abbrev S1024 : Shape := ⟨1, ![1024]⟩
abbrev S1024x512 : Shape := ⟨2, ![1024, 512]⟩
abbrev S512x1024 : Shape := ⟨2, ![512, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x512 : Shape := ⟨3, ![16, 4096, 512]⟩
abbrev S16x4096x4x128 : Shape := ⟨4, ![16, 4096, 4, 128]⟩
abbrev S16x256x4x256 : Shape := ⟨4, ![16, 256, 4, 256]⟩
abbrev S16x256x4x128 : Shape := ⟨4, ![16, 256, 4, 128]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x128x4096 : Shape := ⟨4, ![16, 4, 128, 4096]⟩

abbrev nBuf : Space → Nat
  | .hbm => 50
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x256x1024, .bf16⟩
  | .hbm, ⟨2, _⟩ => ⟨S1024, .f32⟩
  | .hbm, ⟨3, _⟩ => ⟨S1024x512, .f32⟩
  | .hbm, ⟨4, _⟩ => ⟨S512x1024, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S16x4096x512, .f32⟩
  | .hbm, ⟨22, _⟩ => ⟨S16x4096x4x128, .f32⟩
  | .hbm, ⟨23, _⟩ => ⟨S16x256x1024, .f32⟩
  | .hbm, ⟨24, _⟩ => ⟨S16x256x4x256, .f32⟩
  | .hbm, ⟨25, _⟩ => ⟨S16x256x4x128, .f32⟩
  | .hbm, ⟨26, _⟩ => ⟨S16x256x4x128, .f32⟩
  | .hbm, ⟨27, _⟩ => ⟨S16x4x4096x256, .f32⟩
  | .hbm, ⟨28, _⟩ => ⟨S_, .f32⟩
  | .hbm, ⟨29, _⟩ => ⟨S16x4x4096x256, .f32⟩
  | .hbm, ⟨30, _⟩ => ⟨S16x4x4096x256, .f32⟩
  | .hbm, ⟨31, _⟩ => ⟨S_, .f32⟩
  | .hbm, ⟨32, _⟩ => ⟨S16x4x4096, .f32⟩
  | .hbm, ⟨33, _⟩ => ⟨S_, .f32⟩
  | .hbm, ⟨34, _⟩ => ⟨S16x4x4096, .f32⟩
  | .hbm, ⟨35, _⟩ => ⟨S16x4x4096, .f32⟩
  | .hbm, ⟨36, _⟩ => ⟨S16x4x4096x1, .f32⟩
  | .hbm, ⟨37, _⟩ => ⟨S16x4x4096x256, .f32⟩
  | .hbm, ⟨38, _⟩ => ⟨S16x4x4096x256, .f32⟩
  | .hbm, ⟨39, _⟩ => ⟨S16x4x4096x256, .f32⟩
  | .hbm, ⟨40, _⟩ => ⟨S_, .f32⟩
  | .hbm, ⟨41, _⟩ => ⟨S16x4x4096, .f32⟩
  | .hbm, ⟨42, _⟩ => ⟨S16x4x4096x1, .f32⟩
  | .hbm, ⟨43, _⟩ => ⟨S16x4x4096x256, .f32⟩
  | .hbm, ⟨44, _⟩ => ⟨S16x4x4096x256, .f32⟩
  | .hbm, ⟨45, _⟩ => ⟨S16x4x128x4096, .f32⟩
  | .hbm, ⟨46, _⟩ => ⟨S16x4096x4x128, .f32⟩
  | .hbm, ⟨47, _⟩ => ⟨S16x4096x512, .f32⟩
  | .hbm, ⟨48, _⟩ => ⟨S16x4096x1024, .f32⟩
  | .hbm, ⟨49, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel5.lean ====
abbrev S16x4096x1024 : Shape := ⟨3, ![16, 4096, 1024]⟩
abbrev S65536x1024 : Shape := ⟨2, ![65536, 1024]⟩
abbrev S65536 : Shape := ⟨1, ![65536]⟩
abbrev S1024 : Shape := ⟨1, ![1024]⟩
abbrev S65536x1 : Shape := ⟨2, ![65536, 1]⟩
abbrev S65536x128 : Shape := ⟨2, ![65536, 128]⟩
abbrev S1x1024 : Shape := ⟨2, ![1, 1024]⟩
abbrev S1024x1024 : Shape := ⟨2, ![1024, 1024]⟩
abbrev S1024x128 : Shape := ⟨2, ![1024, 128]⟩
abbrev S1024x1 : Shape := ⟨2, ![1024, 1]⟩

abbrev nBuf : Space → Nat
  | .hbm => 10
  | .vmem => 9
  | .smem => 0
  | _ => 0

abbrev bufTy : (tb : Table) → Fin (tcTables nBuf tb) → BufTy
  | .hbm, ⟨0, _⟩ => ⟨S16x4096x1024, .f32⟩
  | .hbm, ⟨1, _⟩ => ⟨S65536x1024, .bf16⟩
  | .hbm, ⟨2, _⟩ => ⟨S65536, .i32⟩
  | .hbm, ⟨3, _⟩ => ⟨S1024, .f32⟩
  | .hbm, ⟨4, _⟩ => ⟨S65536, .f32⟩
  | .hbm, ⟨5, _⟩ => ⟨S65536x1, .f32⟩
  | .hbm, ⟨6, _⟩ => ⟨S65536x128, .f32⟩
  | .hbm, ⟨7, _⟩ => ⟨S65536x1024, .f32⟩
  | .hbm, ⟨8, _⟩ => ⟨S1x1024, .f32⟩
  | .hbm, ⟨9, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16x4096x1024 : Shape := ⟨3, ![16, 4096, 1024]⟩
abbrev S65536x1024 : Shape := ⟨2, ![65536, 1024]⟩
abbrev S65536 : Shape := ⟨1, ![65536]⟩
abbrev S1024 : Shape := ⟨1, ![1024]⟩
abbrev S64x1024x1024 : Shape := ⟨3, ![64, 1024, 1024]⟩
abbrev S64x1024x1 : Shape := ⟨3, ![64, 1024, 1]⟩
abbrev S_ : Shape := ⟨0, ![]⟩
abbrev S1 : Shape := ⟨1, ![1]⟩
abbrev S1x1x1 : Shape := ⟨3, ![1, 1, 1]⟩
abbrev S64x1024 : Shape := ⟨2, ![64, 1024]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S65536x1024, .bf16⟩
  | .hbm, ⟨2, _⟩ => ⟨S65536, .i32⟩
  | .hbm, ⟨3, _⟩ => ⟨S1024, .f32⟩
  | .hbm, ⟨4, _⟩ => ⟨S65536x1024, .f32⟩
  | .hbm, ⟨5, _⟩ => ⟨S64x1024x1024, .f32⟩
  | .hbm, ⟨6, _⟩ => ⟨S64x1024x1, .i32⟩
  | .hbm, ⟨7, _⟩ => ⟨S_, .i32⟩
  | .hbm, ⟨8, _⟩ => ⟨S64x1024x1, .i32⟩
  | .hbm, ⟨9, _⟩ => ⟨S64x1024x1, .i1⟩
  | .hbm, ⟨10, _⟩ => ⟨S_, .i32⟩
  | .hbm, ⟨11, _⟩ => ⟨S64x1024x1, .i32⟩
  | .hbm, ⟨12, _⟩ => ⟨S64x1024x1, .i32⟩
  | .hbm, ⟨13, _⟩ => ⟨S64x1024x1, .i32⟩
  | .hbm, ⟨14, _⟩ => ⟨S1, .i32⟩
  | .hbm, ⟨15, _⟩ => ⟨S_, .i32⟩
  | .hbm, ⟨16, _⟩ => ⟨S64x1024x1, .i32⟩
  | .hbm, ⟨17, _⟩ => ⟨S64x1024x1, .i1⟩
  | .hbm, ⟨18, _⟩ => ⟨S1x1x1, .i32⟩
  | .hbm, ⟨19, _⟩ => ⟨S64x1024x1, .i32⟩
  | .hbm, ⟨20, _⟩ => ⟨S64x1024x1, .i1⟩
  | .hbm, ⟨21, _⟩ => ⟨S64x1024x1, .i1⟩
  | .hbm, ⟨22, _⟩ => ⟨S_, .i1⟩
  | .hbm, ⟨23, _⟩ => ⟨S64x1024, .i1⟩
  | .hbm, ⟨24, _⟩ => ⟨S64x1024x1024, .f32⟩
  | .hbm, ⟨25, _⟩ => ⟨S64x1024x1024, .i1⟩
  | .hbm, ⟨26, _⟩ => ⟨S_, .f32⟩
  | .hbm, ⟨27, _⟩ => ⟨S64x1024x1024, .f32⟩
  | .hbm, ⟨28, _⟩ => ⟨S64x1024x1024, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S_, .f32⟩
  | .hbm, ⟨36, _⟩ => ⟨S16x4096x1, .f32⟩
  | .hbm, ⟨37, _⟩ => ⟨S16x4096x1, .f32⟩
  | .hbm, ⟨38, _⟩ => ⟨S_, .f32⟩
  | .hbm, ⟨39, _⟩ => ⟨S16x4096x1, .f32⟩
  | .hbm, ⟨40, _⟩ => ⟨S16x4096x1, .f32⟩
  | .hbm, ⟨41, _⟩ => ⟨S16x4096x1, .f32⟩
  | .hbm, ⟨42, _⟩ => ⟨S16x4096x1024, .f32⟩
  | .hbm, ⟨43, _⟩ => ⟨S16x4096x1024, .f32⟩
  | .hbm, ⟨44, _⟩ => ⟨S1x1x1024, .f32⟩
  | .hbm, ⟨45, _⟩ => ⟨S16x4096x1024, .f32⟩
  | .hbm, ⟨46, _⟩ => ⟨S16x4096x1024, .f32⟩
  | .hbm, ⟨47, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩

abbrev nD : Nat := 1
abbrev τ : Topo := Topo.v7x

variable {F : FTy → Type} [FloatOps F]
-- ==== Kernel6.lean ====
abbrev S64x8x128 : Shape := ⟨3, ![64, 8, 128]⟩
abbrev S65536x1024 : Shape := ⟨2, ![65536, 1024]⟩
abbrev S65536x128 : Shape := ⟨2, ![65536, 128]⟩
abbrev S32x1024x256 : Shape := ⟨3, ![32, 1024, 256]⟩
abbrev S32x256x1024 : Shape := ⟨3, ![32, 256, 1024]⟩
abbrev S4x8x1024x256 : Shape := ⟨4, ![4, 8, 1024, 256]⟩
abbrev S4x2048x1024 : Shape := ⟨3, ![4, 2048, 1024]⟩
abbrev S64x1x8 : Shape := ⟨3, ![64, 1, 8]⟩
abbrev S64x8 : Shape := ⟨2, ![64, 8]⟩
abbrev S512 : Shape := ⟨1, ![512]⟩
abbrev S1024x1024 : Shape := ⟨2, ![1024, 1024]⟩
abbrev S1024x128 : Shape := ⟨2, ![1024, 128]⟩
abbrev S1x8x1024x256 : Shape := ⟨4, ![1, 8, 1024, 256]⟩
abbrev S1x2048x1024 : Shape := ⟨3, ![1, 2048, 1024]⟩
abbrev S1 : Shape := ⟨1, ![1]⟩
abbrev S128x1024 : Shape := ⟨2, ![128, 1024]⟩
abbrev S128x128 : Shape := ⟨2, ![128, 128]⟩
abbrev S1x1x1024x256 : Shape := ⟨4, ![1, 1, 1024, 256]⟩
abbrev S1024x256 : Shape := ⟨2, ![1024, 256]⟩
abbrev S128x256 : Shape := ⟨2, ![128, 256]⟩
abbrev S128 : Shape := ⟨1, ![128]⟩
abbrev S128x1 : Shape := ⟨2, ![128, 1]⟩
abbrev S128x2048 : Shape := ⟨2, ![128, 2048]⟩
abbrev S2048x1024 : Shape := ⟨2, ![2048, 1024]⟩

abbrev nBuf : Space → Nat
  | .hbm => 15
  | .vmem => 13
  | .smem => 1
  | _ => 0

abbrev bufTy : (tb : Table) → Fin (tcTables nBuf tb) → BufTy
  | .hbm, ⟨0, _⟩ => ⟨S64x8x128, .i32⟩
  | .hbm, ⟨1, _⟩ => ⟨S65536x1024, .bf16⟩
  | .hbm, ⟨2, _⟩ => ⟨S65536x128, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S32x1024x256, .bf16⟩
  | .hbm, ⟨7, _⟩ => ⟨S4x8x1024x256, .bf16⟩
  | .hbm, ⟨8, _⟩ => ⟨S32x1024x256, .bf16⟩
  | .hbm, ⟨9, _⟩ => ⟨S4x8x1024x256, .bf16⟩
  | .hbm, ⟨10, _⟩ => ⟨S32x256x1024, .bf16⟩
  | .hbm, ⟨11, _⟩ => ⟨S4x2048x1024, .bf16⟩
  | .hbm, ⟨12, _⟩ => ⟨S64x1x8, .i32⟩
  | .hbm, ⟨13, _⟩ => ⟨S64x8, .i32⟩
  | .hbm, ⟨14, _⟩ => ⟨S65536x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1x8x1024x256, .bf16⟩
  | .local _ .vmem, ⟨5, _⟩ => ⟨S1x8x1024x256, .bf16⟩
  | .local _ .vmem, ⟨6, _⟩ => ⟨S1x8x1024x256, .bf16⟩
  | .local _ .vmem, ⟨7, _⟩ => ⟨S1x8x1024x256, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .smem, ⟨0, _⟩ => ⟨S512, .i32⟩
  | _, _ => ⟨S64x8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v9 : Ref sig .tc := ⟨.hbm, 14, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 4], ![false, false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let v5 : Index := Scalar.indexCast v4
  ![v5.toNat]
def k0_off2 (i : grid0.Coords) : Fin 1 → Nat :=
  let arg0 : BitVec 32 := BitVec.ofNat 32 (i 0).val
  let c8_i32_1 : BitVec 32 := 8#32
  let v7 : BitVec 32 := Scalar.muli arg0 c8_i32_1
  let arg1 : BitVec 32 := BitVec.ofNat 32 (i 1).val
  let v8 : BitVec 32 := Scalar.addi v7 arg1
  let c1_i32 : BitVec 32 := 1#32
  let v9 : BitVec 32 := Scalar.addi v8 c1_i32
  let v10 : Index := Scalar.indexCast v9
  ![v10.toNat]
def k0_cond10 (i : grid0.Coords) : BitVec 1 :=
  let arg1 : BitVec 32 := BitVec.ofNat 32 (i 1).val
  let c3_i32 : BitVec 32 := 3#32
  let v52 : BitVec 1 := Scalar.cmpi .eq arg1 c3_i32
  let v53 : BitVec 32 := Scalar.extui v52
  let c0_i32_18 : BitVec 32 := 0#32
  let v54 : BitVec 1 := Scalar.cmpi .ne v53 c0_i32_18
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference6Ideal.lean ====
abbrev S64x8x128 : Shape := ⟨3, ![64, 8, 128]⟩
abbrev S65536x1024 : Shape := ⟨2, ![65536, 1024]⟩
abbrev S65536x128 : Shape := ⟨2, ![65536, 128]⟩
abbrev S32x1024x256 : Shape := ⟨3, ![32, 1024, 256]⟩
abbrev S32x256x1024 : Shape := ⟨3, ![32, 256, 1024]⟩
abbrev S65536x32 : Shape := ⟨2, ![65536, 32]⟩
abbrev S_ : Shape := ⟨0, ![]⟩
abbrev S8x1024x256 : Shape := ⟨3, ![8, 1024, 256]⟩
abbrev S65536x8x256 : Shape := ⟨3, ![65536, 8, 256]⟩
abbrev S65536x8 : Shape := ⟨2, ![65536, 8]⟩
abbrev S65536x8x1 : Shape := ⟨3, ![65536, 8, 1]⟩
abbrev S8x256x1024 : Shape := ⟨3, ![8, 256, 1024]⟩

abbrev nBuf : Space → Nat
  | .hbm => 98
  | .vmem => 0
  | .smem => 0
  | _ => 0

abbrev bufTy : (tb : Table) → Fin (tcTables nBuf tb) → BufTy
  | .hbm, ⟨0, _⟩ => ⟨S64x8x128, .i32⟩
  | .hbm, ⟨1, _⟩ => ⟨S65536x1024, .bf16⟩
  | .hbm, ⟨2, _⟩ => ⟨S65536x128, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S65536x32, .f32⟩
  | .hbm, ⟨7, _⟩ => ⟨S_, .f32⟩
  | .hbm, ⟨8, _⟩ => ⟨S65536x1024, .f32⟩
  | .hbm, ⟨9, _⟩ => ⟨S65536x1024, .f32⟩
  | .hbm, ⟨10, _⟩ => ⟨S8x1024x256, .f32⟩
  | .hbm, ⟨11, _⟩ => ⟨S65536x8x256, .f32⟩
  | .hbm, ⟨12, _⟩ => ⟨S65536x8x256, .f32⟩
  | .hbm, ⟨13, _⟩ => ⟨S65536x8x256, .f32⟩
  | .hbm, ⟨14, _⟩ => ⟨S_, .f32⟩
  | .hbm, ⟨15, _⟩ => ⟨S65536x8x256, .f32⟩
  | .hbm, ⟨16, _⟩ => ⟨S65536x8x256, .f32⟩
  | .hbm, ⟨17, _⟩ => ⟨S_, .f32⟩
  | .hbm, ⟨18, _⟩ => ⟨S65536x8x256, .f32⟩
  | .hbm, ⟨19, _⟩ => ⟨S65536x8x256, .f32⟩
  | .hbm, ⟨20, _⟩ => ⟨S65536x8x256, .f32⟩
  | .hbm, ⟨21, _⟩ => ⟨S8x1024x256, .f32⟩
  | .hbm, ⟨22, _⟩ => ⟨S65536x8x256, .f32⟩
  | .hbm, ⟨23, _⟩ => ⟨S65536x8x256, .f32⟩
  | .hbm, ⟨24, _⟩ => ⟨S65536x8, .f32⟩
  | .hbm, ⟨25, _⟩ => ⟨S65536x8x1, .f32⟩
  | .hbm, ⟨26, _⟩ => ⟨S65536x8x256, .f32⟩
  | .hbm, ⟨27, _⟩ => ⟨S65536x8x256, .f32⟩
  | .hbm, ⟨28, _⟩ => ⟨S8x256x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S8x1024x256, .f32⟩
  | .hbm, ⟨33, _⟩ => ⟨S65536x8x256, .f32⟩
  | .hbm, ⟨34, _⟩ => ⟨S65536x8x256, .f32⟩
  | .hbm, ⟨35, _⟩ => ⟨S65536x8x256, .f32⟩
  | .hbm, ⟨36, _⟩ => ⟨S_, .f32⟩
  | .hbm, ⟨37, _⟩ => ⟨S65536x8x256, .f32⟩
  | .hbm, ⟨38, _⟩ => ⟨S65536x8x256, .f32⟩
  | .hbm, ⟨39, _⟩ => ⟨S_, .f32⟩
  | .hbm, ⟨40, _⟩ => ⟨S65536x8x256, .f32⟩
  | .hbm, ⟨41, _⟩ => ⟨S65536x8x256, .f32⟩
  | .hbm, ⟨42, _⟩ => ⟨S65536x8x256, .f32⟩
  | .hbm, ⟨43, _⟩ => ⟨S8x1024x256, .f32⟩
  | .hbm, ⟨44, _⟩ => ⟨S65536x8x256, .f32⟩
  | .hbm, ⟨45, _⟩ => ⟨S65536x8x256, .f32⟩
  | .hbm, ⟨46, _⟩ => ⟨S65536x8, .f32⟩
  | .hbm, ⟨47, _⟩ => ⟨S65536x8x1, .f32⟩
  | .hbm, ⟨48, _⟩ => ⟨S65536x8x256, .f32⟩
  | .hbm, ⟨49, _⟩ => ⟨S65536x8x256, .f32⟩
  | .hbm, ⟨50, _⟩ => ⟨S8x256x1024, .f32⟩
  | .hbm, ⟨51, _⟩ => ⟨S65536x1024, .f32⟩
  | .hbm, ⟨52, _⟩ => ⟨S65536x1024, .f32⟩
  | .hbm, ⟨53, _⟩ => ⟨S65536x1024, .f32⟩
  | .hbm, ⟨54, _⟩ => ⟨S8x1024x256, .f32⟩
  | .hbm, ⟨55, _⟩ => ⟨S65536x8x256, .f32⟩
  | .hbm, ⟨56, _⟩ => ⟨S65536x8x256, .f32⟩
  | .hbm, ⟨57, _⟩ => ⟨S65536x8x256, .f32⟩
  | .hbm, ⟨58, _⟩ => ⟨S_, .f32⟩
  | .hbm, ⟨59, _⟩ => ⟨S65536x8x256, .f32⟩
  | .hbm, ⟨60, _⟩ => ⟨S65536x8x256, .f32⟩
  | .hbm, ⟨61, _⟩ => ⟨S_, .f32⟩
  | .hbm, ⟨62, _⟩ => ⟨S65536x8x256, .f32⟩
  | .hbm, ⟨63, _⟩ => ⟨S65536x8x256, .f32⟩
  | .hbm, ⟨64, _⟩ => ⟨S65536x8x256, .f32⟩
  | .hbm, ⟨65, _⟩ => ⟨S8x1024x256, .f32⟩
  | .hbm, ⟨66, _⟩ => ⟨S65536x8x256, .f32⟩
  | .hbm, ⟨67, _⟩ => ⟨S65536x8x256, .f32⟩
  | .hbm, ⟨68, _⟩ => ⟨S65536x8, .f32⟩
  | .hbm, ⟨69, _⟩ => ⟨S65536x8x1, .f32⟩
  | .hbm, ⟨70, _⟩ => ⟨S65536x8x256, .f32⟩
  | .hbm, ⟨71, _⟩ => ⟨S65536x8x256, .f32⟩
  | .hbm, ⟨72, _⟩ => ⟨S8x256x1024, .f32⟩
  | .hbm, ⟨73, _⟩ => ⟨S65536x1024, .f32⟩
  | .hbm, ⟨74, _⟩ => ⟨S65536x1024, .f32⟩
  | .hbm, ⟨75, _⟩ => ⟨S65536x1024, .f32⟩
  | .hbm, ⟨76, _⟩ => ⟨S8x1024x256, .f32⟩
  | .hbm, ⟨77, _⟩ => ⟨S65536x8x256, .f32⟩
  | .hbm, ⟨78, _⟩ => ⟨S65536x8x256, .f32⟩
  | .hbm, ⟨79, _⟩ => ⟨S65536x8x256, .f32⟩
  | .hbm, ⟨80, _⟩ => ⟨S_, .f32⟩
  | .hbm, ⟨81, _⟩ => ⟨S65536x8x256, .f32⟩
  | .hbm, ⟨82, _⟩ => ⟨S65536x8x256, .f32⟩
  | .hbm, ⟨83, _⟩ => ⟨S_, .f32⟩
  | .hbm, ⟨84, _⟩ => ⟨S65536x8x256, .f32⟩
  | .hbm, ⟨85, _⟩ => ⟨S65536x8x256, .f32⟩
  | .hbm, ⟨86, _⟩ => ⟨S65536x8x256, .f32⟩
  | .hbm, ⟨87, _⟩ => ⟨S8x1024x256, .f32⟩
  | .hbm, ⟨88, _⟩ => ⟨S65536x8x256, .f32⟩
  | .hbm, ⟨89, _⟩ => ⟨S65536x8x256, .f32⟩
  | .hbm, ⟨90, _⟩ => ⟨S65536x8, .f32⟩
  | .hbm, ⟨91, _⟩ => ⟨S65536x8x1, .f32⟩
  | .hbm, ⟨92, _⟩ => ⟨S65536x8x256, .f32⟩
  | .hbm, ⟨93, _⟩ => ⟨S65536x8x256, .f32⟩
  | .hbm, ⟨94, _⟩ => ⟨S8x256x1024, .f32⟩
  | .hbm, ⟨95, _⟩ => ⟨S65536x1024, .f32⟩
  | .hbm, ⟨96, _⟩ => ⟨S65536x1024, .f32⟩
  | .hbm, ⟨97, _⟩ => ⟨S65536x1024, .bf16⟩
  | _, _ => ⟨S64x8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call3_v0 : Ref sig .tc := ⟨.hbm, 78, rfl⟩
abbrev main_call3_v1 : Ref sig .tc := ⟨.hbm, 79, rfl⟩
abbrev main_call3_cst : Ref sig .tc := ⟨.hbm, 80, rfl⟩
abbrev main_call3_v2 : Ref sig .tc := ⟨.hbm, 81, rfl⟩
abbrev main_call3_v3 : Ref sig .tc := ⟨.hbm, 82, rfl⟩
abbrev main_call3_cst_0 : Ref sig .tc := ⟨.hbm, 83, rfl⟩
abbrev main_call3_v4 : Ref sig .tc := ⟨.hbm, 84, rfl⟩
abbrev main_call3_v5 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩

abbrev nD : Nat := 1
abbrev τ : Topo := Topo.v7x

variable {F : FTy → Type} [FloatOps F]
-- ==== Kernel7.lean ====
abbrev S16x256x1024 : Shape := ⟨3, ![16, 256, 1024]⟩
abbrev S1024 : Shape := ⟨1, ![1024]⟩
abbrev S1024x1024 : Shape := ⟨2, ![1024, 1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S16x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x1024, .bf16⟩
  | .local _ .vmem, ⟨5, _⟩ => ⟨S1x256x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16x256x1024 : Shape := ⟨3, ![16, 256, 1024]⟩
abbrev S1024 : Shape := ⟨1, ![1024]⟩
abbrev S1024x1024 : Shape := ⟨2, ![1024, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S16x256x1024, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S_, .f32⟩
  | .hbm, ⟨8, _⟩ => ⟨S16x256x1, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1, .f32⟩
  | .hbm, ⟨14, _⟩ => ⟨S16x256x1024, .f32⟩
  | .hbm, ⟨15, _⟩ => ⟨S16x256x1024, .f32⟩
  | .hbm, ⟨16, _⟩ => ⟨S1x1x1024, .f32⟩
  | .hbm, ⟨17, _⟩ => ⟨S16x256x1024, .f32⟩
  | .hbm, ⟨18, _⟩ => ⟨S16x256x1024, .f32⟩
  | .hbm, ⟨19, _⟩ => ⟨S16x256x1024, .f32⟩
  | .hbm, ⟨20, _⟩ => ⟨S16x256x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel8.lean ====
abbrev S16x4096x544 : Shape := ⟨3, ![16, 4096, 544]⟩
abbrev S16x4096 : Shape := ⟨2, ![16, 4096]⟩
abbrev S256 : Shape := ⟨1, ![256]⟩
abbrev S256x768 : Shape := ⟨2, ![256, 768]⟩
abbrev S256x1024 : Shape := ⟨2, ![256, 1024]⟩
abbrev S16x4096x512 : Shape := ⟨3, ![16, 4096, 512]⟩
abbrev S16x4096x32 : Shape := ⟨3, ![16, 4096, 32]⟩
abbrev S16x4096x16 : Shape := ⟨3, ![16, 4096, 16]⟩
abbrev S_ : Shape := ⟨0, ![]⟩
abbrev S16x4096x64 : Shape := ⟨3, ![16, 4096, 64]⟩
abbrev S16x4096x7680 : Shape := ⟨3, ![16, 4096, 7680]⟩
abbrev S16x4096x8448 : Shape := ⟨3, ![16, 4096, 8448]⟩
abbrev S16 : Shape := ⟨1, ![16]⟩
abbrev S16x4096x1 : Shape := ⟨3, ![16, 4096, 1]⟩
abbrev S1x1x16 : Shape := ⟨3, ![1, 1, 16]⟩
abbrev S16x4096x128 : Shape := ⟨3, ![16, 4096, 128]⟩
abbrev S256x8x96 : Shape := ⟨3, ![256, 8, 96]⟩
abbrev S8x256x96 : Shape := ⟨3, ![8, 256, 96]⟩
abbrev S8x256x32 : Shape := ⟨3, ![8, 256, 32]⟩
abbrev S8x256x16 : Shape := ⟨3, ![8, 256, 16]⟩
abbrev S8x256x64 : Shape := ⟨3, ![8, 256, 64]⟩
abbrev S8x256x256 : Shape := ⟨3, ![8, 256, 256]⟩
abbrev S256x8x128 : Shape := ⟨3, ![256, 8, 128]⟩
abbrev S8x256x128 : Shape := ⟨3, ![8, 256, 128]⟩
abbrev S1x256 : Shape := ⟨2, ![1, 256]⟩
abbrev S16x8x4096x128 : Shape := ⟨4, ![16, 8, 4096, 128]⟩
abbrev S1x512x256 : Shape := ⟨3, ![1, 512, 256]⟩
abbrev S1x512x128 : Shape := ⟨3, ![1, 512, 128]⟩
abbrev S1x8x512x128 : Shape := ⟨4, ![1, 8, 512, 128]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S1x256x256 : Shape := ⟨3, ![1, 256, 256]⟩
abbrev S256x256 : Shape := ⟨2, ![256, 256]⟩
abbrev S1x1x512x128 : Shape := ⟨4, ![1, 1, 512, 128]⟩

abbrev nBuf : Space → Nat
  | .hbm => 80
  | .vmem => 22
  | .smem => 0
  | _ => 0

abbrev bufTy : (tb : Table) → Fin (tcTables nBuf tb) → BufTy
  | .hbm, ⟨0, _⟩ => ⟨S16x4096x544, .f32⟩
  | .hbm, ⟨1, _⟩ => ⟨S16x4096, .i32⟩
  | .hbm, ⟨2, _⟩ => ⟨S256, .f32⟩
  | .hbm, ⟨3, _⟩ => ⟨S256x768, .f32⟩
  | .hbm, ⟨4, _⟩ => ⟨S256, .f32⟩
  | .hbm, ⟨5, _⟩ => ⟨S256x1024, .f32⟩
  | .hbm, ⟨6, _⟩ => ⟨S16x4096x512, .f32⟩
  | .hbm, ⟨7, _⟩ => ⟨S16x4096x32, .f32⟩
  | .hbm, ⟨8, _⟩ => ⟨S16x4096x16, .f32⟩
  | .hbm, ⟨9, _⟩ => ⟨S16x4096x16, .f32⟩
  | .hbm, ⟨10, _⟩ => ⟨S16x4096x16, .f32⟩
  | .hbm, ⟨11, _⟩ => ⟨S16x4096x32, .f32⟩
  | .hbm, ⟨12, _⟩ => ⟨S_, .f32⟩
  | .hbm, ⟨13, _⟩ => ⟨S16x4096x64, .f32⟩
  | .hbm, ⟨14, _⟩ => ⟨S_, .f32⟩
  | .hbm, ⟨15, _⟩ => ⟨S16x4096x32, .f32⟩
  | .hbm, ⟨16, _⟩ => ⟨S_, .f32⟩
  | .hbm, ⟨17, _⟩ => ⟨S16x4096x7680, .f32⟩
  | .hbm, ⟨18, _⟩ => ⟨S16x4096x8448, .f32⟩
  | .hbm, ⟨19, _⟩ => ⟨S16x4096x8448, .bf16⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16x4096, .f32⟩
  | .hbm, ⟨37, _⟩ => ⟨S16x4096x1, .f32⟩
  | .hbm, ⟨38, _⟩ => ⟨S1x1x16, .f32⟩
  | .hbm, ⟨39, _⟩ => ⟨S16x4096x16, .f32⟩
  | .hbm, ⟨40, _⟩ => ⟨S16x4096x16, .f32⟩
  | .hbm, ⟨41, _⟩ => ⟨S16x4096x16, .f32⟩
  | .hbm, ⟨42, _⟩ => ⟨S16x4096x16, .f32⟩
  | .hbm, ⟨43, _⟩ => ⟨S16x4096x16, .f32⟩
  | .hbm, ⟨44, _⟩ => ⟨S_, .f32⟩
  | .hbm, ⟨45, _⟩ => ⟨S16x4096x32, .f32⟩
  | .hbm, ⟨46, _⟩ => ⟨S_, .f32⟩
  | .hbm, ⟨47, _⟩ => ⟨S16x4096x64, .f32⟩
  | .hbm, ⟨48, _⟩ => ⟨S16x4096x128, .f32⟩
  | .hbm, ⟨49, _⟩ => ⟨S_, .f32⟩
  | .hbm, ⟨50, _⟩ => ⟨S16x4096x64, .f32⟩
  | .hbm, ⟨51, _⟩ => ⟨S16x4096x128, .f32⟩
  | .hbm, ⟨52, _⟩ => ⟨S256x8x96, .f32⟩
  | .hbm, ⟨53, _⟩ => ⟨S8x256x96, .f32⟩
  | .hbm, ⟨54, _⟩ => ⟨S8x256x32, .f32⟩
  | .hbm, ⟨55, _⟩ => ⟨S8x256x16, .f32⟩
  | .hbm, ⟨56, _⟩ => ⟨S8x256x16, .f32⟩
  | .hbm, ⟨57, _⟩ => ⟨S8x256x16, .f32⟩
  | .hbm, ⟨58, _⟩ => ⟨S8x256x32, .f32⟩
  | .hbm, ⟨59, _⟩ => ⟨S_, .f32⟩
  | .hbm, ⟨60, _⟩ => ⟨S8x256x32, .f32⟩
  | .hbm, ⟨61, _⟩ => ⟨S_, .f32⟩
  | .hbm, ⟨62, _⟩ => ⟨S8x256x64, .f32⟩
  | .hbm, ⟨63, _⟩ => ⟨S8x256x256, .f32⟩
  | .hbm, ⟨64, _⟩ => ⟨S256x8x128, .f32⟩
  | .hbm, ⟨65, _⟩ => ⟨S8x256x128, .f32⟩
  | .hbm, ⟨66, _⟩ => ⟨S_, .f32⟩
  | .hbm, ⟨67, _⟩ => ⟨S8x256x64, .f32⟩
  | .hbm, ⟨68, _⟩ => ⟨S_, .f32⟩
  | .hbm, ⟨69, _⟩ => ⟨S8x256x64, .f32⟩
  | .hbm, ⟨70, _⟩ => ⟨S8x256x64, .f32⟩
  | .hbm, ⟨71, _⟩ => ⟨S8x256x64, .f32⟩
  | .hbm, ⟨72, _⟩ => ⟨S8x256x256, .f32⟩
  | .hbm, ⟨73, _⟩ => ⟨S8x256x256, .bf16⟩
  | .hbm, ⟨74, _⟩ => ⟨S8x256x256, .bf16⟩
  | .hbm, ⟨75, _⟩ => ⟨S1x256, .f32⟩
  | .hbm, ⟨76, _⟩ => ⟨S1x256, .f32⟩
  | .hbm, ⟨77, _⟩ => ⟨S16x8x4096x128, .bf16⟩
  | .hbm, ⟨78, _⟩ => ⟨S16x8x4096x128, .bf16⟩
  | .hbm, ⟨79, _⟩ => ⟨S16x8x4096x128, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x256, .f32⟩
  | .local _ .vmem, ⟨13, _⟩ => ⟨S1x256, .f32⟩
  | .local _ .vmem, ⟨14, _⟩ => ⟨S8x256x256, .bf16⟩
  | .local _ .vmem, ⟨15, _⟩ => ⟨S8x256x256, .bf16⟩
  | .local _ .vmem, ⟨16, _⟩ => ⟨S1x8x512x128, .bf16⟩
  | .local _ .vmem, ⟨17, _⟩ => ⟨S1x8x512x128, .bf16⟩
  | .local _ .vmem, ⟨18, _⟩ => ⟨S1x8x512x128, .bf16⟩
  | .local _ .vmem, ⟨19, _⟩ => ⟨S1x8x512x128, .bf16⟩
  | .local _ .vmem, ⟨20, _⟩ => ⟨S1x8x512x128, .bf16⟩
  | .local _ .vmem, ⟨21, _⟩ => ⟨S1x8x512x128, .bf16⟩
  | _, _ => ⟨S16x4096x544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56_0 : Ref sig .tc := ⟨.hbm, 77, rfl⟩
abbrev main_v56_1 : Ref sig .tc := ⟨.hbm, 78, rfl⟩
abbrev main_v56_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c30_i32 : BitVec 32 := 30#32
  let c0_i32 : BitVec 32 := 0#32
  ![arg0.toNat, arg1.toNat, c30_i32.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let c0_i32 : BitVec 32 := 0#32
  ![arg0.toNat, arg1.toNat, c31_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let c0_i32 : BitVec 32 := 0#32
  ![arg0.toNat, arg1.toNat, c64_i32.toNat]

def cc0_transform_3 (i : grid0.Coords) : Fin 3 → Nat :=
  let arg0 : BitVec 32 := BitVec.ofNat 32 (i 0).val
  let arg1 : BitVec 32 := BitVec.ofNat 32 (i 1).val
  let c65_i32 : BitVec 32 := 65#32
  let c0_i32 : BitVec 32 := 0#32
  ![arg0.toNat, arg1.toNat, c65_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference8Ideal.lean ====
abbrev S16x4096x544 : Shape := ⟨3, ![16, 4096, 544]⟩
abbrev S16x4096 : Shape := ⟨2, ![16, 4096]⟩
abbrev S256 : Shape := ⟨1, ![256]⟩
abbrev S256x768 : Shape := ⟨2, ![256, 768]⟩
abbrev S256x1024 : Shape := ⟨2, ![256, 1024]⟩
abbrev S16 : Shape := ⟨1, ![16]⟩
abbrev S_ : Shape := ⟨0, ![]⟩
abbrev S16x4096x1 : Shape := ⟨3, ![16, 4096, 1]⟩
abbrev S1x1x16 : Shape := ⟨3, ![1, 1, 16]⟩
abbrev S16x4096x16 : Shape := ⟨3, ![16, 4096, 16]⟩
abbrev S16x4096x256 : Shape := ⟨3, ![16, 4096, 256]⟩
abbrev S16x4096x32 : Shape := ⟨3, ![16, 4096, 32]⟩
abbrev S1x1x256 : Shape := ⟨3, ![1, 1, 256]⟩
abbrev S16x4096x768 : Shape := ⟨3, ![16, 4096, 768]⟩
abbrev S16x4096x8x96 : Shape := ⟨4, ![16, 4096, 8, 96]⟩
abbrev S16x4096x8x64 : Shape := ⟨4, ![16, 4096, 8, 64]⟩
abbrev S16x4096x8x32 : Shape := ⟨4, ![16, 4096, 8, 32]⟩
abbrev S16x4096x1x16 : Shape := ⟨4, ![16, 4096, 1, 16]⟩
abbrev S16x4096x8x16 : Shape := ⟨4, ![16, 4096, 8, 16]⟩
abbrev S16x4096x1024 : Shape := ⟨3, ![16, 4096, 1024]⟩
abbrev S16x4096x8x128 : Shape := ⟨4, ![16, 4096, 8, 128]⟩
abbrev S16x4096x1x32 : Shape := ⟨4, ![16, 4096, 1, 32]⟩
abbrev S16x4096x8x1 : Shape := ⟨4, ![16, 4096, 8, 1]⟩
abbrev S16x4096x8x63 : Shape := ⟨4, ![16, 4096, 8, 63]⟩
abbrev S16x8x4096x128 : Shape := ⟨4, ![16, 8, 4096, 128]⟩

abbrev nBuf : Space → Nat
  | .hbm => 119
  | .vmem => 0
  | .smem => 0
  | _ => 0

abbrev bufTy : (tb : Table) → Fin (tcTables nBuf tb) → BufTy
  | .hbm, ⟨0, _⟩ => ⟨S16x4096x544, .f32⟩
  | .hbm, ⟨1, _⟩ => ⟨S16x4096, .i32⟩
  | .hbm, ⟨2, _⟩ => ⟨S256, .f32⟩
  | .hbm, ⟨3, _⟩ => ⟨S256x768, .f32⟩
  | .hbm, ⟨4, _⟩ => ⟨S256, .f32⟩
  | .hbm, ⟨5, _⟩ => ⟨S256x1024, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16x4096, .f32⟩
  | .hbm, ⟨23, _⟩ => ⟨S16x4096x1, .f32⟩
  | .hbm, ⟨24, _⟩ => ⟨S1x1x16, .f32⟩
  | .hbm, ⟨25, _⟩ => ⟨S16x4096x16, .f32⟩
  | .hbm, ⟨26, _⟩ => ⟨S16x4096x16, .f32⟩
  | .hbm, ⟨27, _⟩ => ⟨S16x4096x16, .f32⟩
  | .hbm, ⟨28, _⟩ => ⟨S16x4096x16, .f32⟩
  | .hbm, ⟨29, _⟩ => ⟨S16x4096x16, .f32⟩
  | .hbm, ⟨30, _⟩ => ⟨S16x4096x256, .f32⟩
  | .hbm, ⟨31, _⟩ => ⟨S16x4096x256, .f32⟩
  | .hbm, ⟨32, _⟩ => ⟨S16x4096x32, .f32⟩
  | .hbm, ⟨33, _⟩ => ⟨S16x4096x256, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S_, .f32⟩
  | .hbm, ⟨38, _⟩ => ⟨S16x4096x1, .f32⟩
  | .hbm, ⟨39, _⟩ => ⟨S16x4096x1, .f32⟩
  | .hbm, ⟨40, _⟩ => ⟨S_, .f32⟩
  | .hbm, ⟨41, _⟩ => ⟨S16x4096x1, .f32⟩
  | .hbm, ⟨42, _⟩ => ⟨S16x4096x1, .f32⟩
  | .hbm, ⟨43, _⟩ => ⟨S16x4096x1, .f32⟩
  | .hbm, ⟨44, _⟩ => ⟨S16x4096x256, .f32⟩
  | .hbm, ⟨45, _⟩ => ⟨S16x4096x256, .f32⟩
  | .hbm, ⟨46, _⟩ => ⟨S1x1x256, .f32⟩
  | .hbm, ⟨47, _⟩ => ⟨S16x4096x256, .f32⟩
  | .hbm, ⟨48, _⟩ => ⟨S16x4096x256, .f32⟩
  | .hbm, ⟨49, _⟩ => ⟨S16x4096x768, .f32⟩
  | .hbm, ⟨50, _⟩ => ⟨S16x4096x8x96, .f32⟩
  | .hbm, ⟨51, _⟩ => ⟨S16x4096x8x64, .f32⟩
  | .hbm, ⟨52, _⟩ => ⟨S16x4096x8x32, .f32⟩
  | .hbm, ⟨53, _⟩ => ⟨S16x4096x1x16, .f32⟩
  | .hbm, ⟨54, _⟩ => ⟨S16x4096x1x16, .f32⟩
  | .hbm, ⟨55, _⟩ => ⟨S16x4096x8x16, .f32⟩
  | .hbm, ⟨56, _⟩ => ⟨S16x4096x8x16, .f32⟩
  | .hbm, ⟨57, _⟩ => ⟨S16x4096x8x16, .f32⟩
  | .hbm, ⟨58, _⟩ => ⟨S16x4096x8x16, .f32⟩
  | .hbm, ⟨59, _⟩ => ⟨S16x4096x8x16, .f32⟩
  | .hbm, ⟨60, _⟩ => ⟨S16x4096x8x16, .f32⟩
  | .hbm, ⟨61, _⟩ => ⟨S16x4096x8x16, .f32⟩
  | .hbm, ⟨62, _⟩ => ⟨S16x4096x8x16, .f32⟩
  | .hbm, ⟨63, _⟩ => ⟨S16x4096x8x16, .f32⟩
  | .hbm, ⟨64, _⟩ => ⟨S16x4096x8x16, .f32⟩
  | .hbm, ⟨65, _⟩ => ⟨S16x4096x8x16, .f32⟩
  | .hbm, ⟨66, _⟩ => ⟨S16x4096x8x16, .f32⟩
  | .hbm, ⟨67, _⟩ => ⟨S16x4096x8x32, .f32⟩
  | .hbm, ⟨68, _⟩ => ⟨S16x4096x16, .f32⟩
  | .hbm, ⟨69, _⟩ => ⟨S16x4096x16, .f32⟩
  | .hbm, ⟨70, _⟩ => ⟨S16x4096x16, .f32⟩
  | .hbm, ⟨71, _⟩ => ⟨S16x4096x16, .f32⟩
  | .hbm, ⟨72, _⟩ => ⟨S16x4096x16, .f32⟩
  | .hbm, ⟨73, _⟩ => ⟨S16x4096x16, .f32⟩
  | .hbm, ⟨74, _⟩ => ⟨S16x4096x16, .f32⟩
  | .hbm, ⟨75, _⟩ => ⟨S16x4096x16, .f32⟩
  | .hbm, ⟨76, _⟩ => ⟨S16x4096x32, .f32⟩
  | .hbm, ⟨77, _⟩ => ⟨S16x4096x256, .f32⟩
  | .hbm, ⟨78, _⟩ => ⟨S_, .f32⟩
  | .hbm, ⟨79, _⟩ => ⟨S16x4096, .f32⟩
  | .hbm, ⟨80, _⟩ => ⟨S16x4096x1, .f32⟩
  | .hbm, ⟨81, _⟩ => ⟨S_, .f32⟩
  | .hbm, ⟨82, _⟩ => ⟨S16x4096x1, .f32⟩
  | .hbm, ⟨83, _⟩ => ⟨S16x4096x1, .f32⟩
  | .hbm, ⟨84, _⟩ => ⟨S_, .f32⟩
  | .hbm, ⟨85, _⟩ => ⟨S16x4096x1, .f32⟩
  | .hbm, ⟨86, _⟩ => ⟨S16x4096x1, .f32⟩
  | .hbm, ⟨87, _⟩ => ⟨S16x4096x1, .f32⟩
  | .hbm, ⟨88, _⟩ => ⟨S16x4096x256, .f32⟩
  | .hbm, ⟨89, _⟩ => ⟨S16x4096x256, .f32⟩
  | .hbm, ⟨90, _⟩ => ⟨S1x1x256, .f32⟩
  | .hbm, ⟨91, _⟩ => ⟨S16x4096x256, .f32⟩
  | .hbm, ⟨92, _⟩ => ⟨S16x4096x256, .f32⟩
  | .hbm, ⟨93, _⟩ => ⟨S16x4096x1024, .f32⟩
  | .hbm, ⟨94, _⟩ => ⟨S16x4096x8x128, .f32⟩
  | .hbm, ⟨95, _⟩ => ⟨S16x4096x8x64, .f32⟩
  | .hbm, ⟨96, _⟩ => ⟨S16x4096x8x64, .f32⟩
  | .hbm, ⟨97, _⟩ => ⟨S16x4096x1x32, .f32⟩
  | .hbm, ⟨98, _⟩ => ⟨S16x4096x8x32, .f32⟩
  | .hbm, ⟨99, _⟩ => ⟨S_, .f32⟩
  | .hbm, ⟨100, _⟩ => ⟨S16x4096x8x32, .f32⟩
  | .hbm, ⟨101, _⟩ => ⟨S16x4096x8x128, .f32⟩
  | .hbm, ⟨102, _⟩ => ⟨S_, .f32⟩
  | .hbm, ⟨103, _⟩ => ⟨S16x4096x8x128, .f32⟩
  | .hbm, ⟨104, _⟩ => ⟨S16x4096x8x128, .f32⟩
  | .hbm, ⟨105, _⟩ => ⟨S_, .f32⟩
  | .hbm, ⟨106, _⟩ => ⟨S16x4096x8x32, .f32⟩
  | .hbm, ⟨107, _⟩ => ⟨S16x4096x8x128, .f32⟩
  | .hbm, ⟨108, _⟩ => ⟨S_, .f32⟩
  | .hbm, ⟨109, _⟩ => ⟨S16x4096x8x1, .f32⟩
  | .hbm, ⟨110, _⟩ => ⟨S_, .f32⟩
  | .hbm, ⟨111, _⟩ => ⟨S16x4096x8x63, .f32⟩
  | .hbm, ⟨112, _⟩ => ⟨S16x4096x8x128, .f32⟩
  | .hbm, ⟨113, _⟩ => ⟨S16x8x4096x128, .f32⟩
  | .hbm, ⟨114, _⟩ => ⟨S16x8x4096x128, .bf16⟩
  | .hbm, ⟨115, _⟩ => ⟨S16x8x4096x128, .f32⟩
  | .hbm, ⟨116, _⟩ => ⟨S16x8x4096x128, .bf16⟩
  | .hbm, ⟨117, _⟩ => ⟨S16x8x4096x128, .f32⟩
  | .hbm, ⟨118, _⟩ => ⟨S16x8x4096x128, .bf16⟩
  | _, _ => ⟨S16x4096x544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_7 : Ref sig .tc := ⟨.hbm, 78, rfl⟩
abbrev main_v64 : Ref sig .tc := ⟨.hbm, 79, rfl⟩
abbrev main_v65 : Ref sig .tc := ⟨.hbm, 80, rfl⟩
abbrev main_cst_8 : Ref sig .tc := ⟨.hbm, 81, rfl⟩
abbrev main_v66 : Ref sig .tc := ⟨.hbm, 82, rfl⟩
abbrev main_v67 : Ref sig .tc := ⟨.hbm, 83, rfl⟩
abbrev main_cst_9 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_10 : Ref sig .tc := ⟨.hbm, 99, rfl⟩
abbrev main_v82 : Ref sig .tc := ⟨.hbm, 100, rfl⟩
abbrev main_v83 : Ref sig .tc := ⟨.hbm, 101, rfl⟩
abbrev main_cst_11 : Ref sig .tc := ⟨.hbm, 102, rfl⟩
abbrev main_v84 : Ref sig .tc := ⟨.hbm, 103, rfl⟩
abbrev main_v85 : Ref sig .tc := ⟨.hbm, 104, rfl⟩
abbrev main_cst_12 : Ref sig .tc := ⟨.hbm, 105, rfl⟩
abbrev main_v86 : Ref sig .tc := ⟨.hbm, 106, rfl⟩
abbrev main_v87 : Ref sig .tc := ⟨.hbm, 107, rfl⟩
abbrev main_cst_13 : Ref sig .tc := ⟨.hbm, 108, rfl⟩
abbrev main_v88 : Ref sig .tc := ⟨.hbm, 109, rfl⟩
abbrev main_cst_14 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩

abbrev nD : Nat := 1
abbrev τ : Topo := Topo.v7x

variable {F : FTy → Type} [FloatOps F]
-- ==== Kernel9.lean ====
abbrev S16x4096x8448 : Shape := ⟨3, ![16, 4096, 8448]⟩
abbrev S3x512 : Shape := ⟨2, ![3, 512]⟩
abbrev S3x4x128 : Shape := ⟨3, ![3, 4, 128]⟩
abbrev S4x3x128 : Shape := ⟨3, ![4, 3, 128]⟩
abbrev S16x4096x512 : Shape := ⟨3, ![16, 4096, 512]⟩
abbrev S1x4096x128 : Shape := ⟨3, ![1, 4096, 128]⟩
abbrev S1x3x128 : Shape := ⟨3, ![1, 3, 128]⟩
abbrev S4096x128 : Shape := ⟨2, ![4096, 128]⟩
abbrev S3x128 : Shape := ⟨2, ![3, 128]⟩
abbrev S1x128 : Shape := ⟨2, ![1, 128]⟩

abbrev nBuf : Space → Nat
  | .hbm => 5
  | .vmem => 10
  | .smem => 0
  | _ => 0

abbrev bufTy : (tb : Table) → Fin (tcTables nBuf tb) → BufTy
  | .hbm, ⟨0, _⟩ => ⟨S16x4096x8448, .bf16⟩
  | .hbm, ⟨1, _⟩ => ⟨S3x512, .f32⟩
  | .hbm, ⟨2, _⟩ => ⟨S3x4x128, .f32⟩
  | .hbm, ⟨3, _⟩ => ⟨S4x3x128, .f32⟩
  | .hbm, ⟨4, _⟩ => ⟨S16x4096x512, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x3x128, .f32⟩
  | .local _ .vmem, ⟨7, _⟩ => ⟨S1x3x128, .f32⟩
  | .local _ .vmem, ⟨8, _⟩ => ⟨S1x4096x128, .f32⟩
  | .local _ .vmem, ⟨9, _⟩ => ⟨S1x4096x128, .f32⟩
  | _, _ => ⟨S16x4096x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S16x4096x8448 : Shape := ⟨3, ![16, 4096, 8448]⟩
abbrev S3x512 : Shape := ⟨2, ![3, 512]⟩
abbrev S16x4096x1536 : Shape := ⟨3, ![16, 4096, 1536]⟩
abbrev S16x4096x512 : Shape := ⟨3, ![16, 4096, 512]⟩
abbrev S_ : Shape := ⟨0, ![]⟩
abbrev S16x4098x512 : Shape := ⟨3, ![16, 4098, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 32
  | .vmem => 0
  | .smem => 0
  | _ => 0

abbrev bufTy : (tb : Table) → Fin (tcTables nBuf tb) → BufTy
  | .hbm, ⟨0, _⟩ => ⟨S16x4096x8448, .bf16⟩
  | .hbm, ⟨1, _⟩ => ⟨S3x512, .f32⟩
  | .hbm, ⟨2, _⟩ => ⟨S16x4096x1536, .bf16⟩
  | .hbm, ⟨3, _⟩ => ⟨S16x4096x1536, .f32⟩
  | .hbm, ⟨4, _⟩ => ⟨S16x4096x512, .f32⟩
  | .hbm, ⟨5, _⟩ => ⟨S16x4096x512, .f32⟩
  | .hbm, ⟨6, _⟩ => ⟨S16x4096x512, .f32⟩
  | .hbm, ⟨7, _⟩ => ⟨S16x4096x512, .f32⟩
  | .hbm, ⟨8, _⟩ => ⟨S_, .i32⟩
  | .hbm, ⟨9, _⟩ => ⟨S_, .f32⟩
  | .hbm, ⟨10, _⟩ => ⟨S16x4098x512, .f32⟩
  | .hbm, ⟨11, _⟩ => ⟨S1x512, .f32⟩
  | .hbm, ⟨12, _⟩ => ⟨S512, .f32⟩
  | .hbm, ⟨13, _⟩ => ⟨S16x4096x512, .f32⟩
  | .hbm, ⟨14, _⟩ => ⟨S1x1x512, .f32⟩
  | .hbm, ⟨15, _⟩ => ⟨S16x4096x512, .f32⟩
  | .hbm, ⟨16, _⟩ => ⟨S16x4096x512, .f32⟩
  | .hbm, ⟨17, _⟩ => ⟨S1x512, .f32⟩
  | .hbm, ⟨18, _⟩ => ⟨S512, .f32⟩
  | .hbm, ⟨19, _⟩ => ⟨S16x4096x512, .f32⟩
  | .hbm, ⟨20, _⟩ => ⟨S1x1x512, .f32⟩
  | .hbm, ⟨21, _⟩ => ⟨S16x4096x512, .f32⟩
  | .hbm, ⟨22, _⟩ => ⟨S16x4096x512, .f32⟩
  | .hbm, ⟨23, _⟩ => ⟨S16x4096x512, .f32⟩
  | .hbm, ⟨24, _⟩ => ⟨S1x512, .f32⟩
  | .hbm, ⟨25, _⟩ => ⟨S512, .f32⟩
  | .hbm, ⟨26, _⟩ => ⟨S16x4096x512, .f32⟩
  | .hbm, ⟨27, _⟩ => ⟨S1x1x512, .f32⟩
  | .hbm, ⟨28, _⟩ => ⟨S16x4096x512, .f32⟩
  | .hbm, ⟨29, _⟩ => ⟨S16x4096x512, .f32⟩
  | .hbm, ⟨30, _⟩ => ⟨S16x4096x512, .f32⟩
  | .hbm, ⟨31, _⟩ => ⟨S16x4096x512, .f32⟩
  | _, _ => ⟨S16x4096x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]
-- ==== Proof.Heads.lean ====
/- What the attention body stores: one query row of one head at a time. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Proof.Heads

open Cert.KernelIdeal Cert.KernelIdeal.Gen Idealize.ShloMosaic Idealize.ShloMosaic.TcCoe Idealize.SL.Sem

/-- The score of query row `r` against key row `c` in head `h` of a pair of heads. -/
def score (q k : S1x2x4096x128.Idx → EReal) (h : Fin 2) (r c : Fin 4096) : EReal :=
  ∑ d : Fin 128, q (ix4 0 h r d) * k (ix4 0 h c d)

/-- The weight of key row `c` for query row `r`, before it is divided by the row's sum. -/
def weight (q k : S1x2x4096x128.Idx → EReal) (h : Fin 2) (r c : Fin 4096) : EReal :=
  Ideal.exp (score q k h r c - Finset.univ.fold max ⊥ fun c => score q k h r c)

/-- Lane `l` of the attention of query row `r` in head `h`, the sum of the weights standing in lane 64 of the values. -/
def headOut (q k v : S1x2x4096x128.Idx → EReal) (h : Fin 2) (r : Fin 4096) (l : Fin 128) : EReal :=
  Ideal.div (∑ c : Fin 4096, weight q k h r c * v (ix4 0 h c l)) (∑ c : Fin 4096, weight q k h r c * v (ix4 0 h c 64))

theorem ofBits_bot : Ideal.ofBits .f32 0xFF800000#32 = ⊥ := by simp [Ideal.ofBits, Ideal.ieee]

/-- What a pair of heads leaves in its block: the first head in lanes 0 to 63, the second in lanes 64 to 127. -/
def blockOut (q k v : S1x2x4096x128.Idx → EReal) (y : S1x4096x128.Idx) : EReal :=
  if h : (y 2).val < 64 then headOut q k v 0 (y 1) (y 2)
  else headOut q k v 1 (y 1) ⟨(y 2).val - 64, Nat.lt_of_le_of_lt (Nat.sub_le _ _) (y 2).isLt⟩

/-- One tile of 256 query rows, read at a row and a lane. -/
theorem tile_val (x0 x1 x2 : Vec Ideal S1x2x4096x128 .bf16) (n : ℕ) (hn : n + 256 ≤ 4096) (o1 o2 : Fin 4 → ℕ)
    (h1 : o1 = ![0, 0, n, 0]) (h2 : o2 = ![0, 1, n, 0])
    (b1 : ∀ a, o1 a + S1x1x256x128.size a ≤ S1x2x4096x128.size a) (b2 : ∀ a, o2 a + S1x1x256x128.size a ≤ S1x2x4096x128.size a)
    (b3 : ∀ a, (![0, 0, 0, 0] : Fin 4 → ℕ) a + S1x1x4096x128.size a ≤ S1x2x4096x128.size a)
    (b4 : ∀ a, (![0, 1, 0, 0] : Fin 4 → ℕ) a + S1x1x4096x128.size a ≤ S1x2x4096x128.size a)
    (r : Fin 256) (l : Fin 128) :
    k0_pay1 (F := Ideal)
        (k0_pay2 (F := Ideal) (View.ld x0 (Rect.unit o1 S1x1x256x128.size b1)) (View.ld x1 (Rect.unit ![0, 0, 0, 0] S1x1x4096x128.size b3))
          (View.ld x2 (Rect.unit ![0, 0, 0, 0] S1x1x4096x128.size b3)))
        (k0_pay3 (F := Ideal) (View.ld x0 (Rect.unit o2 S1x1x256x128.size b2)) (View.ld x1 (Rect.unit ![0, 1, 0, 0] S1x1x4096x128.size b4)))
        (View.ld x2 (Rect.unit ![0, 1, 0, 0] S1x1x4096x128.size b4)) (ix3 0 r l)
      = blockOut x0 x1 x2 (ix3 0 ⟨n + r.val, Nat.lt_of_lt_of_le (Nat.add_lt_add_left r.isLt n) hn⟩ l) := by
  subst h1 h2
  pointwise [k0_pay1, k0_pay2, k0_pay3, blockOut, headOut, weight, score]
  rw [ofBits_bot]
  have hl := l.isLt
  by_cases h : l.val < 64
  · rw [dif_pos h, show IntOp.cmpi CmpIPredicate.slt (BitVec.ofNat 32 l.val) 64#32 = 1#1 from by
      revert h; revert l; decide]
    rfl
  · rw [dif_neg h, show IntOp.cmpi CmpIPredicate.slt (BitVec.ofNat 32 l.val) 64#32 = 0#1 from by
      revert h; revert l; decide]
    have e : (⟨(l.val + 128 - 64) % 128, Nat.mod_lt _ (by decide)⟩ : Fin 128) = ⟨l.val - 64, by omega⟩ := Fin.ext (by show (l.val + 128 - 64) % 128 = l.val - 64; omega)
    exact congrArg (fun j => headOut x0 x1 x2 1 ⟨n + r.val, by omega⟩ j) e

theorem trip_pieces (𝒱 : Variants) (c : Dev nD) (bd : Option 𝒱.V) (i : grid0.Coords)
    (arg2 : Memref sig .tc .vmem S1x2x4096x128 .bf16) (harg2 : arg2.IsWhole) (arg3 : Memref sig .tc .vmem S1x2x4096x128 .bf16) (harg3 : arg3.IsWhole)
    (arg4 : Memref sig .tc .vmem S1x2x4096x128 .bf16) (harg4 : arg4.IsWhole) (arg5 : Memref sig .tc .vmem S1x4096x128 .f32) (harg5 : arg5.IsWhole)
    (x0 x1 x2 : Vec Ideal S1x2x4096x128 .bf16) (k : Fin k0_t1_loop.trips) :
    ∀ p ∈ tripL_k0_t1 (F := Ideal) 𝒱 c bd i arg2 harg2 arg3 harg3 arg4 harg4 arg5 harg5 (harg2.unread x0) (harg3.unread x1) (harg4.unread x2) k,
      ∀ x : p.1.shape.Idx, p.2 x = blockOut x0 x1 x2 (p.1.emb x) := by
  have hk : k.val < 16 := Nat.lt_of_lt_of_le k.isLt k0_t1_abs.2.1
  unfold tripL_k0_t1 trip_k0_t1
  dsimp only
  sl_unfold_words
  simp only [View.readAt_eq_ld, Memref.IsWhole.read_unread]
  intro p hp x
  rw [List.mem_singleton] at hp
  subst hp
  have hx : ∃ (r : Fin 256) (l : Fin 128), x = ix3 0 r l := ⟨x 1, x 2, by
    funext a; match a with
    | ⟨0, _⟩ => exact Fin.ext (Nat.lt_one_iff.mp (x 0).isLt)
    | ⟨1, _⟩ => rfl
    | ⟨2, _⟩ => rfl⟩
  obtain ⟨r, l, rfl⟩ := hx
  refine (tile_val x0 x1 x2 (256 * k.val) (by omega) _ _ (k0_off1_eq k) (k0_off2_eq k) _ _ _ _ r l).trans ?_
  congr 1
  have h3 := k0_off3_eq k
  funext a; match a with
  | ⟨0, _⟩ => rfl
  | ⟨1, _⟩ => exact Fin.ext (by have := congrFun h3 1; show 256 * k.val + r.val = k0_off3 k 1 + 1 * r.val; rw [this]; simp)
  | ⟨2, _⟩ => exact Fin.ext (by show l.val = 0 + 1 * l.val; omega)

theorem loop_pieces (𝒱 : Variants) (c : Dev nD) (bd : Option 𝒱.V) (i : grid0.Coords)
    (arg2 : Memref sig .tc .vmem S1x2x4096x128 .bf16) (harg2 : arg2.IsWhole) (arg3 : Memref sig .tc .vmem S1x2x4096x128 .bf16) (harg3 : arg3.IsWhole)
    (arg4 : Memref sig .tc .vmem S1x2x4096x128 .bf16) (harg4 : arg4.IsWhole) (arg5 : Memref sig .tc .vmem S1x4096x128 .f32) (harg5 : arg5.IsWhole)
    (x0 x1 x2 : Vec Ideal S1x2x4096x128 .bf16) (n : ℕ) (hn : n ≤ k0_t1_loop.trips) :
    ∀ p ∈ pb_k0_t1 (F := Ideal) 𝒱 c bd i arg2 harg2 arg3 harg3 arg4 harg4 arg5 harg5 (harg2.unread x0) (harg3.unread x1) (harg4.unread x2) n,
      ∀ x : p.1.shape.Idx, p.2 x = blockOut x0 x1 x2 (p.1.emb x) := by
  induction n with
  | zero => intro p hp; exact absurd hp (by rw [pb_k0_t1.eq_1]; exact List.not_mem_nil)
  | succ n ih =>
    intro p hp
    rw [pb_k0_t1_succ 𝒱 c bd i arg2 harg2 arg3 harg3 arg4 harg4 arg5 harg5 _ _ _ ⟨n, hn⟩, List.mem_append] at hp
    rcases hp with hp | hp
    · exact trip_pieces 𝒱 c bd i arg2 harg2 arg3 harg3 arg4 harg4 arg5 harg5 x0 x1 x2 ⟨n, hn⟩ p hp
    · exact ih (Nat.le_of_succ_le hn) p hp

/-- The block that one grid point leaves, whatever buffers it is run on. -/
theorem out_val (c : Dev nD) (i : grid0.Coords)
    (arg2 : Memref sig .tc .vmem S1x2x4096x128 .bf16) (harg2 : arg2.IsWhole) (arg3 : Memref sig .tc .vmem S1x2x4096x128 .bf16) (harg3 : arg3.IsWhole)
    (arg4 : Memref sig .tc .vmem S1x2x4096x128 .bf16) (harg4 : arg4.IsWhole) (arg5 : Memref sig .tc .vmem S1x4096x128 .f32) (harg5 : arg5.IsWhole)
    (x0 x1 x2 : Vec Ideal S1x2x4096x128 .bf16) (y : S1x4096x128.Idx) :
    out0_A_3 (F := Ideal) c i arg2 harg2 arg3 harg3 arg4 harg4 arg5 harg5 x0 x1 x2 y = blockOut x0 x1 x2 y := by
  unfold out0_A_3
  rw [View.read_writes_junk_eq_canon]
  refine View.canon_apply_of_pieces (blockOut x0 x1 x2) _ ?_ y (cover0_A_3 c i arg2 harg2 arg3 harg3 arg4 harg4 arg5 harg5 x0 x1 x2 y)
  unfold kernelRun0_A
  dsimp only
  sl_unfold_words
  exact loop_pieces _ _ _ _ _ _ _ _ _ _ _ _ x0 x1 x2 _ (le_of_eq rfl)

end Cert.Proof.Heads

end
-- ==== Proof.Result.lean ====
/- The kernel's result array, index by index, over the packed head arrays that the host prepares. -/
module

public import proofs.«01_k».proof.Proof.Heads
public import Idealize.ShloMosaic.Lib.StableHlo.ReadAt

@[expose] public section

set_option maxRecDepth 16384

noncomputable section

namespace Cert.Proof.Heads

open Idealize.ShloMosaic Idealize.ShloMosaic.TcCoe Idealize.SL.Sem Cert.KernelIdeal Cert.KernelIdeal.Gen

/-- One row of one head, from the head's queries, keys and values: the weighted sum over lane 64's weighted sum. -/
def rowOut (q k v : Fin 4096 → Fin 128 → EReal) (r : Fin 4096) (l : Fin 128) : EReal :=
  Ideal.div (∑ c, Ideal.exp ((∑ d, q r d * k c d) - Finset.univ.fold max ⊥ fun c => ∑ d, q r d * k c d) * v c l)
    (∑ c, Ideal.exp ((∑ d, q r d * k c d) - Finset.univ.fold max ⊥ fun c => ∑ d, q r d * k c d) * v c 64)

theorem headOut_eq (q k v : S1x2x4096x128.Idx → EReal) (h : Fin 2) (r : Fin 4096) (l : Fin 128) :
    headOut q k v h r l = rowOut (fun r d => q (ix4 0 h r d)) (fun r d => k (ix4 0 h r d)) (fun r d => v (ix4 0 h r d)) r l := rfl

variable (m : (ℓ : Loc nD τ sig) → Buf (Elt Ideal) ℓ)

theorem idx : ∀ t : Fin grid0.N, win0_0.index t = ![(grid0.coords t 0).val, (grid0.coords t 1).val, 0, 0] ∧ win0_1.index t = ![(grid0.coords t 0).val, (grid0.coords t 1).val, 0, 0]
    ∧ win0_2.index t = ![(grid0.coords t 0).val, (grid0.coords t 1).val, 0, 0] ∧ win0_3.index t = ![(grid0.coords t 0).val, 0, (grid0.coords t 1).val] := by
  decide +kernel

/-- Head `h` of the three packed arrays of batch entry `b`. -/
def headQ (c : Dev nD) (b : Fin 16) (h : Fin 8) : Fin 4096 → Fin 128 → EReal := fun r d => V (F := Ideal) m c main_v11 (ix4 b h r d)
def headK (c : Dev nD) (b : Fin 16) (h : Fin 8) : Fin 4096 → Fin 128 → EReal := fun r d => V (F := Ideal) m c main_v13 (ix4 b h r d)
def headV (c : Dev nD) (b : Fin 16) (h : Fin 8) : Fin 4096 → Fin 128 → EReal := fun r d => V (F := Ideal) m c main_v15 (ix4 b h r d)

/-- What the call leaves: column `64 h + l` of row `r` is lane `l` of head `h`. -/
def called (c : Dev nD) (j : S16x4096x512.Idx) : EReal :=
  rowOut (headQ m c (j 0) ⟨(j 2).val / 64, by have := (j 2).isLt; change (j 2).val < 512 at this; omega⟩)
    (headK m c (j 0) ⟨(j 2).val / 64, by have := (j 2).isLt; change (j 2).val < 512 at this; omega⟩)
    (headV m c (j 0) ⟨(j 2).val / 64, by have := (j 2).isLt; change (j 2).val < 512 at this; omega⟩) (j 1) ⟨(j 2).val % 64, by omega⟩

theorem read0 (c : Dev nD) (t : Fin cfg0.N) (h : Fin 2) (H : Fin 8) (hH : H.val = 2 * (grid0.coords t 1).val + h.val) :
    (fun r d => iblk (F := Ideal) m c 0 t (ix4 0 h r d)) = headQ m c (grid0.coords t 0) H := by
  funext r d
  unfold headQ
  blk_ext [iblk, (idx t).1]

theorem read1 (c : Dev nD) (t : Fin cfg0.N) (h : Fin 2) (H : Fin 8) (hH : H.val = 2 * (grid0.coords t 1).val + h.val) :
    (fun r d => iblk (F := Ideal) m c 1 t (ix4 0 h r d)) = headK m c (grid0.coords t 0) H := by
  funext r d
  unfold headK
  blk_ext [iblk, (idx t).2.1]

theorem read2 (c : Dev nD) (t : Fin cfg0.N) (h : Fin 2) (H : Fin 8) (hH : H.val = 2 * (grid0.coords t 1).val + h.val) :
    (fun r d => iblk (F := Ideal) m c 2 t (ix4 0 h r d)) = headV m c (grid0.coords t 0) H := by
  funext r d
  unfold headV
  blk_ext [iblk, (idx t).2.2.1]

theorem result (c : Dev nD) : (dats m 0 c).arrAt 3 cfg0.N = called m c := by
  refine (dats m 0 c).arrAt_eq_of_covers 3 _ (by decide +kernel) fun t hf y => ?_
  blk_simp
  rw [after0_3]
  unfold outsAt0
  rw [out_val]
  change S1x4096x128.Idx at y
  idx_vars y
  have h2 := y2.isLt
  have g0 : (grid0.coords t 0).val < 16 := (grid0.coords t 0).isLt
  have g1 : (grid0.coords t 1).val < 4 := (grid0.coords t 1).isLt
  have e : (win0_3.blk t).view.emb (ix3 y0 y1 y2) = (ix3 ⟨(grid0.coords t 0).val, g0⟩ y1 ⟨128 * (grid0.coords t 1).val + y2.val, by omega⟩ : S16x4096x512.Idx) := by
    blk_ext [(idx t).2.2.2]
  rw [e]
  show (if h : y2.val < 64 then headOut _ _ _ 0 y1 y2 else headOut _ _ _ 1 y1 ⟨y2.val - 64, _⟩) = _
  split
  · rename_i hl
    rw [headOut_eq, read0 m c t 0 ⟨2 * (grid0.coords t 1).val, by omega⟩ rfl, read1 m c t 0 ⟨2 * (grid0.coords t 1).val, by omega⟩ rfl,
      read2 m c t 0 ⟨2 * (grid0.coords t 1).val, by omega⟩ rfl]
    unfold called
    have eH : (⟨2 * (grid0.coords t 1).val, by omega⟩ : Fin 8) = ⟨(128 * (grid0.coords t 1).val + y2.val) / 64, by omega⟩ := Fin.ext (by show 2 * (grid0.coords t 1).val = (128 * (grid0.coords t 1).val + y2.val) / 64; omega)
    have eL : y2 = ⟨(128 * (grid0.coords t 1).val + y2.val) % 64, by omega⟩ := Fin.ext (by show y2.val = (128 * (grid0.coords t 1).val + y2.val) % 64; omega)
    rw [eH]
    exact congrArg (rowOut _ _ _ _) eL
  · rename_i hl
    rw [headOut_eq, read0 m c t 1 ⟨2 * (grid0.coords t 1).val + 1, by omega⟩ rfl, read1 m c t 1 ⟨2 * (grid0.coords t 1).val + 1, by omega⟩ rfl,
      read2 m c t 1 ⟨2 * (grid0.coords t 1).val + 1, by omega⟩ rfl]
    unfold called
    have eH : (⟨2 * (grid0.coords t 1).val + 1, by omega⟩ : Fin 8) = ⟨(128 * (grid0.coords t 1).val + y2.val) / 64, by omega⟩ := Fin.ext (by show 2 * (grid0.coords t 1).val + 1 = (128 * (grid0.coords t 1).val + y2.val) / 64; omega)
    have eL : (⟨y2.val - 64, by omega⟩ : Fin 128) = ⟨(128 * (grid0.coords t 1).val + y2.val) % 64, by omega⟩ := Fin.ext (by show y2.val - 64 = (128 * (grid0.coords t 1).val + y2.val) % 64; omega)
    rw [eH]
    exact congrArg (rowOut _ _ _ _) eL

/-- 64 lanes, then 32 lanes, then zeros up to 128 lanes. -/
def packed (a : Fin 64 → EReal) (b : Fin 32 → EReal) (d : Fin 128) : EReal :=
  if h : d.val < 64 then a ⟨d.val, h⟩ else if h : d.val - 64 < 32 then b ⟨d.val - 64, h⟩ else 0

theorem headQ_at (c : Dev nD) (b : Fin 16) (h : Fin 8) (r : Fin 4096) (d : Fin 128) : headQ m c b h r d
    = packed (fun i => m ((c : Thread nD τ).loc main_arg0) (ix4 b r h i)) (fun i => m ((c : Thread nD τ).loc main_arg1) (ix4 b r h i)) d * Ideal.ofBits .f32 0x3DD105EC#32 := by
  unfold headQ V
  after_reads_at
  after_reads_at
  rfl

theorem headK_at (c : Dev nD) (b : Fin 16) (h : Fin 8) (r : Fin 4096) (d : Fin 128) : headK m c b h r d
    = packed (fun i => m ((c : Thread nD τ).loc main_arg2) (ix4 b r h i)) (fun i => m ((c : Thread nD τ).loc main_arg3) (ix3 b r i)) d := by
  unfold headK V
  after_reads_at
  after_reads_at
  rfl

theorem headV_at (c : Dev nD) (b : Fin 16) (h : Fin 8) (r : Fin 4096) (d : Fin 128) : headV m c b h r d
    = if h' : d.val < 64 then m ((c : Thread nD τ).loc main_arg4) (ix4 b r h ⟨d.val, h'⟩) else if d.val - 64 < 1 then (1 : EReal) else (0 : EReal) := by
  unfold headV V
  after_reads_at
  after_reads_at
  rfl

end Cert.Proof.Heads

end
-- ==== Proof.Softmax.lean ====
/- Dividing a weighted sum by the sum of its weights is weighting by the divided weights, where the scores are finite. -/
module

public import Idealize.ShloMosaic.Lib.IdealHost
public import Idealize.ShloMosaic.Lib.Pointwise

@[expose] public section

noncomputable section

namespace Cert.Proof.Softmax

open Idealize.ShloMosaic

/-- A sum of extended reals times a nonnegative real. -/
theorem sum_mul_real {n : ℕ} (a : Fin n → EReal) (r : ℝ) (hr : 0 ≤ r) : (∑ c, a c) * (r : EReal) = ∑ c, a c * (r : EReal) := by
  have h : ∀ s : Finset (Fin n), (∑ c ∈ s, a c) * (r : EReal) = ∑ c ∈ s, a c * (r : EReal) := fun s => by
    induction s using Finset.induction_on with
    | empty => simp
    | insert c s hc ih =>
      rw [Finset.sum_insert hc, Finset.sum_insert hc, EReal.right_distrib_of_nonneg_of_ne_top (by exact_mod_cast hr) (EReal.coe_ne_top r), ih]
  exact h _

theorem coe_sum {n : ℕ} (w : Fin n → ℝ) : ((∑ c, w c : ℝ) : EReal) = ∑ c, (w c : EReal) := by
  have h : ∀ s : Finset (Fin n), ((∑ c ∈ s, w c : ℝ) : EReal) = ∑ c ∈ s, (w c : EReal) := fun s => by
    induction s using Finset.induction_on with
    | empty => simp
    | insert c s hc ih => rw [Finset.sum_insert hc, Finset.sum_insert hc, EReal.coe_add, ih]
  exact h _

/-- The largest of finitely many reals, at least one, is a real. -/
theorem fold_max_real {n : ℕ} (x : Fin (n + 1) → ℝ) : ∃ M : ℝ, (Finset.univ.fold max ⊥ fun c => (x c : EReal)) = (M : EReal) := by
  have h : ∀ s : Finset (Fin (n + 1)), (s = ∅ ∧ (s.fold max ⊥ fun c => (x c : EReal)) = ⊥) ∨ ∃ M : ℝ, (s.fold max ⊥ fun c => (x c : EReal)) = (M : EReal) := fun s => by
    induction s using Finset.induction_on with
    | empty => exact Or.inl ⟨rfl, rfl⟩
    | insert c s hc ih =>
      right
      rw [Finset.fold_insert hc]
      rcases ih with ⟨_, h⟩ | ⟨M, h⟩
      · exact ⟨x c, by rw [h]; exact max_eq_left bot_le⟩
      · exact ⟨max (x c) M, by rw [h]; exact (EReal.coe_strictMono.monotone.map_max).symm⟩
  rcases h Finset.univ with ⟨h, _⟩ | h
  · exact absurd h (Finset.univ_nonempty.ne_empty)
  · exact h

/-- The two orders of dividing, for finite scores `x` and any values `v`. -/
theorem divide {n : ℕ} (s : Fin (n + 1) → EReal) (x : Fin (n + 1) → ℝ) (hx : ∀ c, s c = (x c : EReal)) (v : Fin (n + 1) → EReal) :
    Ideal.div (∑ c, Ideal.exp (s c - Finset.univ.fold max ⊥ s) * v c) (∑ c, Ideal.exp (s c - Finset.univ.fold max ⊥ s))
      = ∑ c, v c * Ideal.div (Ideal.exp (s c - Finset.univ.fold max ⊥ s)) (∑ c, Ideal.exp (s c - Finset.univ.fold max ⊥ s)) := by
  obtain rfl : s = fun c => (x c : EReal) := funext hx
  obtain ⟨M, hM⟩ := fold_max_real x
  have hw : ∀ c, Ideal.exp ((x c : EReal) - Finset.univ.fold max ⊥ fun c => (x c : EReal)) = (Real.exp (x c - M) : EReal) := fun c => by
    rw [hM, ← EReal.coe_sub]; rfl
  simp only [hw]
  rw [← coe_sum]
  have hD : 0 < ∑ c, Real.exp (x c - M) := Finset.sum_pos (fun c _ => Real.exp_pos _) Finset.univ_nonempty
  have hne : ((∑ c, Real.exp (x c - M) : ℝ) : EReal) ≠ 0 := by exact_mod_cast hD.ne'
  unfold Ideal.div
  simp only [if_neg hne]
  rw [← EReal.coe_inv, sum_mul_real _ _ (inv_nonneg.mpr hD.le)]
  refine Finset.sum_congr rfl fun c _ => ?_
  rw [mul_comm _ (v c), mul_assoc]

end Cert.Proof.Softmax

end
-- ==== Proof.Reference.lean ====
/- The reference's result at an index. -/
module

public import proofs.«01_k».proof.Proof.Result
public import proofs.«01_k».proof.Proof.Softmax
public import proofs.«01_k».proof.Proof.Gen.ReferenceIdeal.Read

@[expose] public section

set_option maxRecDepth 16384

noncomputable section

namespace Cert.Proof.Heads

open Idealize.ShloMosaic Cert.ReferenceIdeal Cert.ReferenceIdeal.Read

variable (x0 : S16x4096x8x64.Idx → EReal) (x1 : S16x4096x8x32.Idx → EReal) (x2 : S16x4096x8x64.Idx → EReal) (x3 : S16x4096x32.Idx → EReal) (x4 : S16x4096x8x64.Idx → EReal)

/-- The score of query row `r` and key row `k` of head `h`. -/
def refScore (b : Fin 16) (h : Fin 8) (r k : Fin 4096) : EReal :=
  (∑ d, x0 (ix4 b r h d) * x2 (ix4 b k h d) + ∑ d, x3 (ix3 b k d) * x1 (ix4 b r h d)) * Ideal.ofBits .f32 0x3DD105EC#32

theorem score_at (b : Fin 16) (h : Fin 8) (r k : Fin 4096) : val_main_v5 (F := Ideal) x0 x1 x2 x3 (ix4 b h r k) = refScore x0 x1 x2 x3 b h r k := by
  pointwise [val_main_v5, val_main_v3, val_main_v0, val_main_v2, val_main_v1, val_main_v4, val_main_cst, refScore]

theorem largest_at (b : Fin 16) (h : Fin 8) (r : Fin 4096) : val_main_v6 (F := Ideal) x0 x1 x2 x3 (ix3 b h r) = Finset.univ.fold max ⊥ fun k => refScore x0 x1 x2 x3 b h r k := by
  unfold val_main_v6
  simp only [← score_at]
  generalize val_main_v5 (F := Ideal) x0 x1 x2 x3 = s
  pointwise [val_main_cst_0]
  rw [ofBits_bot]

theorem weight_at (b : Fin 16) (h : Fin 8) (r k : Fin 4096) : val_main_v12 (F := Ideal) x0 x1 x2 x3 (ix4 b h r k)
    = Ideal.exp (refScore x0 x1 x2 x3 b h r k - Finset.univ.fold max ⊥ fun k => refScore x0 x1 x2 x3 b h r k) := by
  have e : idx_main_v9 (idx_main_v10 (ix4 b h r k)) = ix3 b h r := by funext a; fin_cases a <;> rfl
  rw [val_main_v12_apply, val_main_v11_apply, val_main_v10_apply, val_main_v9_apply, val_main_v8_apply, val_main_v7_apply, val_main_cst_1_apply, e, score_at, largest_at]
  generalize (Finset.univ.fold max ⊥ fun k => refScore x0 x1 x2 x3 b h r k) = M
  generalize refScore x0 x1 x2 x3 b h r k = s
  show Ideal.exp (s - max (Ideal.ofBits .f32 0xFF800000#32) M) = _
  rw [ofBits_bot, max_eq_right bot_le]

theorem share_at (b : Fin 16) (h : Fin 8) (r k : Fin 4096) : val_main_v16 (F := Ideal) x0 x1 x2 x3 (ix4 b h r k)
    = Ideal.div (val_main_v12 (F := Ideal) x0 x1 x2 x3 (ix4 b h r k)) (∑ k, val_main_v12 (F := Ideal) x0 x1 x2 x3 (ix4 b h r k)) := by
  unfold val_main_v16 val_main_v15 val_main_v14 val_main_v13
  generalize val_main_v12 (F := Ideal) x0 x1 x2 x3 = s
  pointwise [val_main_cst_2]

/-- The reference's result: column `64 h + l` of row `r` is lane `l` of head `h`. -/
theorem ref_at (b : Fin 16) (r : Fin 4096) (l : Fin 512) : val_main_v19 (F := Ideal) x0 x1 x2 x3 x4 (ix3 b r l)
    = ∑ k, x4 (ix4 b k ⟨l.val / 64, by omega⟩ ⟨l.val % 64, by omega⟩) * val_main_v16 (F := Ideal) x0 x1 x2 x3 (ix4 b ⟨l.val / 64, by omega⟩ r k) := by
  unfold val_main_v19 val_main_v18 val_main_v17
  generalize val_main_v16 (F := Ideal) x0 x1 x2 x3 = s
  pointwise

end Cert.Proof.Heads

end
-- ==== Proof.Equal.lean ====
/- Where queries and keys are finite, the packed call's row is the reference's row. -/
module

public import proofs.«01_k».proof.Proof.Reference

@[expose] public section

set_option maxRecDepth 16384

noncomputable section

namespace Cert.Proof.Heads

open Idealize.ShloMosaic

theorem scale_real : ∃ r : ℝ, Ideal.ofBits .f32 0x3DD105EC#32 = (r : EReal) := by
  simp [Ideal.ofBits, Ideal.ieee]
  exact ⟨13698540 * ((2 ^ 27 : ℝ))⁻¹, by push_cast; rfl⟩

theorem sum_three (f : Fin 128 → EReal) :
    ∑ d, f d = (∑ d : Fin 64, f ⟨d.val, by omega⟩) + ((∑ d : Fin 32, f ⟨64 + d.val, by omega⟩) + ∑ d : Fin 32, f ⟨64 + (32 + d.val), by omega⟩) := by
  rw [Fin.sum_univ_two_halves 64 64 rfl]
  exact congrArg _ (Fin.sum_univ_two_halves 32 32 rfl fun d : Fin 64 => f ⟨64 + d.val, by omega⟩)

theorem packed_left (a : Fin 64 → EReal) (b : Fin 32 → EReal) (d : Fin 64) : packed a b ⟨d.val, by omega⟩ = a d := by
  unfold packed
  rw [dif_pos d.isLt]

theorem packed_middle (a : Fin 64 → EReal) (b : Fin 32 → EReal) (d : Fin 32) : packed a b ⟨64 + d.val, by omega⟩ = b d := by
  unfold packed
  rw [dif_neg (by show ¬ 64 + d.val < 64; omega), dif_pos (by show 64 + d.val - 64 < 32; omega)]
  exact congrArg b (Fin.ext (by show 64 + d.val - 64 = d.val; omega))

theorem packed_right (a : Fin 64 → EReal) (b : Fin 32 → EReal) (d : Fin 32) : packed a b ⟨64 + (32 + d.val), by omega⟩ = 0 := by
  unfold packed
  rw [dif_neg (by show ¬ 64 + (32 + d.val) < 64; omega), dif_neg (by show ¬ 64 + (32 + d.val) - 64 < 32; omega)]

/-- The score of two packed rows: the two parts' products, the zeros dropped. -/
theorem packed_sum (a a' : Fin 64 → EReal) (b b' : Fin 32 → EReal) (s : EReal) :
    (∑ d, packed a b d * s * packed a' b' d) = (∑ d, a d * s * a' d) + ∑ d, b d * s * b' d := by
  rw [sum_three]
  simp only [packed_left, packed_middle, packed_right, mul_zero, Finset.sum_const_zero, add_zero]

/-- Scaling the query before the product, or the score after it: the same where everything is a real number. -/
theorem scaled (a a' : Fin 64 → EReal) (b b' : Fin 32 → EReal) (s : ℝ) (ha : ∀ d, ∃ r : ℝ, a d = r) (ha' : ∀ d, ∃ r : ℝ, a' d = r)
    (hb : ∀ d, ∃ r : ℝ, b d = r) (hb' : ∀ d, ∃ r : ℝ, b' d = r) :
    ∃ r : ℝ, (∑ d, packed a b d * (s : EReal) * packed a' b' d) = r ∧ ((∑ d, a d * a' d) + ∑ d, b' d * b d) * (s : EReal) = r := by
  choose a₁ ha using ha; choose a₂ ha' using ha'; choose b₁ hb using hb; choose b₂ hb' using hb'
  refine ⟨((∑ d, a₁ d * a₂ d) + ∑ d, b₂ d * b₁ d) * s, ?_, ?_⟩
  · rw [packed_sum]
    simp only [ha, ha', hb, hb', ← EReal.coe_mul, ← Softmax.coe_sum, ← EReal.coe_add]
    congr 1
    rw [add_mul, Finset.sum_mul, Finset.sum_mul]
    congr 1 <;> exact Finset.sum_congr rfl fun d _ => by ring
  · simp only [ha, ha', hb, hb', ← EReal.coe_mul, ← Softmax.coe_sum, ← EReal.coe_add]

/-- One row of the call, where its queries and keys are real numbers, is the row that shares out the values. -/
theorem row_eq (q : Fin 4096 → Fin 64 → EReal) (qr : Fin 4096 → Fin 32 → EReal) (k : Fin 4096 → Fin 64 → EReal) (kr : Fin 4096 → Fin 32 → EReal)
    (v : Fin 4096 → Fin 128 → EReal) (hq : ∀ r d, ∃ x : ℝ, q r d = x) (hqr : ∀ r d, ∃ x : ℝ, qr r d = x) (hk : ∀ r d, ∃ x : ℝ, k r d = x)
    (hkr : ∀ r d, ∃ x : ℝ, kr r d = x) (hv : ∀ c, v c 64 = 1) (S : Fin 4096 → EReal) (r : Fin 4096) (l : Fin 128)
    (hS : ∀ c, S c = (∑ d, q r d * k c d + ∑ d, kr c d * qr r d) * Ideal.ofBits .f32 0x3DD105EC#32) :
    rowOut (fun r d => packed (q r) (qr r) d * Ideal.ofBits .f32 0x3DD105EC#32) (fun r d => packed (k r) (kr r) d) v r l
      = ∑ c, v c l * Ideal.div (Ideal.exp (S c - Finset.univ.fold max ⊥ S)) (∑ c, Ideal.exp (S c - Finset.univ.fold max ⊥ S)) := by
  obtain ⟨σ, hσ⟩ := scale_real
  have hs : ∀ c, ∃ x : ℝ, (∑ d, packed (q r) (qr r) d * (σ : EReal) * packed (k c) (kr c) d) = x ∧ S c = x := fun c => by
    obtain ⟨x, h1, h2⟩ := scaled (q r) (k c) (qr r) (kr c) σ (hq r) (hk c) (hqr r) (hkr c)
    exact ⟨x, h1, by rw [hS, hσ]; exact h2⟩
  choose x h1 h2 using hs
  have e : (fun c => ∑ d, packed (q r) (qr r) d * Ideal.ofBits .f32 0x3DD105EC#32 * packed (k c) (kr c) d) = S := funext fun c => by
    rw [hσ, h1, h2]
  have e' := fun c => congrFun e c
  unfold rowOut
  simp only [e', hv, mul_one]
  exact Softmax.divide S x h2 fun c => v c l

theorem packs_eq (c : Dev Cert.KernelIdeal.nD) (m : (ℓ : Loc Cert.KernelIdeal.nD Cert.KernelIdeal.τ Cert.KernelIdeal.sig) → Buf (Elt Ideal) ℓ)
    (x0 : Cert.ReferenceIdeal.S16x4096x8x64.Idx → EReal) (x1 : Cert.ReferenceIdeal.S16x4096x8x32.Idx → EReal) (x2 : Cert.ReferenceIdeal.S16x4096x8x64.Idx → EReal)
    (x3 : Cert.ReferenceIdeal.S16x4096x32.Idx → EReal) (x4 : Cert.ReferenceIdeal.S16x4096x8x64.Idx → EReal)
    (e0 : m ((c.tc : Thread Cert.KernelIdeal.nD Cert.KernelIdeal.τ).loc Cert.KernelIdeal.main_arg0) = x0)
    (e1 : m ((c.tc : Thread Cert.KernelIdeal.nD Cert.KernelIdeal.τ).loc Cert.KernelIdeal.main_arg1) = x1)
    (e2 : m ((c.tc : Thread Cert.KernelIdeal.nD Cert.KernelIdeal.τ).loc Cert.KernelIdeal.main_arg2) = x2)
    (e3 : m ((c.tc : Thread Cert.KernelIdeal.nD Cert.KernelIdeal.τ).loc Cert.KernelIdeal.main_arg3) = x3)
    (e4 : m ((c.tc : Thread Cert.KernelIdeal.nD Cert.KernelIdeal.τ).loc Cert.KernelIdeal.main_arg4) = x4)
    (f0 : ∀ i, ∃ x : ℝ, x0 i = x) (f1 : ∀ i, ∃ x : ℝ, x1 i = x) (f2 : ∀ i, ∃ x : ℝ, x2 i = x) (f3 : ∀ i, ∃ x : ℝ, x3 i = x) :
    called m c = Cert.ReferenceIdeal.Read.val_main_v19 (F := Ideal) x0 x1 x2 x3 x4 := by
  funext j
  obtain ⟨b, r, l, rfl⟩ : ∃ (b : Fin 16) (r : Fin 4096) (l : Fin 512), j = ix3 b r l := ⟨j 0, j 1, j 2, eq_ix3 j⟩
  have hl := l.isLt
  rw [ref_at]
  simp only [share_at, weight_at]
  show rowOut (headQ m c b ⟨l.val / 64, by omega⟩) (headK m c b ⟨l.val / 64, by omega⟩) (headV m c b ⟨l.val / 64, by omega⟩) r ⟨l.val % 64, by omega⟩ = _
  rw [show headQ m c b ⟨l.val / 64, by omega⟩ = fun r d => packed (fun i => x0 (ix4 b r ⟨l.val / 64, by omega⟩ i)) (fun i => x1 (ix4 b r ⟨l.val / 64, by omega⟩ i)) d * Ideal.ofBits .f32 0x3DD105EC#32 from
      funext fun r => funext fun d => by rw [headQ_at, e0, e1],
    show headK m c b ⟨l.val / 64, by omega⟩ = fun r d => packed (fun i => x2 (ix4 b r ⟨l.val / 64, by omega⟩ i)) (fun i => x3 (ix3 b r i)) d from
      funext fun r => funext fun d => by rw [headK_at, e2, e3]]
  rw [row_eq (fun r i => x0 (ix4 b r ⟨l.val / 64, by omega⟩ i)) (fun r i => x1 (ix4 b r ⟨l.val / 64, by omega⟩ i)) (fun r i => x2 (ix4 b r ⟨l.val / 64, by omega⟩ i))
    (fun r i => x3 (ix3 b r i)) (headV m c b ⟨l.val / 64, by omega⟩) (fun _ _ => f0 _) (fun _ _ => f1 _) (fun _ _ => f2 _) (fun _ _ => f3 _)
    (fun k => by rw [headV_at, dif_neg (by decide), if_pos (by decide)]) (fun k => refScore x0 x1 x2 x3 b ⟨l.val / 64, by omega⟩ r k) r _ (fun k => rfl)]
  refine Finset.sum_congr rfl fun k _ => congrArg₂ (· * ·) ?_ rfl
  rw [headV_at, e4, dif_pos (by show l.val % 64 < 64; omega)]

end Cert.Proof.Heads

end
-- ==== Proof.Cross.lean ====
/- The cross attention call, index by index. -/
module

public import proofs.«01_k».proof.Proof.Softmax
public import proofs.«01_k».proof.Proof.Heads
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Cross

open Idealize.ShloMosaic Idealize.ShloMosaic.TcCoe Idealize.SL.Sem Cert.Kernel4Ideal Cert.Kernel4Ideal.Gen

variable (m : (ℓ : Loc nD τ sig) → Buf (Elt Ideal) ℓ)

/-- A row divided by its root mean square and weighted. -/
def normed (x g : Fin 1024 → EReal) (k : Fin 1024) : EReal :=
  x k * Ideal.rsqrt (Ideal.div (∑ c, x c * x c) (Ideal.ofBits FTy.f32 1149239296#32) + Ideal.ofBits FTy.f32 897988541#32) * g k

/-- The scale of the scores, one over the root of 128 rounded. -/
def scale : EReal := Ideal.ofBits FTy.f32 1035273459#32

def proj (x g : Fin 1024 → EReal) (w : Fin 1024 → Fin 512 → EReal) (n : Fin 512) : EReal := (∑ k, normed x g k * w k n) * scale

/-- Entry `j` of the softmax of a row of scores. -/
def soft (s : Fin 256 → EReal) (j : Fin 256) : EReal :=
  Ideal.div (Ideal.exp (s j - Finset.univ.fold max ⊥ s)) (∑ i, Ideal.exp (s i - Finset.univ.fold max ⊥ s))

def headRow (q : Fin 128 → EReal) (k v : Fin 256 → Fin 128 → EReal) (l : Fin 128) : EReal :=
  ∑ j, soft (fun i => ∑ d, q d * k i d) j * v j l

def keys (kv : Fin 256 → Fin 1024 → EReal) (hd : Fin 4) (j : Fin 256) (d : Fin 128) : EReal := kv j ⟨hd.val * 256 + d.val, by omega⟩
def vals (kv : Fin 256 → Fin 1024 → EReal) (hd : Fin 4) (j : Fin 256) (d : Fin 128) : EReal := kv j ⟨hd.val * 256 + (128 + d.val), by omega⟩
def query (q : Fin 512 → EReal) (hd : Fin 4) (d : Fin 128) : EReal := q ⟨hd.val * 128 + d.val, by omega⟩

/-- One row of the result. -/
def rowOut (x g : Fin 1024 → EReal) (kv : Fin 256 → Fin 1024 → EReal) (wq : Fin 1024 → Fin 512 → EReal) (wo : Fin 512 → Fin 1024 → EReal) (k : Fin 1024) : EReal :=
  x k + ∑ n : Fin 512, headRow (query (proj x g wq) ⟨n.val / 128, by omega⟩) (keys kv ⟨n.val / 128, by omega⟩) (vals kv ⟨n.val / 128, by omega⟩) ⟨n.val % 128, by omega⟩ * wo n k

theorem pay3_val (v0 : Vec Ideal S1x512x1024 .f32) (v2 : Vec Ideal S1x1024 .f32) (v17 : Vec Ideal S1024x512 .bf16) (r : Fin 512) (n : Fin 512) :
    k0_pay3 (F := Ideal) v0 v2 v17 (ix2 r n) = proj (fun k => v0 (ix3 0 r k)) (fun k => v2 (ix2 0 k)) (fun k n => v17 (ix2 k n)) n := by
  unfold proj normed scale
  pointwise [k0_pay3, k0_pay2]

theorem pay8_val (v22 : FVec Ideal S512x512 .bf16) (v40 : Vec Ideal S1x256x128 .bf16) (v42 : Vec Ideal S1x256x128 .bf16) (r : Fin 512) (l : Fin 128) :
    k0_pay8 (F := Ideal) v22 v40 v42 (ix2 r l) = headRow (query (fun n => v22 (ix2 r n)) 1) (fun j d => v40 (ix3 0 j d)) (fun j d => v42 (ix3 0 j d)) l := by
  unfold headRow soft query
  rw [← Heads.ofBits_bot]
  pointwise [k0_pay8]

theorem pay9_val (v22 : FVec Ideal S512x512 .bf16) (v40 : Vec Ideal S1x256x128 .bf16) (v42 : Vec Ideal S1x256x128 .bf16) (r : Fin 512) (l : Fin 128) :
    k0_pay9 (F := Ideal) v22 v40 v42 (ix2 r l) = headRow (query (fun n => v22 (ix2 r n)) 2) (fun j d => v40 (ix3 0 j d)) (fun j d => v42 (ix3 0 j d)) l := by
  unfold headRow soft query
  rw [← Heads.ofBits_bot]
  pointwise [k0_pay9]

theorem pay7_val (v0 : Vec Ideal S1x512x1024 .f32) (v2 : Vec Ideal S1x1024 .f32) (v17 : Vec Ideal S1024x512 .bf16) (v40 : Vec Ideal S1x256x128 .bf16) (v42 : Vec Ideal S1x256x128 .bf16) (r : Fin 512) (l : Fin 128) :
    k0_pay7 (F := Ideal) (k0_pay4 v42) (k0_pay5 v0 v2 v17 v40) (k0_pay6 v0 v2 v17 v40) (ix2 r l)
      = headRow (query (fun n => k0_pay3 (F := Ideal) v0 v2 v17 (ix2 r n)) 0) (fun j d => v40 (ix3 0 j d)) (fun j d => v42 (ix3 0 j d)) l := by
  unfold headRow soft query k0_pay6 k0_pay5
  generalize k0_pay3 (F := Ideal) v0 v2 v17 = q
  rw [← Heads.ofBits_bot]
  pointwise [k0_pay7, k0_pay4]

theorem pay1_val (v1 : FVec Ideal S512x1024 .f32) (v22 : FVec Ideal S512x512 .bf16) (v39 v56 v73 : FVec Ideal S512x128 .f32) (v74 v76 : Vec Ideal S1x256x128 .bf16)
    (v93 : Vec Ideal S512x1024 .bf16) (r : Fin 512) (k : Fin 1024) :
    k0_pay1 (F := Ideal) v1 v22 v39 v56 v73 v74 v76 v93 (ix3 0 r k) = v1 (ix2 r k) + ∑ n : Fin 512,
      (if h : n.val < 128 then v39 (ix2 r ⟨n.val, h⟩) else if h : n.val - 128 < 128 then v56 (ix2 r ⟨n.val - 128, h⟩)
        else if h : n.val - 128 - 128 < 128 then v73 (ix2 r ⟨n.val - 128 - 128, h⟩)
        else headRow (query (fun n => v22 (ix2 r n)) 3) (fun j d => v74 (ix3 0 j d)) (fun j d => v76 (ix3 0 j d)) ⟨n.val - 128 - 128 - 128, by omega⟩) * v93 (ix2 n k) := by
  unfold headRow soft query
  rw [← Heads.ofBits_bot]
  pointwise [k0_pay1]

theorem out_val (x0 : Vec Ideal S1x512x1024 .f32) (x1 : Vec Ideal S1x1024 .f32) (x2 : Vec Ideal S1x256x1024 .bf16) (x3 : Vec Ideal S1024x512 .bf16) (x4 : Vec Ideal S512x1024 .bf16)
    (r : Fin 512) (k : Fin 1024) :
    out0_5 (F := Ideal) x0 x1 x2 x3 x4 (ix3 0 r k) = rowOut (fun k => x0 (ix3 0 r k)) (fun k => x1 (ix2 0 k)) (fun j n => x2 (ix3 0 j n)) (fun k n => x3 (ix2 k n)) (fun n k => x4 (ix2 n k)) k := by
  unfold_out out0_5
  rw [View.canon_cons_unit_lit _ _ _ (by decide), pay1_val]
  unfold rowOut
  have e0 : View.ld x0 r0_0 = x0 := by funext y; idx_vars y; obtain rfl : y0 = 0 := Fin.ext (by omega); pointwise [r0_0]
  have e1 : View.ld x1 r0_1 = x1 := by funext y; idx_vars y; obtain rfl : y0 = 0 := Fin.ext (by omega); pointwise [r0_1]
  have e3 : View.ld x3 r0_2 = x3 := by funext y; idx_vars y; pointwise [r0_2]
  have e4 : View.ld x4 r0_11 = x4 := by funext y; idx_vars y; pointwise [r0_11]
  rw [e0, e1, e3, e4]
  refine congrArg₂ (· + ·) (by pointwise [k0_pay2]) (Finset.sum_congr rfl fun n _ => congrArg (· * x4 (ix2 n k)) ?_)
  simp only [pay7_val, pay8_val, pay9_val, pay3_val]
  have hn := n.isLt
  split_ifs with h0 h1 h2
  · rw [show (⟨n.val / 128, by omega⟩ : Fin 4) = 0 from Fin.ext (by show n.val / 128 = 0; omega), show (⟨n.val % 128, by omega⟩ : Fin 128) = ⟨n.val, h0⟩ from Fin.ext (by show n.val % 128 = n.val; omega)]
    congr 1 <;> funext j d
    · unfold keys; pointwise [r0_3]
    · unfold vals; pointwise [r0_4]
  · rw [show (⟨n.val / 128, by omega⟩ : Fin 4) = 1 from Fin.ext (by show n.val / 128 = 1; omega), show (⟨n.val % 128, by omega⟩ : Fin 128) = ⟨n.val - 128, h1⟩ from Fin.ext (by show n.val % 128 = n.val - 128; omega)]
    congr 1 <;> funext j d
    · unfold keys; pointwise [r0_5]
    · unfold vals; pointwise [r0_6]
      exact congrArg (fun n => x2 (ix3 0 j n)) (Fin.ext (by show 384 + d.val = 256 + (128 + d.val); omega))
  · rw [show (⟨n.val / 128, by omega⟩ : Fin 4) = 2 from Fin.ext (by show n.val / 128 = 2; omega), show (⟨n.val % 128, by omega⟩ : Fin 128) = ⟨n.val - 128 - 128, h2⟩ from Fin.ext (by show n.val % 128 = n.val - 128 - 128; omega)]
    congr 1 <;> funext j d
    · unfold keys; pointwise [r0_7]
    · unfold vals; pointwise [r0_8]
      exact congrArg (fun n => x2 (ix3 0 j n)) (Fin.ext (by show 640 + d.val = 512 + (128 + d.val); omega))
  · rw [show (⟨n.val / 128, by omega⟩ : Fin 4) = 3 from Fin.ext (by show n.val / 128 = 3; omega), show (⟨n.val % 128, by omega⟩ : Fin 128) = ⟨n.val - 128 - 128 - 128, by omega⟩ from Fin.ext (by show n.val % 128 = n.val - 128 - 128 - 128; omega)]
    congr 1 <;> funext j d
    · unfold keys; pointwise [r0_9]
    · unfold vals; pointwise [r0_10]
      exact congrArg (fun n => x2 (ix3 0 j n)) (Fin.ext (by show 896 + d.val = 768 + (128 + d.val); omega))

variable (m : (ℓ : Loc nD τ sig) → Buf (Elt Ideal) ℓ)

theorem idx : ∀ t : Fin grid0.N, win0_0.index t = ![(grid0.coords t 0).val, (grid0.coords t 1).val, 0] ∧ win0_1.index t = ![0, 0]
    ∧ win0_2.index t = ![(grid0.coords t 0).val, 0, 0] ∧ win0_3.index t = ![0, 0] ∧ win0_4.index t = ![0, 0]
    ∧ win0_5.index t = ![(grid0.coords t 0).val, (grid0.coords t 1).val, 0] := by
  decide +kernel

/-- What the call leaves, from the arrays the program is given. -/
def called (c : Dev nD) (j : S16x4096x1024.Idx) : EReal :=
  rowOut (fun k => m ((c : Thread nD τ).loc main_arg0) (ix3 (j 0) (j 1) k)) (fun k => m ((c : Thread nD τ).loc main_arg2) (ix1 k))
    (fun i n => m ((c : Thread nD τ).loc main_arg1) (ix3 (j 0) i n)) (fun k n => m ((c : Thread nD τ).loc main_arg3) (ix2 k n))
    (fun n k => m ((c : Thread nD τ).loc main_arg4) (ix2 n k)) (j 2)

theorem gain (c : Dev nD) (k : Fin 1024) : V (F := Ideal) m c main_v0 (ix2 0 k) = m ((c : Thread nD τ).loc main_arg2) (ix1 k) := by
  unfold V; after_reads_at

theorem wq (c : Dev nD) (k : Fin 1024) (n : Fin 512) : V (F := Ideal) m c main_v1 (ix2 k n) = m ((c : Thread nD τ).loc main_arg3) (ix2 k n) := by
  unfold V; after_reads_at

theorem wo (c : Dev nD) (k : Fin 512) (n : Fin 1024) : V (F := Ideal) m c main_v2 (ix2 k n) = m ((c : Thread nD τ).loc main_arg4) (ix2 k n) := by
  unfold V; after_reads_at

theorem result (c : Dev nD) : (dats m 0 c).arrAt 5 cfg0.N = called m c := by
  refine (dats m 0 c).arrAt_eq_of_covers 5 _ (by decide +kernel) fun t hf y => ?_
  blk_simp
  rw [after0_5]
  change S1x512x1024.Idx at y
  idx_vars y
  have h1 := y1.isLt
  have g0 : (grid0.coords t 0).val < 16 := (grid0.coords t 0).isLt
  have g1 : (grid0.coords t 1).val < 8 := (grid0.coords t 1).isLt
  have e : (win0_5.blk t).view.emb (ix3 y0 y1 y2) = (ix3 ⟨(grid0.coords t 0).val, g0⟩ ⟨512 * (grid0.coords t 1).val + y1.val, by omega⟩ y2 : S16x4096x1024.Idx) := by
    blk_ext [(idx t).2.2.2.2.2]
  rw [e]
  have hy0 : y0 = 0 := Fin.ext (by omega)
  subst hy0
  refine (out_val _ _ _ _ _ y1 y2).trans ?_
  show _ = rowOut _ _ _ _ _ y2
  congr 1
  · funext k
    blk_ext [iblk, (idx t).1]
  · funext k
    refine Eq.trans ?_ (gain m c k)
    blk_ext [iblk, (idx t).2.1]
  · funext i n
    blk_ext [iblk, (idx t).2.2.1]
  · funext k n
    refine Eq.trans ?_ (wq m c k n)
    blk_ext [iblk, (idx t).2.2.2.1]
  · funext k n
    refine Eq.trans ?_ (wo m c k n)
    blk_ext [iblk, (idx t).2.2.2.2.1]

end Cert.Proof.Cross

end
-- ==== Proof.Project.lean ====
/- The input projection call, index by index. -/
module

public import proofs.«01_k».proof.Proof.Cross
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Pipeline.ValueKit.Held
public import Idealize.ShloMosaic.Lib.StableHlo.ReadAt

@[expose] public section

set_option maxRecDepth 16384

noncomputable section

namespace Cert.Proof.Project

open Idealize.ShloMosaic Idealize.ShloMosaic.TcCoe Idealize.SL.Sem Cert.Kernel2Ideal Cert.Kernel2Ideal.Gen

variable (m : (ℓ : Loc nD τ sig) → Buf (Elt Ideal) ℓ)

variable (m : (ℓ : Loc nD τ sig) → Buf (Elt Ideal) ℓ)

theorem leaf_v9 (c : Dev nD) (k : Fin 1024) (n : Fin 4096) : StableHlo.upto hostOps0 (fun b => m (c, b)) 17 (Proc.tc.devRef main_v9) (ix2 k n) = m ((c : Thread nD τ).loc main_arg2) (ix2 k ⟨4128 + n.val, by omega⟩) := by
  after_reads_at

theorem leaf_v10 (c : Dev nD) (k : Fin 1024) (n : Fin 1536) : StableHlo.upto hostOps0 (fun b => m (c, b)) 17 (Proc.tc.devRef main_v10) (ix2 k n) = m ((c : Thread nD τ).loc main_arg2) (ix2 k ⟨n.val, by omega⟩) := by
  after_reads_at

theorem leaf_v11 (c : Dev nD) (k : Fin 1024) (n : Fin 1536) : StableHlo.upto hostOps0 (fun b => m (c, b)) 17 (Proc.tc.devRef main_v11) (ix2 k n) = m ((c : Thread nD τ).loc main_arg2) (ix2 k ⟨2592 + n.val, by omega⟩) := by
  after_reads_at

theorem leaf_v12 (c : Dev nD) (k : Fin 1024) (n : Fin 512) : StableHlo.upto hostOps0 (fun b => m (c, b)) 17 (Proc.tc.devRef main_v12) (ix2 k n) = m ((c : Thread nD τ).loc main_arg2) (ix2 k ⟨1536 + n.val, by omega⟩) := by
  after_reads_at

theorem leaf_v13 (c : Dev nD) (k : Fin 1024) (n : Fin 256) : StableHlo.upto hostOps0 (fun b => m (c, b)) 17 (Proc.tc.devRef main_v13) (ix2 k n) = m ((c : Thread nD τ).loc main_arg2) (ix2 k ⟨2048 + n.val, by omega⟩) := by
  after_reads_at

theorem leaf_v14 (c : Dev nD) (k : Fin 1024) (n : Fin 256) : StableHlo.upto hostOps0 (fun b => m (c, b)) 17 (Proc.tc.devRef main_v14) (ix2 k n) = m ((c : Thread nD τ).loc main_arg2) (ix2 k ⟨2304 + n.val, by omega⟩) := by
  after_reads_at

theorem leaf_v2 (c : Dev nD) (k : Fin 1024) (n : Fin 32) : StableHlo.upto hostOps0 (fun b => m (c, b)) 17 (Proc.tc.devRef main_v2) (ix2 k n) = m ((c : Thread nD τ).loc main_arg2) (ix2 k ⟨2560 + n.val, by omega⟩) := by
  after_reads_at

theorem leaf_v7 (c : Dev nD) (k : Fin 1024) (n : Fin 64) : StableHlo.upto hostOps0 (fun b => m (c, b)) 17 (Proc.tc.devRef main_v7) (ix2 k n) = (0 : EReal) := by
  after_reads_at

theorem leaf_v8 (c : Dev nD) (k : Fin 1024) (n : Fin 32) : StableHlo.upto hostOps0 (fun b => m (c, b)) 17 (Proc.tc.devRef main_v8) (ix2 k n) = (0 : EReal) := by
  after_reads_at

/-- The rope columns once more, each pair turned: column `n` of the turned group. -/
def turned (w : Fin 1024 → Fin 8224 → EReal) (k : Fin 1024) (n : Fin 32) : EReal :=
  if h : n.val < 16 then -(w k ⟨2576 + n.val, by omega⟩) else w k ⟨2544 + n.val, by omega⟩

/-- The weight's columns in the order of the result's groups, zeros about the two rope groups. -/
def column (w : Fin 1024 → Fin 8224 → EReal) (k : Fin 1024) (n : Fin 8448) : EReal :=
  if h : n.val < 4096 then w k ⟨4128 + n.val, by omega⟩
  else if h : n.val < 5632 then w k ⟨n.val - 4096, by omega⟩
  else if h : n.val < 7168 then w k ⟨n.val - 3040, by omega⟩
  else if h : n.val < 8192 then w k ⟨n.val - 5632, by omega⟩
  else if h : n.val < 8256 then 0
  else if h : n.val < 8288 then w k ⟨n.val - 5696, by omega⟩
  else if h : n.val < 8384 then 0
  else if h : n.val < 8416 then turned w k ⟨n.val - 8384, by omega⟩
  else 0

theorem leaf_v6 (c : Dev nD) (k : Fin 1024) (n : Fin 32) : StableHlo.upto hostOps0 (fun b => m (c, b)) 17 (Proc.tc.devRef main_v6) (ix2 k n)
    = turned (fun k n => m ((c : Thread nD τ).loc main_arg2) (ix2 k n)) k n := by
  after_reads_at
  unfold turned
  by_cases h : n.val < 16
  · refine (dif_pos h).trans (Eq.trans ?_ (dif_pos h).symm)
    refine congrArg (fun j => (Neg.neg : EReal → EReal) (m (c, Proc.tc.devRef main_arg2) (ix2 k j))) (Fin.ext ?_)
    show 2560 + (16 + n.val) = 2576 + n.val
    omega
  · refine (dif_neg h).trans (Eq.trans ?_ (dif_neg h).symm)
    refine congrArg (fun j => m (c, Proc.tc.devRef main_arg2) (ix2 k j)) (Fin.ext ?_)
    show 2560 + (n.val - 16) = 2544 + n.val
    omega

theorem pick (w : Fin 1024 → Fin 8224 → EReal) (k : Fin 1024) (n : Fin 8448) (f9 : Fin 4096 → EReal) (f10 : Fin 1536 → EReal) (f11 : Fin 1536 → EReal) (f12 : Fin 512 → EReal) (f13 : Fin 256 → EReal) (f14 : Fin 256 → EReal) (f7 : Fin 64 → EReal) (f2 : Fin 32 → EReal) (f8 : Fin 32 → EReal) (f6 : Fin 32 → EReal)
    (h9 : ∀ n : Fin 4096, f9 n = w k ⟨4128 + n.val, by omega⟩) (h10 : ∀ n : Fin 1536, f10 n = w k ⟨n.val, by omega⟩) (h11 : ∀ n : Fin 1536, f11 n = w k ⟨2592 + n.val, by omega⟩) (h12 : ∀ n : Fin 512, f12 n = w k ⟨1536 + n.val, by omega⟩) (h13 : ∀ n : Fin 256, f13 n = w k ⟨2048 + n.val, by omega⟩) (h14 : ∀ n : Fin 256, f14 n = w k ⟨2304 + n.val, by omega⟩) (h7 : ∀ n : Fin 64, f7 n = 0) (h2 : ∀ n : Fin 32, f2 n = w k ⟨2560 + n.val, by omega⟩) (h8 : ∀ n : Fin 32, f8 n = 0) (h6 : ∀ n : Fin 32, f6 n = turned w k n) :
    (if h : n.val < 4096 then f9 ⟨n.val, by omega⟩ else if h : n.val - 4096 < 1536 then f10 ⟨n.val - 4096, by omega⟩ else if h : n.val - 4096 - 1536 < 1536 then f11 ⟨n.val - 4096 - 1536, by omega⟩ else if h : n.val - 4096 - 1536 - 1536 < 512 then f12 ⟨n.val - 4096 - 1536 - 1536, by omega⟩ else if h : n.val - 4096 - 1536 - 1536 - 512 < 256 then f13 ⟨n.val - 4096 - 1536 - 1536 - 512, by omega⟩ else if h : n.val - 4096 - 1536 - 1536 - 512 - 256 < 256 then f14 ⟨n.val - 4096 - 1536 - 1536 - 512 - 256, by omega⟩ else if h : n.val - 4096 - 1536 - 1536 - 512 - 256 - 256 < 64 then f7 ⟨n.val - 4096 - 1536 - 1536 - 512 - 256 - 256, by omega⟩ else if h : n.val - 4096 - 1536 - 1536 - 512 - 256 - 256 - 64 < 32 then f2 ⟨n.val - 4096 - 1536 - 1536 - 512 - 256 - 256 - 64, by omega⟩ else if h : n.val - 4096 - 1536 - 1536 - 512 - 256 - 256 - 64 - 32 < 32 then f8 ⟨n.val - 4096 - 1536 - 1536 - 512 - 256 - 256 - 64 - 32, by omega⟩ else if h : n.val - 4096 - 1536 - 1536 - 512 - 256 - 256 - 64 - 32 - 32 < 64 then f7 ⟨n.val - 4096 - 1536 - 1536 - 512 - 256 - 256 - 64 - 32 - 32, by omega⟩ else if h : n.val - 4096 - 1536 - 1536 - 512 - 256 - 256 - 64 - 32 - 32 - 64 < 32 then f6 ⟨n.val - 4096 - 1536 - 1536 - 512 - 256 - 256 - 64 - 32 - 32 - 64, by omega⟩ else f8 ⟨n.val - 4096 - 1536 - 1536 - 512 - 256 - 256 - 64 - 32 - 32 - 64 - 32, by omega⟩) = column w k n := by
  have hn := n.isLt
  unfold column
  by_cases b0 : n.val < 4096
  · refine (dif_pos (by omega)).trans ((h9 _).trans ?_)
    symm
    refine (dif_pos (by omega)).trans ?_
    refine congrArg (w k) (Fin.ext ?_)
    show 4128 + n.val = 4128 + (n.val)
    omega
  refine (dif_neg (by omega)).trans ?_
  by_cases b1 : n.val < 5632
  · refine (dif_pos (by omega)).trans ((h10 _).trans ?_)
    symm
    refine (dif_neg (by omega)).trans ?_
    refine (dif_pos (by omega)).trans ?_
    refine congrArg (w k) (Fin.ext ?_)
    show n.val - 4096 = n.val - 4096
    omega
  refine (dif_neg (by omega)).trans ?_
  by_cases b2 : n.val < 7168
  · refine (dif_pos (by omega)).trans ((h11 _).trans ?_)
    symm
    refine (dif_neg (by omega)).trans ?_
    refine (dif_neg (by omega)).trans ?_
    refine (dif_pos (by omega)).trans ?_
    refine congrArg (w k) (Fin.ext ?_)
    show n.val - 3040 = 2592 + (n.val - 4096 - 1536)
    omega
  refine (dif_neg (by omega)).trans ?_
  by_cases b3 : n.val < 7680
  · refine (dif_pos (by omega)).trans ((h12 _).trans ?_)
    symm
    refine (dif_neg (by omega)).trans ?_
    refine (dif_neg (by omega)).trans ?_
    refine (dif_neg (by omega)).trans ?_
    refine (dif_pos (by omega)).trans ?_
    refine congrArg (w k) (Fin.ext ?_)
    show n.val - 5632 = 1536 + (n.val - 4096 - 1536 - 1536)
    omega
  refine (dif_neg (by omega)).trans ?_
  by_cases b4 : n.val < 7936
  · refine (dif_pos (by omega)).trans ((h13 _).trans ?_)
    symm
    refine (dif_neg (by omega)).trans ?_
    refine (dif_neg (by omega)).trans ?_
    refine (dif_neg (by omega)).trans ?_
    refine (dif_pos (by omega)).trans ?_
    refine congrArg (w k) (Fin.ext ?_)
    show n.val - 5632 = 2048 + (n.val - 4096 - 1536 - 1536 - 512)
    omega
  refine (dif_neg (by omega)).trans ?_
  by_cases b5 : n.val < 8192
  · refine (dif_pos (by omega)).trans ((h14 _).trans ?_)
    symm
    refine (dif_neg (by omega)).trans ?_
    refine (dif_neg (by omega)).trans ?_
    refine (dif_neg (by omega)).trans ?_
    refine (dif_pos (by omega)).trans ?_
    refine congrArg (w k) (Fin.ext ?_)
    show n.val - 5632 = 2304 + (n.val - 4096 - 1536 - 1536 - 512 - 256)
    omega
  refine (dif_neg (by omega)).trans ?_
  by_cases b6 : n.val < 8256
  · refine (dif_pos (by omega)).trans ((h7 _).trans ?_)
    symm
    refine (dif_neg (by omega)).trans ?_
    refine (dif_neg (by omega)).trans ?_
    refine (dif_neg (by omega)).trans ?_
    refine (dif_neg (by omega)).trans ?_
    refine (dif_pos (by omega)).trans ?_
    rfl
  refine (dif_neg (by omega)).trans ?_
  by_cases b7 : n.val < 8288
  · refine (dif_pos (by omega)).trans ((h2 _).trans ?_)
    symm
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    refine congrArg (w k) (Fin.ext ?_)
    show n.val - 5696 = 2560 + (n.val - 4096 - 1536 - 1536 - 512 - 256 - 256 - 64)
    omega
  refine (dif_neg (by omega)).trans ?_
  by_cases b8 : n.val < 8320
  · refine (dif_pos (by omega)).trans ((h8 _).trans ?_)
    symm
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    rfl
  refine (dif_neg (by omega)).trans ?_
  by_cases b9 : n.val < 8384
  · refine (dif_pos (by omega)).trans ((h7 _).trans ?_)
    symm
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    rfl
  refine (dif_neg (by omega)).trans ?_
  by_cases b10 : n.val < 8416
  · refine (dif_pos (by omega)).trans ((h6 _).trans ?_)
    symm
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    refine congrArg (turned w k) (Fin.ext ?_)
    show n.val - 8384 = n.val - 4096 - 1536 - 1536 - 512 - 256 - 256 - 64 - 32 - 32 - 64
    omega
  refine (dif_neg (by omega)).trans ?_
  refine (h8 _).trans ?_
  symm
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  rfl

theorem weight (c : Dev nD) (k : Fin 1024) (n : Fin 8448) : V (F := Ideal) m c main_v16 (ix2 k n) = column (fun k n => m ((c : Thread nD τ).loc main_arg2) (ix2 k n)) k n := by
  unfold V
  after_reads_at
  pointwise
  exact pick (fun k n => m ((c : Thread nD τ).loc main_arg2) (ix2 k n)) k n (fun n => StableHlo.upto hostOps0 (fun b => m (c, b)) 17 (Proc.tc.devRef main_v9) (ix2 k n)) (fun n => StableHlo.upto hostOps0 (fun b => m (c, b)) 17 (Proc.tc.devRef main_v10) (ix2 k n)) (fun n => StableHlo.upto hostOps0 (fun b => m (c, b)) 17 (Proc.tc.devRef main_v11) (ix2 k n)) (fun n => StableHlo.upto hostOps0 (fun b => m (c, b)) 17 (Proc.tc.devRef main_v12) (ix2 k n)) (fun n => StableHlo.upto hostOps0 (fun b => m (c, b)) 17 (Proc.tc.devRef main_v13) (ix2 k n)) (fun n => StableHlo.upto hostOps0 (fun b => m (c, b)) 17 (Proc.tc.devRef main_v14) (ix2 k n)) (fun n => StableHlo.upto hostOps0 (fun b => m (c, b)) 17 (Proc.tc.devRef main_v7) (ix2 k n)) (fun n => StableHlo.upto hostOps0 (fun b => m (c, b)) 17 (Proc.tc.devRef main_v2) (ix2 k n)) (fun n => StableHlo.upto hostOps0 (fun b => m (c, b)) 17 (Proc.tc.devRef main_v8) (ix2 k n)) (fun n => StableHlo.upto hostOps0 (fun b => m (c, b)) 17 (Proc.tc.devRef main_v6) (ix2 k n)) (leaf_v9 m c k) (leaf_v10 m c k) (leaf_v11 m c k) (leaf_v12 m c k) (leaf_v13 m c k) (leaf_v14 m c k) (leaf_v7 m c k) (leaf_v2 m c k) (leaf_v8 m c k) (leaf_v6 m c k)

theorem p1 (v9 : Vec Ideal S1024x1024 .f32) (v11 : Vec Ideal S1x1024 .f32) (r k : Fin 1024) : k0_pay1 (F := Ideal) v9 v11 (ix2 r k) = Cross.normed (fun k => v9 (ix2 r k)) (fun k => v11 (ix2 0 k)) k := by
  unfold Cross.normed
  pointwise [k0_pay1]

theorem p2 (v3 : Vec Ideal S1024x1024 .bf16) (v4 : Vec Ideal S1024x2816 .bf16) (r : Fin 1024) (n : Fin 2816) : k0_pay2 (F := Ideal) v3 v4 (ix2 r n) = ∑ k, v3 (ix2 r k) * v4 (ix2 k n) := by
  pointwise [k0_pay2]

theorem idx : ∀ t : Fin grid0.N, win0_0.index t = ![t.val / 3, 0] ∧ win0_1.index t = ![0, 0] ∧ win0_2.index t = ![0, t.val % 3] ∧ win0_3.index t = ![t.val / 3, t.val % 3] := by
  decide +kernel

theorem first_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S1024x1024 .bf16) (harg6 : arg6.IsWhole) (hc0 : cond0_0 i)
    (x0 : Vec Ideal S1024x1024 .f32) (x1 : Vec Ideal S1x1024 .f32) (x2 : Vec Ideal S1024x2816 .bf16) :
    sout0_A_0 (F := Ideal) c i arg2 harg2 arg3 harg3 arg4 harg4 arg5 harg5 arg6 harg6 hc0 x0 x1 x2 = k0_pay1 x0 x1 := by
  unfold sout0_A_0
  rw [View.read_writes_junk_eq_canon]
  unfold kernelRun0_A
  dsimp only
  sl_unfold_words
  rw [View.canon_cons_unit_lit _ _ _ (by decide)]
  simp only [View.readAt_eq_ld, Memref.IsWhole.read_unread]
  congr 1
  · funext y; idx_vars y; pointwise
  · funext y; idx_vars y; obtain rfl : y0 = 0 := Fin.ext (by omega); pointwise

theorem out_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S1024x1024 .bf16) (harg6 : arg6.IsWhole) (hc0 : cond0_0 i)
    (x0 : Vec Ideal S1024x1024 .f32) (x1 : Vec Ideal S1x1024 .f32) (x2 : Vec Ideal S1024x2816 .bf16) (r : Fin 1024) (n : Fin 2816) :
    out0_A_3 (F := Ideal) c i arg2 harg2 arg3 harg3 arg4 harg4 arg5 harg5 arg6 harg6 hc0 x0 x1 x2 (ix2 r n) = ∑ k, k0_pay1 (F := Ideal) x0 x1 (ix2 r k) * x2 (ix2 k n) := by
  unfold out0_A_3
  rw [View.read_writes_junk_eq_canon]
  unfold kernelRun0_A
  dsimp only
  sl_unfold_words
  rw [View.canon_cons_unit_lit _ _ _ (by decide)]
  simp only [View.readAt_eq_ld, Memref.IsWhole.read_unread]
  rw [View.readCov_unit_lit' _ _ _ (by decide), p2]
  refine Finset.sum_congr rfl fun k _ => ?_
  congr 1
  · congr 1
    · funext y; idx_vars y; pointwise
    · funext y; idx_vars y; obtain rfl : y0 = 0 := Fin.ext (by omega); pointwise
  · pointwise

theorem out_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S1024x1024 .bf16) (harg6 : arg6.IsWhole) (hc0 : ¬cond0_0 i)
    (x0 : Vec Ideal S1024x1024 .f32) (x1 : Vec Ideal S1x1024 .f32) (x2 : Vec Ideal S1024x2816 .bf16) (xs : Vec Ideal S1024x1024 .bf16) (r : Fin 1024) (n : Fin 2816) :
    out0_B_3 (F := Ideal) c i arg2 harg2 arg3 harg3 arg4 harg4 arg5 harg5 arg6 harg6 hc0 x0 x1 x2 xs (ix2 r n) = ∑ k, xs (ix2 r k) * x2 (ix2 k n) := by
  unfold out0_B_3
  rw [View.read_writes_junk_eq_canon]
  unfold kernelRun0_B
  dsimp only
  sl_unfold_words
  rw [View.canon_cons_unit_lit _ _ _ (by decide)]
  simp only [View.readAt_eq_ld, Memref.IsWhole.read_unread]
  rw [p2]
  pointwise

theorem row (c : Dev nD) (r : Fin 65536) (k : Fin 1024) : V (F := Ideal) m c main_v0 (ix2 r k) = m ((c : Thread nD τ).loc main_arg0) (ix3 ⟨r.val / 4096, by omega⟩ ⟨r.val % 4096, by omega⟩ k) := by
  unfold V; after_reads_at
  trace_state

theorem gain (c : Dev nD) (k : Fin 1024) : V (F := Ideal) m c main_v1 (ix2 0 k) = m ((c : Thread nD τ).loc main_arg1) (ix1 k) := by
  unfold V; after_reads_at

/-- The normed row `r` of the input. -/
def nrow (c : Dev nD) (r : Fin 65536) : Fin 1024 → EReal :=
  Cross.normed (fun k => m ((c : Thread nD τ).loc main_arg0) (ix3 ⟨r.val / 4096, by omega⟩ ⟨r.val % 4096, by omega⟩ k)) (fun k => m ((c : Thread nD τ).loc main_arg1) (ix1 k))

theorem fresh (c : Dev nD) (t : Fin cfg0.N) (r k : Fin 1024) (R : Fin 65536) (hR : R.val = 1024 * (t.val / 3) + r.val) :
    k0_pay1 (F := Ideal) (iblk m c 0 t) (iblk m c 1 t) (ix2 r k) = nrow m c R k := by
  refine (p1 _ _ r k).trans ?_
  unfold nrow
  congr 1
  · funext k
    refine Eq.trans ?_ (row m c R k)
    blk_ext [iblk, (idx t).1]
  · funext k
    refine Eq.trans ?_ (gain m c k)
    blk_ext [iblk, (idx t).2.1]

theorem cols (c : Dev nD) (t : Fin cfg0.N) (k : Fin 1024) (n : Fin 2816) (N : Fin 8448) (hN : N.val = 2816 * (t.val % 3) + n.val) :
    iblk (F := Ideal) m c 2 t (ix2 k n) = column (fun k n => m ((c : Thread nD τ).loc main_arg2) (ix2 k n)) k N := by
  refine Eq.trans ?_ (weight m c k N)
  blk_ext [iblk, (idx t).2.2.1]

theorem keep_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S1024x1024 .bf16) (harg6 : arg6.IsWhole) (hc0 : ¬cond0_0 i)
    (x0 : Vec Ideal S1024x1024 .f32) (x1 : Vec Ideal S1x1024 .f32) (x2 : Vec Ideal S1024x2816 .bf16) (xs : Vec Ideal S1024x1024 .bf16) :
    sout0_B_0 (F := Ideal) c i arg2 harg2 arg3 harg3 arg4 harg4 arg5 harg5 arg6 harg6 hc0 x0 x1 x2 xs = xs := rfl

theorem write_step (c : Dev nD) (t : Fin cfg0.N) (h0 : t.val % 3 = 0) :
    (outsAt0 (F := Ideal) m c t.val t.isLt).2 = k0_pay1 (F := Ideal) (iblk m c 0 t) (iblk m c 1 t) :=
  by
  rw [outsAt0_A m c t h0]
  dsimp only
  exact first_A c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

theorem hold_step (c : Dev nD) (t : Fin cfg0.N) (h0 : ¬ t.val % 3 = 0) :
    (outsAt0 (F := Ideal) m c t.val t.isLt).2 = (outsAt0 (F := Ideal) m c (t.val - 1) (Nat.lt_of_le_of_lt (Nat.sub_le _ _) t.isLt)).2 :=
  by
  rw [outsAt0_B m c t h0]
  dsimp only
  exact keep_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2

theorem held (c : Dev nD) (t : Fin cfg0.N) : (outsAt0 (F := Ideal) m c t.val t.isLt).2
    = k0_pay1 (F := Ideal) (iblk m c 0 ⟨3 * (t.val / 3), Pipeline.run_start_lt t⟩) (iblk m c 1 ⟨3 * (t.val / 3), Pipeline.run_start_lt t⟩) :=
  Pipeline.eq_of_write_hold (fun n h => (outsAt0 (F := Ideal) m c n h).2) 3 (fun t => k0_pay1 (F := Ideal) (iblk m c 0 t) (iblk m c 1 t))
    (write_step m c) (hold_step m c) t

theorem out_at (c : Dev nD) (t : Fin cfg0.N) (r : Fin 1024) (n : Fin 2816) (R : Fin 65536) (hR : R.val = 1024 * (t.val / 3) + r.val)
    (N : Fin 8448) (hN : N.val = 2816 * (t.val % 3) + n.val) :
    (outsAt0 (F := Ideal) m c t.val t.isLt).1 (ix2 r n) = ∑ k, nrow m c R k * column (fun k n => m ((c : Thread nD τ).loc main_arg2) (ix2 k n)) k N := by
  by_cases hc : t.val % 3 = 0
  · rw [outsAt0_A m c t hc]
    dsimp only
    refine (out_A c (grid0.coords t) (ms0_0 t) (hs0_0 t) (ms0_1 t) (hs0_1 t) (ms0_2 t) (hs0_2 t) (ms0_3 t) (hs0_3 t) scM0_0 (Memref.isWhole_whole _) ((hcond0_0 t).mpr hc) (iblk m c 0 t) (iblk m c 1 t) (iblk m c 2 t) r n).trans (Finset.sum_congr rfl fun k _ => ?_)
    rw [fresh m c t r k R hR, cols m c t k n N hN]
  · rw [outsAt0_B m c t hc]
    dsimp only
    refine (out_B c (grid0.coords t) (ms0_0 t) (hs0_0 t) (ms0_1 t) (hs0_1 t) (ms0_2 t) (hs0_2 t) (ms0_3 t) (hs0_3 t) scM0_0 (Memref.isWhole_whole _) (fun h => hc ((hcond0_0 t).mp h)) (iblk m c 0 t) (iblk m c 1 t) (iblk m c 2 t) (outsAt0 m c (t.val - 1) (Nat.lt_of_le_of_lt (Nat.sub_le _ _) t.isLt)).2 r n).trans (Finset.sum_congr rfl fun k _ => ?_)
    have hl : t.val - 1 < cfg0.N := Nat.lt_of_le_of_lt (Nat.sub_le _ _) t.isLt
    rw [held m c ⟨t.val - 1, hl⟩, fresh m c _ r k R (by show R.val = 1024 * (3 * ((t.val - 1) / 3) / 3) + r.val; omega), cols m c t k n N hN]

/-- What the call leaves, from the arrays the program is given. -/
def called (c : Dev nD) (j : S65536x8448.Idx) : EReal := ∑ k, nrow m c (j 0) k * column (fun k n => m ((c : Thread nD τ).loc main_arg2) (ix2 k n)) k (j 1)

theorem result (c : Dev nD) : (dats m 0 c).arrAt 3 cfg0.N = called m c := by
  refine (dats m 0 c).arrAt_eq_of_covers 3 _ (by decide +kernel) fun t hf y => ?_
  blk_simp
  rw [after0_3]
  change S1024x2816.Idx at y
  idx_vars y
  have h0 := y0.isLt
  have h1 := y1.isLt
  have ht : t.val < 192 := t.isLt
  have e : (win0_3.blk t).view.emb (ix2 y0 y1) = (ix2 ⟨1024 * (t.val / 3) + y0.val, by omega⟩ ⟨2816 * (t.val % 3) + y1.val, by omega⟩ : S65536x8448.Idx) := by
    blk_ext [(idx t).2.2.2]
  rw [e]
  exact out_at m c t y0 y1 _ rfl _ rfl

end Cert.Proof.Project

end
-- ==== Proof.ProjectReference.lean ====
/- The input projection's reference at an index, and that it is what the call leaves. -/
module

public import proofs.«01_k».proof.Proof.Project

@[expose] public section

set_option maxRecDepth 16384

noncomputable section

namespace Cert.Proof.Project

open Idealize.ShloMosaic Cert.Reference2Ideal Cert.Reference2Ideal.Read

variable (x0 : S16x4096x1024.Idx → EReal) (x1 : S1024.Idx → EReal) (x2 : S1024x8224.Idx → EReal)

theorem gather (h : Fin 1024 → EReal) (w : Fin 1024 → Fin 8224 → EReal) (n : Fin 8448) (f19 : Fin 4096 → EReal) (f15 : Fin 1536 → EReal) (f18 : Fin 1536 → EReal) (f16 : Fin 512 → EReal) (f26 : Fin 512 → EReal) (f28 : Fin 64 → EReal) (f27 : Fin 32 → EReal) (f29 : Fin 32 → EReal) (f25 : Fin 32 → EReal)
    (h19 : ∀ n : Fin 4096, f19 n = ∑ k, h k * w k ⟨4128 + n.val, by omega⟩) (h15 : ∀ n : Fin 1536, f15 n = ∑ k, h k * w k ⟨n.val, by omega⟩) (h18 : ∀ n : Fin 1536, f18 n = ∑ k, h k * w k ⟨2592 + n.val, by omega⟩) (h16 : ∀ n : Fin 512, f16 n = ∑ k, h k * w k ⟨1536 + n.val, by omega⟩) (h26 : ∀ n : Fin 512, f26 n = ∑ k, h k * w k ⟨2048 + n.val, by omega⟩) (h28 : ∀ n : Fin 64, f28 n = 0) (h27 : ∀ n : Fin 32, f27 n = ∑ k, h k * w k ⟨2560 + n.val, by omega⟩) (h29 : ∀ n : Fin 32, f29 n = 0) (h25 : ∀ n : Fin 32, f25 n = ∑ k, h k * turned w k n) :
    (if h : n.val < 4096 then f19 ⟨n.val, by omega⟩ else if h : n.val - 4096 < 1536 then f15 ⟨n.val - 4096, by omega⟩ else if h : n.val - 4096 - 1536 < 1536 then f18 ⟨n.val - 4096 - 1536, by omega⟩ else if h : n.val - 4096 - 1536 - 1536 < 512 then f16 ⟨n.val - 4096 - 1536 - 1536, by omega⟩ else if h : n.val - 4096 - 1536 - 1536 - 512 < 512 then f26 ⟨n.val - 4096 - 1536 - 1536 - 512, by omega⟩ else if h : n.val - 4096 - 1536 - 1536 - 512 - 512 < 64 then f28 ⟨n.val - 4096 - 1536 - 1536 - 512 - 512, by omega⟩ else if h : n.val - 4096 - 1536 - 1536 - 512 - 512 - 64 < 32 then f27 ⟨n.val - 4096 - 1536 - 1536 - 512 - 512 - 64, by omega⟩ else if h : n.val - 4096 - 1536 - 1536 - 512 - 512 - 64 - 32 < 32 then f29 ⟨n.val - 4096 - 1536 - 1536 - 512 - 512 - 64 - 32, by omega⟩ else if h : n.val - 4096 - 1536 - 1536 - 512 - 512 - 64 - 32 - 32 < 64 then f28 ⟨n.val - 4096 - 1536 - 1536 - 512 - 512 - 64 - 32 - 32, by omega⟩ else if h : n.val - 4096 - 1536 - 1536 - 512 - 512 - 64 - 32 - 32 - 64 < 32 then f25 ⟨n.val - 4096 - 1536 - 1536 - 512 - 512 - 64 - 32 - 32 - 64, by omega⟩ else f29 ⟨n.val - 4096 - 1536 - 1536 - 512 - 512 - 64 - 32 - 32 - 64 - 32, by omega⟩) = ∑ k, h k * column w k n := by
  have hn := n.isLt
  unfold column
  by_cases b0 : n.val < 4096
  · refine (dif_pos (by omega)).trans ((h19 _).trans (Finset.sum_congr rfl fun k _ => congrArg (h k * ·) ?_))
    symm
    refine (dif_pos (by omega)).trans ?_
    refine congrArg (w k) (Fin.ext ?_)
    show 4128 + n.val = 4128 + (n.val)
    omega
  refine (dif_neg (by omega)).trans ?_
  by_cases b1 : n.val < 5632
  · refine (dif_pos (by omega)).trans ((h15 _).trans (Finset.sum_congr rfl fun k _ => congrArg (h k * ·) ?_))
    symm
    refine (dif_neg (by omega)).trans ?_
    refine (dif_pos (by omega)).trans ?_
    refine congrArg (w k) (Fin.ext ?_)
    show n.val - 4096 = (n.val - 4096)
    omega
  refine (dif_neg (by omega)).trans ?_
  by_cases b2 : n.val < 7168
  · refine (dif_pos (by omega)).trans ((h18 _).trans (Finset.sum_congr rfl fun k _ => congrArg (h k * ·) ?_))
    symm
    refine (dif_neg (by omega)).trans ?_
    refine (dif_neg (by omega)).trans ?_
    refine (dif_pos (by omega)).trans ?_
    refine congrArg (w k) (Fin.ext ?_)
    show n.val - 3040 = 2592 + (n.val - 4096 - 1536)
    omega
  refine (dif_neg (by omega)).trans ?_
  by_cases b3 : n.val < 7680
  · refine (dif_pos (by omega)).trans ((h16 _).trans (Finset.sum_congr rfl fun k _ => congrArg (h k * ·) ?_))
    symm
    refine (dif_neg (by omega)).trans ?_
    refine (dif_neg (by omega)).trans ?_
    refine (dif_neg (by omega)).trans ?_
    refine (dif_pos (by omega)).trans ?_
    refine congrArg (w k) (Fin.ext ?_)
    show n.val - 5632 = 1536 + (n.val - 4096 - 1536 - 1536)
    omega
  refine (dif_neg (by omega)).trans ?_
  by_cases b4 : n.val < 8192
  · refine (dif_pos (by omega)).trans ((h26 _).trans (Finset.sum_congr rfl fun k _ => congrArg (h k * ·) ?_))
    symm
    refine (dif_neg (by omega)).trans ?_
    refine (dif_neg (by omega)).trans ?_
    refine (dif_neg (by omega)).trans ?_
    refine (dif_pos (by omega)).trans ?_
    refine congrArg (w k) (Fin.ext ?_)
    show n.val - 5632 = 2048 + (n.val - 4096 - 1536 - 1536 - 512)
    omega
  refine (dif_neg (by omega)).trans ?_
  by_cases b5 : n.val < 8256
  · refine (dif_pos (by omega)).trans ((h28 _).trans (Eq.symm (Finset.sum_eq_zero fun k _ => (congrArg (h k * ·) ?_).trans (mul_zero _))))
    refine (dif_neg (by omega)).trans ?_
    refine (dif_neg (by omega)).trans ?_
    refine (dif_neg (by omega)).trans ?_
    refine (dif_neg (by omega)).trans ?_
    refine (dif_pos (by omega)).trans ?_
    rfl
  refine (dif_neg (by omega)).trans ?_
  by_cases b6 : n.val < 8288
  · refine (dif_pos (by omega)).trans ((h27 _).trans (Finset.sum_congr rfl fun k _ => congrArg (h k * ·) ?_))
    symm
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    refine congrArg (w k) (Fin.ext ?_)
    show n.val - 5696 = 2560 + (n.val - 4096 - 1536 - 1536 - 512 - 512 - 64)
    omega
  refine (dif_neg (by omega)).trans ?_
  by_cases b7 : n.val < 8320
  · refine (dif_pos (by omega)).trans ((h29 _).trans (Eq.symm (Finset.sum_eq_zero fun k _ => (congrArg (h k * ·) ?_).trans (mul_zero _))))
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    rfl
  refine (dif_neg (by omega)).trans ?_
  by_cases b8 : n.val < 8384
  · refine (dif_pos (by omega)).trans ((h28 _).trans (Eq.symm (Finset.sum_eq_zero fun k _ => (congrArg (h k * ·) ?_).trans (mul_zero _))))
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    rfl
  refine (dif_neg (by omega)).trans ?_
  by_cases b9 : n.val < 8416
  · refine (dif_pos (by omega)).trans ((h25 _).trans (Finset.sum_congr rfl fun k _ => congrArg (h k * ·) ?_))
    symm
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    refine congrArg (turned w k) (Fin.ext ?_)
    show n.val - 8384 = n.val - 4096 - 1536 - 1536 - 512 - 512 - 64 - 32 - 32 - 64
    omega
  refine (dif_neg (by omega)).trans ?_
  refine (h29 _).trans (Eq.symm (Finset.sum_eq_zero fun k _ => (congrArg (h k * ·) ?_).trans (mul_zero _)))
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  rfl

theorem normed_at (b : Fin 16) (r : Fin 4096) (k : Fin 1024) : val_main_v12 (F := Ideal) x0 x1 (ix3 b r k) = Cross.normed (fun k => x0 (ix3 b r k)) (fun k => x1 (ix1 k)) k := by
  unfold Cross.normed
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- The normed row `r` of the input. -/
def refRow (r : Fin 65536) : Fin 1024 → EReal := Cross.normed (fun k => x0 (ix3 ⟨r.val / 4096, by omega⟩ ⟨r.val % 4096, by omega⟩ k)) (fun k => x1 (ix1 k))

theorem flat_at (r : Fin 65536) (k : Fin 1024) : val_main_v13 (F := Ideal) x0 x1 (ix2 r k) = refRow x0 x1 r k := by
  unfold refRow
  rw [← normed_at]
  unfold val_main_v13
  generalize val_main_v12 (F := Ideal) x0 x1 = s
  pointwise

theorem product_at (r : Fin 65536) (n : Fin 8224) : val_main_v14 (F := Ideal) x0 x1 x2 (ix2 r n) = ∑ k, refRow x0 x1 r k * x2 (ix2 k n) := by
  simp only [← flat_at]
  unfold val_main_v14
  generalize val_main_v13 (F := Ideal) x0 x1 = s
  pointwise

theorem at_v19 (r : Fin 65536) (n : Fin 4096) : val_main_v19 (F := Ideal) x0 x1 x2 (ix2 r n) = ∑ k, refRow x0 x1 r k * x2 (ix2 k ⟨4128 + n.val, by omega⟩) := by
  rw [← product_at]
  unfold val_main_v19
  generalize val_main_v14 (F := Ideal) x0 x1 x2 = s
  pointwise

theorem at_v15 (r : Fin 65536) (n : Fin 1536) : val_main_v15 (F := Ideal) x0 x1 x2 (ix2 r n) = ∑ k, refRow x0 x1 r k * x2 (ix2 k ⟨n.val, by omega⟩) := by
  rw [← product_at]
  unfold val_main_v15
  generalize val_main_v14 (F := Ideal) x0 x1 x2 = s
  pointwise

theorem at_v18 (r : Fin 65536) (n : Fin 1536) : val_main_v18 (F := Ideal) x0 x1 x2 (ix2 r n) = ∑ k, refRow x0 x1 r k * x2 (ix2 k ⟨2592 + n.val, by omega⟩) := by
  rw [← product_at]
  unfold val_main_v18
  generalize val_main_v14 (F := Ideal) x0 x1 x2 = s
  pointwise

theorem at_v16 (r : Fin 65536) (n : Fin 512) : val_main_v16 (F := Ideal) x0 x1 x2 (ix2 r n) = ∑ k, refRow x0 x1 r k * x2 (ix2 k ⟨1536 + n.val, by omega⟩) := by
  rw [← product_at]
  unfold val_main_v16
  generalize val_main_v14 (F := Ideal) x0 x1 x2 = s
  pointwise

theorem at_v26 (r : Fin 65536) (n : Fin 512) : val_main_v26 (F := Ideal) x0 x1 x2 (ix2 r n) = ∑ k, refRow x0 x1 r k * x2 (ix2 k ⟨2048 + n.val, by omega⟩) := by
  rw [← product_at]
  unfold val_main_v26 val_main_v17
  generalize val_main_v14 (F := Ideal) x0 x1 x2 = s
  pointwise

theorem at_v27 (r : Fin 65536) (n : Fin 32) : val_main_v27 (F := Ideal) x0 x1 x2 (ix2 r n) = ∑ k, refRow x0 x1 r k * x2 (ix2 k ⟨2560 + n.val, by omega⟩) := by
  rw [← product_at]
  unfold val_main_v27 val_main_v17
  generalize val_main_v14 (F := Ideal) x0 x1 x2 = s
  pointwise
  exact congrArg (fun n => s (ix2 r n)) (Fin.ext (by show 2048 + (512 + n.val) = 2560 + n.val; omega))

theorem at_v28 (r : Fin 65536) (n : Fin 64) : val_main_v28 (F := Ideal) (ix2 r n) = 0 := by
  pointwise [val_main_v28, val_main_cst_2, val_main_cst_3]

theorem at_v29 (r : Fin 65536) (n : Fin 32) : val_main_v29 (F := Ideal) (ix2 r n) = 0 := by
  pointwise [val_main_v29, val_main_cst_2, val_main_cst_3]

theorem turned_at (k : Fin 1024) (n : Fin 32) : val_main_v24 (F := Ideal) x2 (ix2 k n) = turned (fun k n => x2 (ix2 k n)) k n := by
  pointwise [val_main_v24, val_main_v23, val_main_v22, val_main_v21, val_main_v20]
  unfold turned
  by_cases h : n.val < 16
  · refine (dif_pos h).trans (Eq.trans ?_ (dif_pos h).symm)
    refine congrArg (fun j => (Neg.neg : EReal → EReal) (x2 (ix2 k j))) (Fin.ext ?_)
    show 2560 + (16 + n.val) = 2576 + n.val
    omega
  · refine (dif_neg h).trans (Eq.trans ?_ (dif_neg h).symm)
    refine congrArg (fun j => x2 (ix2 k j)) (Fin.ext ?_)
    show 2560 + (n.val - 16) = 2544 + n.val
    omega

theorem at_v25 (r : Fin 65536) (n : Fin 32) : val_main_v25 (F := Ideal) x0 x1 x2 (ix2 r n) = ∑ k, refRow x0 x1 r k * turned (fun k n => x2 (ix2 k n)) k n := by
  simp only [← flat_at, ← turned_at]
  unfold val_main_v25
  generalize val_main_v13 (F := Ideal) x0 x1 = s
  generalize val_main_v24 (F := Ideal) x2 = q
  pointwise

theorem ref_at (r : Fin 65536) (n : Fin 8448) : val_main_v31 (F := Ideal) x0 x1 x2 (ix2 r n) = ∑ k, refRow x0 x1 r k * column (fun k n => x2 (ix2 k n)) k n := by
  refine Eq.trans ?_ (gather (refRow x0 x1 r) (fun k n => x2 (ix2 k n)) n (fun n => val_main_v19 (F := Ideal) x0 x1 x2 (ix2 r n)) (fun n => val_main_v15 (F := Ideal) x0 x1 x2 (ix2 r n)) (fun n => val_main_v18 (F := Ideal) x0 x1 x2 (ix2 r n)) (fun n => val_main_v16 (F := Ideal) x0 x1 x2 (ix2 r n)) (fun n => val_main_v26 (F := Ideal) x0 x1 x2 (ix2 r n)) (fun n => val_main_v28 (F := Ideal)  (ix2 r n)) (fun n => val_main_v27 (F := Ideal) x0 x1 x2 (ix2 r n)) (fun n => val_main_v29 (F := Ideal)  (ix2 r n)) (fun n => val_main_v25 (F := Ideal) x0 x1 x2 (ix2 r n)) (at_v19 x0 x1 x2 r) (at_v15 x0 x1 x2 r) (at_v18 x0 x1 x2 r) (at_v16 x0 x1 x2 r) (at_v26 x0 x1 x2 r) (at_v28 r) (at_v27 x0 x1 x2 r) (at_v29 r) (at_v25 x0 x1 x2 r))
  pointwise [val_main_v31, val_main_v30]

end Cert.Proof.Project

end
-- ==== Proof.Merge.lean ====
/- The merge of the mixers, index by index. -/
module

public import proofs.«01_k».proof.Proof.Softmax
public import proofs.«01_k».proof.Proof.Heads
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Merge

open Idealize.ShloMosaic Idealize.ShloMosaic.TcCoe Idealize.SL.Sem Cert.Kernel3Ideal Cert.Kernel3Ideal.Gen

variable (m : (ℓ : Loc nD τ sig) → Buf (Elt Ideal) ℓ)

/-- The hyperbolic tangent form of the activation. -/
def gelu (v : EReal) : EReal :=
  v * (Ideal.ofBits FTy.f32 0x3F000000#32 * (1 + Ideal.tanh (Ideal.ofBits FTy.f32 0x3F4C422A#32 * (v + Ideal.ofBits FTy.f32 0x3D372713#32 * (v * (v * v))))))

def dense {a b : ℕ} (h : Fin a → EReal) (w : Fin a → Fin b → EReal) (k : Fin b) : EReal := ∑ n, h n * w n k

def glu (h : Fin 512 → EReal) (w : Fin 512 → Fin 2048 → EReal) (k : Fin 1024) : EReal :=
  dense (fun n => gelu (h n)) w ⟨k.val, by omega⟩ * Ideal.logistic (dense (fun n => gelu (h n)) w ⟨1024 + k.val, by omega⟩)

/-- The gate of branch `i` on lane `k`. -/
def gate (p : Fin 4096 → EReal) (g : Fin 4 → Fin 1024 → EReal) (i : Fin 4) (k : Fin 1024) : EReal :=
  Ideal.logistic (p ⟨i.val * 1024 + k.val, by omega⟩ + g i k)

def mixed (p : Fin 4096 → EReal) (a s o z : Fin 512 → EReal) (g : Fin 4 → Fin 1024 → EReal) (wa : Fin 512 → Fin 1024 → EReal) (ws : Fin 512 → Fin 2048 → EReal)
    (wo wz : Fin 512 → Fin 1024 → EReal) (k : Fin 1024) : EReal :=
  gate p g 0 k * dense a wa k + gate p g 1 k * glu s ws k + gate p g 2 k * dense o wo k + gate p g 3 k * dense z wz k

/-- One row of the result. -/
def rowOut (x : Fin 1024 → EReal) (p : Fin 4096 → EReal) (a s o z : Fin 512 → EReal) (g : Fin 4 → Fin 1024 → EReal) (wa : Fin 512 → Fin 1024 → EReal) (ws : Fin 512 → Fin 2048 → EReal)
    (wo wz : Fin 512 → Fin 1024 → EReal) (wm : Fin 1024 → Fin 1024 → EReal) (k : Fin 1024) : EReal :=
  x k + dense (mixed p a s o z g wa ws wo wz) wm k

theorem one_bits : Ideal.ofBits FTy.f32 0x3F800000#32 = 1 := by
  simp [Ideal.ofBits, Ideal.ieee]
  exact (EReal.coe_mul _ _).symm.trans ((congrArg _ (by norm_num)).trans EReal.coe_one)

theorem pay2_val (a : Vec Ideal S1x512x512 .f32) (w : Vec Ideal S512x1024 .bf16) (r : Fin 512) (k : Fin 1024) :
    k0_pay2 (F := Ideal) a w (ix2 r k) = dense (fun n => a (ix3 0 r n)) (fun n k => w (ix2 n k)) k := by
  unfold dense; pointwise [k0_pay2]
theorem pay4_val (a : Vec Ideal S1x512x512 .f32) (w : Vec Ideal S512x1024 .bf16) (r : Fin 512) (k : Fin 1024) :
    k0_pay4 (F := Ideal) a w (ix2 r k) = dense (fun n => a (ix3 0 r n)) (fun n k => w (ix2 n k)) k := by
  unfold dense; pointwise [k0_pay4]
theorem pay5_val (a : Vec Ideal S1x512x512 .f32) (w : Vec Ideal S512x1024 .bf16) (r : Fin 512) (k : Fin 1024) :
    k0_pay5 (F := Ideal) a w (ix2 r k) = dense (fun n => a (ix3 0 r n)) (fun n k => w (ix2 n k)) k := by
  unfold dense; pointwise [k0_pay5]
theorem pay3_val (a : Vec Ideal S1x512x512 .f32) (w : Vec Ideal S512x2048 .bf16) (r : Fin 512) (k : Fin 1024) :
    k0_pay3 (F := Ideal) a w (ix2 r k) = glu (fun n => a (ix3 0 r n)) (fun n k => w (ix2 n k)) k := by
  unfold glu dense gelu; pointwise [k0_pay3]
theorem pay6_val (v5 : FVec Ideal S512x1024 .f32) (v28 : FVec Ideal S512x1024 .f32) (v34 : FVec Ideal S512x1024 .f32) (v41 : Vec Ideal S4x1024 .f32) (v43 v52 v61 : Vec Ideal S1x512x1024 .bf16) (r : Fin 512) (k : Fin 1024) :
   k0_pay6 (F := Ideal) v5 v28 v34 v41 v43 v52 v61 (ix2 r k) = Ideal.logistic (v43 (ix3 0 r k) + v41 (ix2 0 k)) * v5 (ix2 r k) +
        Ideal.logistic (v52 (ix3 0 r k) + v41 (ix2 1 k)) * v28 (ix2 r k) + Ideal.logistic (v61 (ix3 0 r k) + v41 (ix2 2 k)) * v34 (ix2 r k) := by
  pointwise [k0_pay6]
theorem pay1_val (v40 v69 v72 v74 : FVec Ideal S512x1024 .f32) (v79 : Vec Ideal S1x512x1024 .f32) (v82 : Vec Ideal S1024x1024 .bf16) (r : Fin 512) (k : Fin 1024) :
   k0_pay1 (F := Ideal) v40 v69 v72 v74 v79 v82 (ix3 0 r k)
     = v79 (ix3 0 r k) + dense (fun n => v69 (ix2 r n) + Ideal.logistic (v72 (ix2 r n) + v74 (ix2 r n)) * v40 (ix2 r n)) (fun n k => v82 (ix2 n k)) k := by
  unfold dense; pointwise [k0_pay1]
theorem pay7_val (v : Vec Ideal S1x512x1024 .bf16) (r : Fin 512) (k : Fin 1024) : k0_pay7 (F := Ideal) v (ix2 r k) = v (ix3 0 r k) := by
  pointwise [k0_pay7]
theorem pay8_val (v : Vec Ideal S4x1024 .f32) (r : Fin 512) (k : Fin 1024) : k0_pay8 (F := Ideal) v (ix2 r k) = v (ix2 3 k) := by
  pointwise [k0_pay8]

theorem out_val  (c : Dev nD) (i : grid0.Coords) (arg2 : Memref sig .tc .vmem S1x512x1024 .f32) (harg2 : arg2.IsWhole) (arg3 : Memref sig .tc .vmem S1x512x4096 .bf16) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S4x1024 .f32) (harg8 : arg8.IsWhole) (arg9 : Memref sig .tc .vmem S512x1024 .bf16) (harg9 : arg9.IsWhole) (arg10 : Memref sig .tc .vmem S512x2048 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x512x1024 .f32) (harg14 : arg14.IsWhole)
     (x0 : Vec Ideal S1x512x1024 .f32) (x1 : Vec Ideal S1x512x4096 .bf16) (x2 : Vec Ideal S1x512x512 .f32) (x3 : Vec Ideal S1x512x512 .f32) (x4 : Vec Ideal S1x512x512 .f32) (x5 : Vec Ideal S1x512x512 .f32) (x6 : Vec Ideal S4x1024 .f32) (x7 : Vec Ideal S512x1024 .bf16) (x8 : Vec Ideal S512x2048 .bf16) (x9 : Vec Ideal S512x1024 .bf16) (x10 : Vec Ideal S512x1024 .bf16) (x11 : Vec Ideal S1024x1024 .bf16) (r : Fin 512) (k : Fin 1024) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 (ix3 0 r k) = rowOut (fun k => x0 (ix3 0 r k)) (fun k => x1 (ix3 0 r k)) (fun k => x2 (ix3 0 r k)) (fun k => x3 (ix3 0 r k)) (fun k => x4 (ix3 0 r k)) (fun k => x5 (ix3 0 r k))
        (fun i k => x6 (ix2 i k)) (fun n k => x7 (ix2 n k)) (fun n k => x8 (ix2 n k)) (fun n k => x9 (ix2 n k)) (fun n k => x10 (ix2 n k)) (fun n k => x11 (ix2 n k)) k := by
  unfold out0_A_12
  rw [View.read_writes_junk_eq_canon]
  unfold kernelRun0_A
  dsimp only
  sl_unfold_words
  rw [View.canon_cons_unit_lit _ _ _ (by decide)]
  simp only [View.readAt_eq_ld, Memref.IsWhole.read_unread]
  rw [pay1_val]
  simp only [pay2_val, pay3_val, pay4_val, pay5_val, pay6_val, pay7_val, pay8_val]
  unfold rowOut mixed gate
  pointwise

variable (m : (ℓ : Loc nD τ sig) → Buf (Elt Ideal) ℓ)

theorem idx : ∀ t : Fin grid0.N, win0_0.index t = ![(grid0.coords t 0).val, (grid0.coords t 1).val, 0] ∧ win0_1.index t = ![(grid0.coords t 0).val, (grid0.coords t 1).val, 0]
    ∧ win0_2.index t = ![(grid0.coords t 0).val, (grid0.coords t 1).val, 0] ∧ win0_3.index t = ![(grid0.coords t 0).val, (grid0.coords t 1).val, 0]
    ∧ win0_4.index t = ![(grid0.coords t 0).val, (grid0.coords t 1).val, 0] ∧ win0_5.index t = ![(grid0.coords t 0).val, (grid0.coords t 1).val, 0]
    ∧ win0_12.index t = ![(grid0.coords t 0).val, (grid0.coords t 1).val, 0] := by
  decide +kernel

theorem idx' : ∀ t : Fin grid0.N, win0_6.index t = ![0, 0] ∧ win0_7.index t = ![0, 0] ∧ win0_8.index t = ![0, 0] ∧ win0_9.index t = ![0, 0] ∧ win0_10.index t = ![0, 0] ∧ win0_11.index t = ![0, 0] := by
  decide +kernel

/-- What the call leaves, from the arrays the program is given. -/
def called (c : Dev nD) (j : S16x4096x1024.Idx) : EReal :=
  rowOut (fun k => m ((c : Thread nD τ).loc main_arg0) (ix3 (j 0) (j 1) k)) (fun k => m ((c : Thread nD τ).loc main_arg1) (ix3 (j 0) (j 1) ⟨k.val, by omega⟩))
    (fun k => m ((c : Thread nD τ).loc main_arg2) (ix3 (j 0) (j 1) k)) (fun k => m ((c : Thread nD τ).loc main_arg3) (ix3 (j 0) (j 1) k))
    (fun k => m ((c : Thread nD τ).loc main_arg4) (ix3 (j 0) (j 1) k)) (fun k => m ((c : Thread nD τ).loc main_arg5) (ix3 (j 0) (j 1) k))
    (fun i k => m ((c : Thread nD τ).loc main_arg6) (ix2 i k)) (fun i k => m ((c : Thread nD τ).loc main_arg7) (ix2 i k)) (fun i k => m ((c : Thread nD τ).loc main_arg8) (ix2 i k))
    (fun i k => m ((c : Thread nD τ).loc main_arg9) (ix2 i k)) (fun i k => m ((c : Thread nD τ).loc main_arg10) (ix2 i k)) (fun i k => m ((c : Thread nD τ).loc main_arg11) (ix2 i k)) (j 2)

theorem w7 (c : Dev nD) (k : Fin 512) (n : Fin 1024) : V (F := Ideal) m c main_v0 (ix2 k n) = m ((c : Thread nD τ).loc main_arg7) (ix2 k n) := by
  unfold V; after_reads_at
theorem w8 (c : Dev nD) (k : Fin 512) (n : Fin 2048) : V (F := Ideal) m c main_v1 (ix2 k n) = m ((c : Thread nD τ).loc main_arg8) (ix2 k n) := by
  unfold V; after_reads_at
theorem w9 (c : Dev nD) (k : Fin 512) (n : Fin 1024) : V (F := Ideal) m c main_v2 (ix2 k n) = m ((c : Thread nD τ).loc main_arg9) (ix2 k n) := by
  unfold V; after_reads_at
theorem w10 (c : Dev nD) (k : Fin 512) (n : Fin 1024) : V (F := Ideal) m c main_v3 (ix2 k n) = m ((c : Thread nD τ).loc main_arg10) (ix2 k n) := by
  unfold V; after_reads_at
theorem w11 (c : Dev nD) (k : Fin 1024) (n : Fin 1024) : V (F := Ideal) m c main_v4 (ix2 k n) = m ((c : Thread nD τ).loc main_arg11) (ix2 k n) := by
  unfold V; after_reads_at

theorem r0 (c : Dev nD) (t : Fin cfg0.N) (b : Fin 16) (hb : b.val = (grid0.coords t 0).val) (r : Fin 512) (r' : Fin 4096) (hr : r'.val = 512 * (grid0.coords t 1).val + r.val) (k : Fin 1024) :
    iblk (F := Ideal) m c 0 t (ix3 0 r k) = m ((c : Thread nD τ).loc main_arg0) (ix3 b r' k) := by
  blk_ext [iblk, (idx t).1]

theorem r1 (c : Dev nD) (t : Fin cfg0.N) (b : Fin 16) (hb : b.val = (grid0.coords t 0).val) (r : Fin 512) (r' : Fin 4096) (hr : r'.val = 512 * (grid0.coords t 1).val + r.val) (k : Fin 4096) :
    X0_1 (F := Ideal) m c t (ix3 0 r k) = m ((c : Thread nD τ).loc main_arg1) (ix3 b r' ⟨k.val, by omega⟩) := by
  unfold X0_1 Pipeline.Window.fill
  rw [dif_pos (moved0_1 t _)]
  blk_ext [iblk, (idx t).2.1]

theorem r2 (c : Dev nD) (t : Fin cfg0.N) (b : Fin 16) (hb : b.val = (grid0.coords t 0).val) (r : Fin 512) (r' : Fin 4096) (hr : r'.val = 512 * (grid0.coords t 1).val + r.val) (k : Fin 512) :
    iblk (F := Ideal) m c 2 t (ix3 0 r k) = m ((c : Thread nD τ).loc main_arg2) (ix3 b r' k) := by
  blk_ext [iblk, (idx t).2.2.1]

theorem r3 (c : Dev nD) (t : Fin cfg0.N) (b : Fin 16) (hb : b.val = (grid0.coords t 0).val) (r : Fin 512) (r' : Fin 4096) (hr : r'.val = 512 * (grid0.coords t 1).val + r.val) (k : Fin 512) :
    iblk (F := Ideal) m c 3 t (ix3 0 r k) = m ((c : Thread nD τ).loc main_arg3) (ix3 b r' k) := by
  blk_ext [iblk, (idx t).2.2.2.1]

theorem r4 (c : Dev nD) (t : Fin cfg0.N) (b : Fin 16) (hb : b.val = (grid0.coords t 0).val) (r : Fin 512) (r' : Fin 4096) (hr : r'.val = 512 * (grid0.coords t 1).val + r.val) (k : Fin 512) :
    iblk (F := Ideal) m c 4 t (ix3 0 r k) = m ((c : Thread nD τ).loc main_arg4) (ix3 b r' k) := by
  blk_ext [iblk, (idx t).2.2.2.2.1]

theorem r5 (c : Dev nD) (t : Fin cfg0.N) (b : Fin 16) (hb : b.val = (grid0.coords t 0).val) (r : Fin 512) (r' : Fin 4096) (hr : r'.val = 512 * (grid0.coords t 1).val + r.val) (k : Fin 512) :
    iblk (F := Ideal) m c 5 t (ix3 0 r k) = m ((c : Thread nD τ).loc main_arg5) (ix3 b r' k) := by
  blk_ext [iblk, (idx t).2.2.2.2.2.1]

theorem r6 (c : Dev nD) (t : Fin cfg0.N) (i : Fin 4) (k : Fin 1024) : iblk (F := Ideal) m c 6 t (ix2 i k) = m ((c : Thread nD τ).loc main_arg6) (ix2 i k) := by
  blk_ext [iblk, (idx' t).1]

theorem r7 (c : Dev nD) (t : Fin cfg0.N) (i : Fin 512) (k : Fin 1024) : iblk (F := Ideal) m c 7 t (ix2 i k) = m ((c : Thread nD τ).loc main_arg7) (ix2 i k) := by
  refine Eq.trans ?_ (w7 m c i k)
  blk_ext [iblk, (idx' t).2.1]

theorem r8 (c : Dev nD) (t : Fin cfg0.N) (i : Fin 512) (k : Fin 2048) : iblk (F := Ideal) m c 8 t (ix2 i k) = m ((c : Thread nD τ).loc main_arg8) (ix2 i k) := by
  refine Eq.trans ?_ (w8 m c i k)
  blk_ext [iblk, (idx' t).2.2.1]

theorem r9 (c : Dev nD) (t : Fin cfg0.N) (i : Fin 512) (k : Fin 1024) : iblk (F := Ideal) m c 9 t (ix2 i k) = m ((c : Thread nD τ).loc main_arg9) (ix2 i k) := by
  refine Eq.trans ?_ (w9 m c i k)
  blk_ext [iblk, (idx' t).2.2.2.1]

theorem r10 (c : Dev nD) (t : Fin cfg0.N) (i : Fin 512) (k : Fin 1024) : iblk (F := Ideal) m c 10 t (ix2 i k) = m ((c : Thread nD τ).loc main_arg10) (ix2 i k) := by
  refine Eq.trans ?_ (w10 m c i k)
  blk_ext [iblk, (idx' t).2.2.2.2.1]

theorem r11 (c : Dev nD) (t : Fin cfg0.N) (i : Fin 1024) (k : Fin 1024) : iblk (F := Ideal) m c 11 t (ix2 i k) = m ((c : Thread nD τ).loc main_arg11) (ix2 i k) := by
  refine Eq.trans ?_ (w11 m c i k)
  blk_ext [iblk, (idx' t).2.2.2.2.2]

theorem result (c : Dev nD) : (dats m 0 c).arrAt 12 cfg0.N = called m c := by
  refine (dats m 0 c).arrAt_eq_of_covers 12 _ (by decide +kernel) fun t hf y => ?_
  blk_simp
  rw [after0_12]
  unfold outsAt0
  change S1x512x1024.Idx at y
  idx_vars y
  have h1 := y1.isLt
  have g0 : (grid0.coords t 0).val < 16 := (grid0.coords t 0).isLt
  have g1 : (grid0.coords t 1).val < 8 := (grid0.coords t 1).isLt
  have e : (win0_12.blk t).view.emb (ix3 y0 y1 y2) = (ix3 ⟨(grid0.coords t 0).val, g0⟩ ⟨512 * (grid0.coords t 1).val + y1.val, by omega⟩ y2 : S16x4096x1024.Idx) := by
    blk_ext [(idx t).2.2.2.2.2.2]
  rw [e]
  have hy0 : y0 = 0 := Fin.ext (by omega)
  subst hy0
  refine (out_val c _ _ _ _ _ _ _ _ _ _ _ _ _ _ _ _ _ _ _ _ _ _ _ _ _ _ _ _ _ _ _ _ _ _ _ _ _ _ _ y1 y2).trans ?_
  show _ = rowOut _ _ _ _ _ _ _ _ _ _ _ _ y2
  congr 1
  · exact funext fun k => r0 m c t ⟨(grid0.coords t 0).val, g0⟩ rfl y1 ⟨512 * (grid0.coords t 1).val + y1.val, by omega⟩ rfl k
  · exact funext fun k => r1 m c t ⟨(grid0.coords t 0).val, g0⟩ rfl y1 ⟨512 * (grid0.coords t 1).val + y1.val, by omega⟩ rfl k
  · exact funext fun k => r2 m c t ⟨(grid0.coords t 0).val, g0⟩ rfl y1 ⟨512 * (grid0.coords t 1).val + y1.val, by omega⟩ rfl k
  · exact funext fun k => r3 m c t ⟨(grid0.coords t 0).val, g0⟩ rfl y1 ⟨512 * (grid0.coords t 1).val + y1.val, by omega⟩ rfl k
  · exact funext fun k => r4 m c t ⟨(grid0.coords t 0).val, g0⟩ rfl y1 ⟨512 * (grid0.coords t 1).val + y1.val, by omega⟩ rfl k
  · exact funext fun k => r5 m c t ⟨(grid0.coords t 0).val, g0⟩ rfl y1 ⟨512 * (grid0.coords t 1).val + y1.val, by omega⟩ rfl k
  · exact funext fun i => funext fun k => r6 m c t i k
  · exact funext fun i => funext fun k => r7 m c t i k
  · exact funext fun i => funext fun k => r8 m c t i k
  · exact funext fun i => funext fun k => r9 m c t i k
  · exact funext fun i => funext fun k => r10 m c t i k
  · exact funext fun i => funext fun k => r11 m c t i k

end Cert.Proof.Merge

end
-- ==== Proof.MergeReference.lean ====
/- The merge's reference at an index, and that it is what the call leaves. -/
module

public import proofs.«01_k».proof.Proof.Merge

@[expose] public section

set_option maxRecDepth 16384

noncomputable section

namespace Cert.Proof.Merge

open Idealize.ShloMosaic Cert.Reference3Ideal Cert.Reference3Ideal.Read

variable (x0 : S16x4096x1024.Idx → EReal) (x1 : S16x4096x8448.Idx → EReal) (x2 x3 x4 x5 : S16x4096x512.Idx → EReal) (x6 : S4x1024.Idx → EReal) (x7 : S512x1024.Idx → EReal)
  (x8 : S512x2048.Idx → EReal) (x9 x10 : S512x1024.Idx → EReal) (x11 : S1024x1024.Idx → EReal)

theorem act_at (b : Fin 16) (r : Fin 4096) (n : Fin 512) : val_main_v13 (F := Ideal) x3 (ix3 b r n) = gelu (x3 (ix3 b r n)) := by
  unfold gelu
  pointwise [val_main_v13, val_main_v12, val_main_v11, val_main_v10, val_main_v9, val_main_v8, val_main_v7, val_main_v6, val_main_v5, val_main_v4, val_main_v3, val_main_v2, val_main_v1, val_main_cst, val_main_cst_0, val_main_cst_1, val_main_cst_2]
  rw [mul_assoc (x3 (ix3 b r n)) (x3 (ix3 b r n)) (x3 (ix3 b r n))]

theorem dense_at (b : Fin 16) (r : Fin 4096) (k : Fin 2048) : val_main_v14 (F := Ideal) x3 x8 (ix3 b r k) = dense (fun n => gelu (x3 (ix3 b r n))) (fun n k => x8 (ix2 n k)) k := by
  simp only [← act_at]
  unfold val_main_v14 dense
  generalize val_main_v13 (F := Ideal) x3 = s
  pointwise

theorem glu_at (b : Fin 16) (r : Fin 4096) (k : Fin 1024) : val_main_v23 (F := Ideal) x3 x8 (ix3 b r k) = glu (fun n => x3 (ix3 b r n)) (fun n k => x8 (ix2 n k)) k := by
  unfold glu
  simp only [← dense_at]
  unfold val_main_v23 val_main_v22 val_main_v20 val_main_v18 val_main_v17 val_main_v16 val_main_v15
  generalize val_main_v14 (F := Ideal) x3 x8 = s
  pointwise [val_main_v21, val_main_v19, val_main_cst_3, val_main_cst_4]
  rfl

theorem gate_at (b : Fin 16) (r : Fin 4096) (i : Fin 4) (k : Fin 1024) : val_main_v37 (F := Ideal) x1 x6 (ix4 b r i k)
    = gate (fun k => x1 (ix3 b r ⟨k.val, by omega⟩)) (fun i k => x6 (ix2 i k)) i k := by
  unfold gate
  pointwise [val_main_v37, val_main_v36, val_main_v35, val_main_v34, val_main_v33, val_main_v32, val_main_v31, val_main_v30, val_main_v29, val_main_v28, val_main_v27, val_main_v26, val_main_cst_5, val_main_cst_6]
  rfl

theorem mixed_at (b : Fin 16) (r : Fin 4096) (k : Fin 1024) : val_main_v52 (F := Ideal) x1 x2 x3 x4 x5 x6 x7 x8 x9 x10 (ix3 b r k)
    = mixed (fun k => x1 (ix3 b r ⟨k.val, by omega⟩)) (fun k => x2 (ix3 b r k)) (fun k => x3 (ix3 b r k)) (fun k => x4 (ix3 b r k)) (fun k => x5 (ix3 b r k)) (fun i k => x6 (ix2 i k))
      (fun n k => x7 (ix2 n k)) (fun n k => x8 (ix2 n k)) (fun n k => x9 (ix2 n k)) (fun n k => x10 (ix2 n k)) k := by
  unfold mixed
  simp only [← gate_at, ← glu_at]
  unfold val_main_v52 val_main_v51 val_main_v50 val_main_v49 val_main_v48 val_main_v47 val_main_v46 val_main_v45 val_main_v44 val_main_v43 val_main_v42 val_main_v41 val_main_v40 val_main_v39 val_main_v38 dense
  generalize val_main_v37 (F := Ideal) x1 x6 = s
  generalize val_main_v23 (F := Ideal) x3 x8 = q
  pointwise [val_main_v0, val_main_v24, val_main_v25]

theorem ref_at (b : Fin 16) (r : Fin 4096) (k : Fin 1024) : val_main_v54 (F := Ideal) x0 x1 x2 x3 x4 x5 x6 x7 x8 x9 x10 x11 (ix3 b r k)
    = rowOut (fun k => x0 (ix3 b r k)) (fun k => x1 (ix3 b r ⟨k.val, by omega⟩)) (fun k => x2 (ix3 b r k)) (fun k => x3 (ix3 b r k)) (fun k => x4 (ix3 b r k)) (fun k => x5 (ix3 b r k)) (fun i k => x6 (ix2 i k))
      (fun n k => x7 (ix2 n k)) (fun n k => x8 (ix2 n k)) (fun n k => x9 (ix2 n k)) (fun n k => x10 (ix2 n k)) (fun n k => x11 (ix2 n k)) k := by
  unfold rowOut dense
  simp only [← mixed_at]
  unfold val_main_v54 val_main_v53
  generalize val_main_v52 (F := Ideal) x1 x2 x3 x4 x5 x6 x7 x8 x9 x10 = s
  pointwise

end Cert.Proof.Merge

end
-- ==== Proof.CrossReference.lean ====
/- The cross attention's reference at an index, and that it is what the call leaves. -/
module

public import proofs.«01_k».proof.Proof.Cross

@[expose] public section

set_option maxRecDepth 16384

noncomputable section

namespace Cert.Proof.Cross

open Idealize.ShloMosaic Cert.Reference4Ideal Cert.Reference4Ideal.Read

variable (x0 : S16x4096x1024.Idx → EReal) (x1 : S16x256x1024.Idx → EReal) (x2 : S1024.Idx → EReal) (x3 : S1024x512.Idx → EReal) (x4 : S512x1024.Idx → EReal)

theorem normed_at (b : Fin 16) (r : Fin 4096) (k : Fin 1024) : val_main_v12 (F := Ideal) x0 x2 (ix3 b r k) = normed (fun k => x0 (ix3 b r k)) (fun k => x2 (ix1 k)) k := by
  unfold normed
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem query_at (b : Fin 16) (r : Fin 4096) (hd : Fin 4) (d : Fin 128) : val_main_v14 (F := Ideal) x0 x2 x3 (ix4 b r hd d)
    = ∑ k, normed (fun k => x0 (ix3 b r k)) (fun k => x2 (ix1 k)) k * x3 (ix2 k ⟨hd.val * 128 + d.val, by omega⟩) := by
  unfold val_main_v14 val_main_v13
  simp only [← normed_at]
  generalize val_main_v12 (F := Ideal) x0 x2 = s
  pointwise

theorem key_at (b : Fin 16) (j : Fin 256) (hd : Fin 4) (d : Fin 128) : val_main_v17 (F := Ideal) x1 (ix4 b j hd d) = keys (fun j n => x1 (ix3 b j n)) hd j d := by
  unfold keys
  pointwise [val_main_v17, val_main_v16, val_main_v15]

theorem val_at (b : Fin 16) (j : Fin 256) (hd : Fin 4) (d : Fin 128) : val_main_v18 (F := Ideal) x1 (ix4 b j hd d) = vals (fun j n => x1 (ix3 b j n)) hd j d := by
  unfold vals
  pointwise [val_main_v18, val_main_v16, val_main_v15]

theorem scale_real : ∃ s : ℝ, 0 ≤ s ∧ scale = (s : EReal) := by
  refine ⟨11863283 / 134217728, by norm_num, ?_⟩
  unfold scale
  simp [Ideal.ofBits, Ideal.ieee]
  norm_num
  exact (EReal.coe_mul _ _).symm.trans (congrArg _ (by norm_num))

theorem score_at (b : Fin 16) (hd : Fin 4) (r : Fin 4096) (j : Fin 256) : val_main_v21 (F := Ideal) x0 x1 x2 x3 (ix4 b hd r j)
    = ∑ d, query (proj (fun k => x0 (ix3 b r k)) (fun k => x2 (ix1 k)) (fun k n => x3 (ix2 k n))) hd d * keys (fun j n => x1 (ix3 b j n)) hd j d := by
  obtain ⟨s, h0, hs⟩ := scale_real
  have e : val_main_v21 (F := Ideal) x0 x1 x2 x3 (ix4 b hd r j) = (∑ d, val_main_v14 (F := Ideal) x0 x2 x3 (ix4 b r hd d) * val_main_v17 (F := Ideal) x1 (ix4 b j hd d)) * scale := by
    unfold val_main_v21 val_main_v20 val_main_v19 scale
    generalize val_main_v14 (F := Ideal) x0 x2 x3 = p
    generalize val_main_v17 (F := Ideal) x1 = q
    pointwise [val_main_cst_2]
  rw [e, hs, Softmax.sum_mul_real _ s h0]
  refine Finset.sum_congr rfl fun d _ => ?_
  rw [query_at, key_at]
  unfold query proj
  rw [hs, mul_right_comm]

theorem largest_at (b : Fin 16) (hd : Fin 4) (r : Fin 4096) : val_main_v22 (F := Ideal) x0 x1 x2 x3 (ix3 b hd r)
    = Finset.univ.fold max ⊥ fun j => val_main_v21 (F := Ideal) x0 x1 x2 x3 (ix4 b hd r j) := by
  unfold val_main_v22
  generalize val_main_v21 (F := Ideal) x0 x1 x2 x3 = s
  pointwise [val_main_cst_3]
  rw [Heads.ofBits_bot]

theorem weight_at (b : Fin 16) (hd : Fin 4) (r : Fin 4096) (j : Fin 256) : val_main_v28 (F := Ideal) x0 x1 x2 x3 (ix4 b hd r j)
    = Ideal.exp (val_main_v21 (F := Ideal) x0 x1 x2 x3 (ix4 b hd r j) - Finset.univ.fold max ⊥ fun j => val_main_v21 (F := Ideal) x0 x1 x2 x3 (ix4 b hd r j)) := by
  have e : idx_main_v25 (idx_main_v26 (ix4 b hd r j)) = ix3 b hd r := by funext a; fin_cases a <;> rfl
  rw [val_main_v28_apply, val_main_v27_apply, val_main_v26_apply, val_main_v25_apply, val_main_v24_apply, val_main_v23_apply, val_main_cst_4_apply, e, largest_at]
  generalize (Finset.univ.fold max ⊥ fun j => val_main_v21 (F := Ideal) x0 x1 x2 x3 (ix4 b hd r j)) = M
  generalize val_main_v21 (F := Ideal) x0 x1 x2 x3 (ix4 b hd r j) = s
  show Ideal.exp (s - max (Ideal.ofBits .f32 0xFF800000#32) M) = _
  rw [Heads.ofBits_bot, max_eq_right bot_le]

theorem share_at (b : Fin 16) (hd : Fin 4) (r : Fin 4096) (j : Fin 256) : val_main_v32 (F := Ideal) x0 x1 x2 x3 (ix4 b hd r j)
    = soft (fun j => val_main_v21 (F := Ideal) x0 x1 x2 x3 (ix4 b hd r j)) j := by
  have e : val_main_v32 (F := Ideal) x0 x1 x2 x3 (ix4 b hd r j)
      = Ideal.div (val_main_v28 (F := Ideal) x0 x1 x2 x3 (ix4 b hd r j)) (∑ j, val_main_v28 (F := Ideal) x0 x1 x2 x3 (ix4 b hd r j)) := by
    unfold val_main_v32 val_main_v31 val_main_v30 val_main_v29
    generalize val_main_v28 (F := Ideal) x0 x1 x2 x3 = s
    pointwise [val_main_cst_5]
  rw [e]
  simp only [weight_at]
  rfl

theorem lane_at (b : Fin 16) (r : Fin 4096) (n : Fin 512) : val_main_v35 (F := Ideal) x0 x1 x2 x3 (ix3 b r n)
    = headRow (query (proj (fun k => x0 (ix3 b r k)) (fun k => x2 (ix1 k)) (fun k n => x3 (ix2 k n))) ⟨n.val / 128, by omega⟩) (keys (fun j n => x1 (ix3 b j n)) ⟨n.val / 128, by omega⟩)
      (vals (fun j n => x1 (ix3 b j n)) ⟨n.val / 128, by omega⟩) ⟨n.val % 128, by omega⟩ := by
  unfold headRow
  simp only [← score_at, ← share_at, ← val_at]
  unfold val_main_v35 val_main_v34 val_main_v33
  generalize val_main_v32 (F := Ideal) x0 x1 x2 x3 = p
  generalize val_main_v18 (F := Ideal) x1 = q
  pointwise
  exact Finset.sum_congr rfl fun j _ => mul_comm _ _

theorem ref_at (b : Fin 16) (r : Fin 4096) (k : Fin 1024) : val_main_v37 (F := Ideal) x0 x1 x2 x3 x4 (ix3 b r k)
    = rowOut (fun k => x0 (ix3 b r k)) (fun k => x2 (ix1 k)) (fun j n => x1 (ix3 b j n)) (fun k n => x3 (ix2 k n)) (fun n k => x4 (ix2 n k)) k := by
  unfold rowOut
  simp only [← lane_at]
  unfold val_main_v37 val_main_v36
  generalize val_main_v35 (F := Ideal) x0 x1 x2 x3 = p
  pointwise

end Cert.Proof.Cross

end
-- ==== Proof.Place.lean ====
/- The experts' rows back in place, and the final norm. -/
module

public import proofs.«01_k».proof.Proof.Cross
public import proofs.«01_k».proof.Proof.Gen.Kernel5Ideal.Value
public import proofs.«01_k».proof.Proof.Gen.Reference5Ideal.Read
public import Idealize.ShloMosaic.Lib.ReduceAll
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Place

open Idealize.ShloMosaic Idealize.ShloMosaic.TcCoe Idealize.SL.Sem Cert.Kernel5Ideal Cert.Kernel5Ideal.Gen

/-- A whole number of 32 bits as a value. -/
def whole (b : BitVec 32) : EReal := FloatOps.sitofp (F := Ideal) FTy.f32 b

theorem whole_inj (a b : BitVec 32) (h : whole a = whole b) : a = b := by
  have e : ((a.toInt : ℝ) : EReal) = ((b.toInt : ℝ) : EReal) := h
  exact BitVec.eq_of_toInt_eq (Int.cast_injective (EReal.coe_injective e))

/-- Row `p` of the sorted rows, as the sum over all rows that keeps that one. -/
def fetched (ys : Fin 1024 → Fin 1024 → EReal) (p : EReal) (k : Fin 1024) : EReal :=
  ∑ n, (if whole (BitVec.ofNat 32 n.val) = p then 1 else 0) * ys n k

/-- It is that row. -/
theorem fetched_eq (ys : Fin 1024 → Fin 1024 → EReal) (b : BitVec 32) (n : Fin 1024) (h : b = BitVec.ofNat 32 n.val) (k : Fin 1024) : fetched ys (whole b) k = ys n k := by
  subst h
  unfold fetched
  refine (Finset.sum_eq_single n (fun c _ hc => ?_) fun h => absurd (Finset.mem_univ n) h).trans (by rw [if_pos rfl, one_mul])
  rw [if_neg fun h => hc ?_, zero_mul]
  have e := congrArg BitVec.toNat (whole_inj _ _ h)
  simp only [BitVec.toNat_ofNat] at e
  have h1 := c.isLt
  have h2 := n.isLt
  exact Fin.ext (by omega)

/-- One row of the result. -/
def rowOut (x : Fin 1024 → EReal) (ys : Fin 1024 → Fin 1024 → EReal) (p : EReal) (g : Fin 1024 → EReal) (k : Fin 1024) : EReal :=
  Cross.normed (fun k => x k + fetched ys p k) g k

theorem pay1_val (v2 : Vec Ideal S1024x1 .f32) (v10 : Vec Ideal S1024x1024 .f32) (v12 : Vec Ideal S1024x1024 .bf16) (v15 : Vec Ideal S1x1024 .f32) (r k : Fin 1024) :
    k0_pay1 (F := Ideal) v2 v10 v12 v15 (ix2 r k) = rowOut (fun k => v10 (ix2 r k)) (fun n k => v12 (ix2 n k)) (v2 (ix2 r 0)) (fun k => v15 (ix2 0 k)) k := by
  unfold rowOut Cross.normed fetched whole
  pointwise [k0_pay1]

theorem out_val (x0 : Vec Ideal S1024x1024 .f32) (x1 : Vec Ideal S1024x1024 .bf16) (x2 : Vec Ideal S1024x128 .f32) (x3 : Vec Ideal S1x1024 .f32) (r k : Fin 1024) :
    out0_4 (F := Ideal) x0 x1 x2 x3 (ix2 r k) = rowOut (fun k => x0 (ix2 r k)) (fun n k => x1 (ix2 n k)) (x2 (ix2 r 0)) (fun k => x3 (ix2 0 k)) k := by
  unfold out0_4
  rw [View.canon_cons_unit_lit _ _ _ (by decide), pay1_val]
  congr 1
  · pointwise [r0_1]
  · pointwise [r0_1]
  · pointwise [r0_0]
  · pointwise [r0_2]

variable (m : (ℓ : Loc nD τ sig) → Buf (Elt Ideal) ℓ)

theorem idx : ∀ t : Fin grid0.N, win0_0.index t = ![(grid0.coords t 0).val, 0] ∧ win0_1.index t = ![(grid0.coords t 0).val, 0]
    ∧ win0_2.index t = ![(grid0.coords t 0).val, 0] ∧ win0_3.index t = ![0, 0] ∧ win0_4.index t = ![(grid0.coords t 0).val, 0] := by
  decide +kernel

/-- What the call leaves, from the arrays the program is given. -/
def called (c : Dev nD) (j : S65536x1024.Idx) : EReal :=
  rowOut (fun k => m ((c : Thread nD τ).loc main_arg0) (ix3 ⟨(j 0).val / 4096, by have := (j 0).isLt; change (j 0).val < 65536 at this; omega⟩ ⟨(j 0).val % 4096, by omega⟩ k))
    (fun n k => m ((c : Thread nD τ).loc main_arg1) (ix2 ⟨(j 0).val / 1024 * 1024 + n.val, by have := (j 0).isLt; change (j 0).val < 65536 at this; omega⟩ k))
    (whole (m ((c : Thread nD τ).loc main_arg2) (ix1 (j 0)))) (fun k => m ((c : Thread nD τ).loc main_arg3) (ix1 k)) (j 1)

theorem gain (c : Dev nD) (k : Fin 1024) : V (F := Ideal) m c main_v4 (ix2 0 k) = m ((c : Thread nD τ).loc main_arg3) (ix1 k) := by
  unfold V; after_reads_at

theorem place (c : Dev nD) (r : Fin 65536) : V (F := Ideal) m c main_v2 (ix2 r 0) = whole (m ((c : Thread nD τ).loc main_arg2) (ix1 r)) := by
  unfold V whole; after_reads_at

theorem row (c : Dev nD) (r : Fin 65536) (k : Fin 1024) : V (F := Ideal) m c main_v3 (ix2 r k)
    = m ((c : Thread nD τ).loc main_arg0) (ix3 ⟨r.val / 4096, by omega⟩ ⟨r.val % 4096, by omega⟩ k) := by
  unfold V; after_reads_at

theorem result (c : Dev nD) : (dats m 0 c).arrAt 4 cfg0.N = called m c := by
  refine (dats m 0 c).arrAt_eq_of_covers 4 _ (by decide +kernel) fun t hf y => ?_
  blk_simp
  rw [after0_4]
  change S1024x1024.Idx at y
  idx_vars y
  have h0 := y0.isLt
  have g0 : (grid0.coords t 0).val < 64 := (grid0.coords t 0).isLt
  have e : (win0_4.blk t).view.emb (ix2 y0 y1) = (ix2 ⟨1024 * (grid0.coords t 0).val + y0.val, by omega⟩ y1 : S65536x1024.Idx) := by
    blk_ext [(idx t).2.2.2.2]
  rw [e]
  refine (out_val _ _ _ _ y0 y1).trans ?_
  show _ = rowOut _ _ _ _ y1
  congr 1
  · funext k
    refine Eq.trans ?_ (row m c ⟨1024 * (grid0.coords t 0).val + y0.val, by omega⟩ k)
    blk_ext [iblk, (idx t).1]
  · funext n k
    have e : (⟨1024 * (grid0.coords t 0).val + n.val, by omega⟩ : Fin 65536) = ⟨(1024 * (grid0.coords t 0).val + y0.val) / 1024 * 1024 + n.val, by omega⟩ := Fin.ext (by
      show 1024 * (grid0.coords t 0).val + n.val = (1024 * (grid0.coords t 0).val + y0.val) / 1024 * 1024 + n.val
      omega)
    refine Eq.trans ?_ (congrArg (fun r => m ((c : Thread nD τ).loc main_arg1) (ix2 r k)) e)
    blk_ext [iblk, (idx t).2.1]
  · refine Eq.trans ?_ (place m c ⟨1024 * (grid0.coords t 0).val + y0.val, by omega⟩)
    blk_ext [iblk, (idx t).2.2.1]
  · funext k
    refine Eq.trans ?_ (gain m c k)
    blk_ext [iblk, (idx t).2.2.2.1]

end Cert.Proof.Place

end
-- ==== Proof.PlaceReference.lean ====
/- The plain reference of the last step at an index, and that it is what the call leaves. -/
module

public import proofs.«01_k».proof.Proof.Place

@[expose] public section

set_option maxRecDepth 16384

noncomputable section

namespace Cert.Proof.Place

open Idealize.ShloMosaic Cert.Reference5Ideal Cert.Reference5Ideal.Read

variable (x0 : S16x4096x1024.Idx → EReal) (x1 : S65536x1024.Idx → EReal) (x2 : S65536.Idx → BitVec 32) (x3 : S1024.Idx → EReal)

/-- The rows' places, told tile by tile. -/
theorem place_at (h : ∀ i, x2 i = BitVec.ofNat 32 (x2 i).toNat ∧ (x2 i).toNat < 1024) (i : S64x1024x1.Idx) :
    val_main_call0_v4 (F := Ideal) x2 i = val_main_v2 (F := Ideal) x2 i ∧ val_main_call0_v10 (F := Ideal) x2 i = 1#1 := by
  have hb := (h (idx_main_v2 i)).2
  have e : val_main_call0_v4 (F := Ideal) x2 i = val_main_v2 (F := Ideal) x2 i := by
    rw [val_main_call0_v4_apply, val_main_call0_v1_apply, val_main_call0_v0_apply, val_main_call0_c_apply, val_main_v2_apply]
    generalize x2 (idx_main_v2 i) = b at hb ⊢
    have : IntOp.cmpi .slt b 0#32 = 0#1 := by
      have h0 : (0#32).toInt = 0 := by decide
      have h1 := BitVec.toInt_eq_toNat_of_lt (x := b) (by omega)
      rw [WordCmp.cmpi_slt_eq, h0, decide_eq_false (by omega)]
      rfl
    rw [this]
    rfl
  refine ⟨e, ?_⟩
  rw [val_main_call0_v10_apply, val_main_call0_v6_apply, val_main_call0_v9_apply, e, val_main_call0_v5_apply, val_main_call0_c_2_apply, val_main_call0_v8_apply, val_main_call0_v7_apply, val_main_call0_c_1_apply, val_main_v2_apply]
  generalize x2 (idx_main_v2 i) = b at hb ⊢
  have e1 : IntOp.cmpi .sge b 0#32 = 1#1 := by
    have h0 : (0#32).toInt = 0 := by decide
    have h1 := BitVec.toInt_eq_toNat_of_lt (x := b) (by omega)
    rw [WordCmp.cmpi_sge_eq, h0, decide_eq_true (by omega)]
    rfl
  have e2 : IntOp.cmpi .sle b 1023#32 = 1#1 := by
    have h1 : (1023#32).toInt = 1023 := by decide
    rw [WordCmp.cmpi_sle_eq, BitVec.toInt_eq_toNat_of_lt (by omega), h1, decide_eq_true (by omega)]
    rfl
  rw [e1, e2]
  rfl

/-- The index of the place that row `y` of the picked rows is taken from. -/
def placeIdx (y : S64x1024x1024.Idx) : S64x1024x1.Idx := ix3 ⟨(y 0).val, (y 0).isLt⟩ ⟨(y 1).val, (y 1).isLt⟩ 0

/-- Row `r` of tile `i` of the picked rows. -/
theorem gather_at (x : S64x1024x1024.Idx → EReal) (p : IVec S64x1024x1 32) (y : S64x1024x1024.Idx) :
    Host.gather gather_S64x1024x1024_S64x1024x1_S64x1024x1024_2_1_0_0_1_2_111024 x p y
      = x (ix3 ⟨(y 0).val, (y 0).isLt⟩ ⟨min (p (placeIdx y)).toInt.toNat 1023, by omega⟩ ⟨(y 2).val, (y 2).isLt⟩) := by
  unfold Host.gather
  congr 1
  funext a
  refine Fin.ext ?_
  show gather_S64x1024x1024_S64x1024x1_S64x1024x1024_2_1_0_0_1_2_111024.start y p a + gather_S64x1024x1024_S64x1024x1_S64x1024x1024_2_1_0_0_1_2_111024.batchCoord y a
      + gather_S64x1024x1024_S64x1024x1_S64x1024x1024_2_1_0_0_1_2_111024.offCoord y a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S64x1024x1024_S64x1024x1_S64x1024x1024_2_1_0_0_1_2_111024.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S64x1024x1024_S64x1024x1_S64x1024x1024_2_1_0_0_1_2_111024.startIndexMap from List.mem_singleton.mpr rfl)]
    have hsi : ∀ k, gather_S64x1024x1024_S64x1024x1_S64x1024x1024_2_1_0_0_1_2_111024.siIdx y k = placeIdx y := by
      intro k
      obtain rfl : k = ⟨0, by decide⟩ := Fin.ext (by have := k.isLt; simpa using this)
      funext b; refine Fin.ext ?_
      match b with
      | ⟨0, _⟩ => rfl
      | ⟨1, _⟩ => rfl
      | ⟨2, _⟩ => rfl
    rw [hsi]
    rfl
  · rw [GatherDims.batchCoord_eq_zero _ _ _ (by decide)]
    unfold GatherDims.start
    rw [dif_neg (by decide)]
    simp only [Nat.zero_add]
    unfold GatherDims.offCoord
    rw [dif_pos (by decide)]
    rfl

theorem picked_at (h : ∀ i, x2 i = BitVec.ofNat 32 (x2 i).toNat ∧ (x2 i).toNat < 1024) (i : Fin 64) (r k : Fin 1024) :
    val_main_v3 (F := Ideal) x1 x2 (ix3 i r k)
      = x1 (ix2 ⟨i.val * 1024 + (x2 (ix1 ⟨i.val * 1024 + r.val, by omega⟩)).toNat, by have := (h (ix1 ⟨i.val * 1024 + r.val, by omega⟩)).2; omega⟩ k) := by
  have hm : val_main_call0_v13 (F := Ideal) x2 (ix3 i r k) = 1#1 := by
    rw [val_main_call0_v13_apply]
    unfold val_main_call0_v11
    exact Host.reduce_andi_one _ _ _ _ _ rfl fun y => (place_at x2 h y).2
  rw [val_main_v3_apply, hm]
  show val_main_call0_v12 (F := Ideal) x1 x2 (ix3 i r k) = _
  unfold val_main_call0_v12
  have e2 : val_main_call0_v4 (F := Ideal) x2 (placeIdx (ix3 i r k)) = x2 (ix1 ⟨i.val * 1024 + r.val, by omega⟩) := by
    rw [(place_at x2 h _).1]
    show val_main_v2 (F := Ideal) x2 (ix3 i r 0) = _
    pointwise [val_main_v2]
  have hb := (h (ix1 ⟨i.val * 1024 + r.val, by omega⟩)).2
  trans val_main_v1 (F := Ideal) x1 (ix3 i ⟨(x2 (ix1 ⟨i.val * 1024 + r.val, by omega⟩)).toNat, hb⟩ k)
  · refine (gather_at _ _ _).trans (congrArg (fun n => val_main_v1 (F := Ideal) x1 (ix3 i n k)) (Fin.ext ?_))
    show min (val_main_call0_v4 (F := Ideal) x2 (placeIdx (ix3 i r k))).toInt.toNat 1023 = _
    rw [e2, BitVec.toInt_eq_toNat_of_lt (by omega)]
    show min (Int.toNat ((x2 (ix1 ⟨i.val * 1024 + r.val, by omega⟩)).toNat : Int)) 1023 = (x2 (ix1 ⟨i.val * 1024 + r.val, by omega⟩)).toNat
    omega
  · pointwise [val_main_v1, val_main_v0]

theorem sum_at (h : ∀ i, x2 i = BitVec.ofNat 32 (x2 i).toNat ∧ (x2 i).toNat < 1024) (R : Fin 65536) (k : Fin 1024) :
    val_main_v5 (F := Ideal) x0 x1 x2 (ix3 ⟨R.val / 4096, by omega⟩ ⟨R.val % 4096, by omega⟩ k)
      = x0 (ix3 ⟨R.val / 4096, by omega⟩ ⟨R.val % 4096, by omega⟩ k)
        + fetched (fun n k => x1 (ix2 ⟨R.val / 1024 * 1024 + n.val, by omega⟩ k)) (whole (x2 (ix1 R))) k := by
  rw [val_main_v5_apply]
  refine congrArg (_ + ·) ?_
  have e : val_main_v4 (F := Ideal) x1 x2 (ix3 ⟨R.val / 4096, by omega⟩ ⟨R.val % 4096, by omega⟩ k) = val_main_v3 (F := Ideal) x1 x2 (ix3 ⟨R.val / 1024, by omega⟩ ⟨R.val % 1024, by omega⟩ k) := by
    rw [val_main_v4_apply]
    congr 1
    funext a
    refine Fin.ext ?_
    match a with
    | ⟨0, _⟩ => show ((R.val / 4096 * 4096 + R.val % 4096) * 1024 + k.val) / 1048576 = R.val / 1024; omega
    | ⟨1, _⟩ => show ((R.val / 4096 * 4096 + R.val % 4096) * 1024 + k.val) / 1024 % 1024 = R.val % 1024; omega
    | ⟨2, _⟩ => show ((R.val / 4096 * 4096 + R.val % 4096) * 1024 + k.val) % 1024 = k.val; omega
  have eR : (⟨R.val / 1024 * 1024 + R.val % 1024, by omega⟩ : Fin 65536) = R := Fin.ext (by show R.val / 1024 * 1024 + R.val % 1024 = R.val; omega)
  refine e.trans ((picked_at x1 x2 h _ _ k).trans ?_)
  rw [fetched_eq _ _ ⟨(x2 (ix1 R)).toNat, (h _).2⟩ (h (ix1 R)).1]
  refine congrArg (fun r => x1 (ix2 r k)) (Fin.ext ?_)
  show R.val / 1024 * 1024 + (x2 (ix1 ⟨R.val / 1024 * 1024 + R.val % 1024, _⟩)).toNat = R.val / 1024 * 1024 + (x2 (ix1 R)).toNat
  rw [eR]

theorem ref_at (h : ∀ i, x2 i = BitVec.ofNat 32 (x2 i).toNat ∧ (x2 i).toNat < 1024) (R : Fin 65536) (k : Fin 1024) :
    val_main_v19 (F := Ideal) x0 x1 x2 x3 (ix2 R k)
      = rowOut (fun k => x0 (ix3 ⟨R.val / 4096, by omega⟩ ⟨R.val % 4096, by omega⟩ k)) (fun n k => x1 (ix2 ⟨R.val / 1024 * 1024 + n.val, by omega⟩ k)) (whole (x2 (ix1 R))) (fun k => x3 (ix1 k)) k := by
  have e : val_main_v19 (F := Ideal) x0 x1 x2 x3 (ix2 R k) = val_main_v18 (F := Ideal) x0 x1 x2 x3 (ix3 ⟨R.val / 4096, by omega⟩ ⟨R.val % 4096, by omega⟩ k) := by
    rw [val_main_v19_apply]
    congr 1
    funext a
    refine Fin.ext ?_
    match a with
    | ⟨0, _⟩ => show (R.val * 1024 + k.val) / 4194304 = R.val / 4096; omega
    | ⟨1, _⟩ => show (R.val * 1024 + k.val) / 1024 % 4096 = R.val % 4096; omega
    | ⟨2, _⟩ => show (R.val * 1024 + k.val) % 1024 = k.val; omega
  rw [e]
  unfold rowOut
  simp only [← sum_at x0 x1 x2 h]
  generalize (⟨R.val / 4096, _⟩ : Fin 16) = b
  generalize (⟨R.val % 4096, _⟩ : Fin 4096) = r
  unfold val_main_v18 val_main_v15 val_main_v14 val_main_v13 val_main_v12 val_main_v10 val_main_v8 val_main_v7 val_main_v6
  generalize val_main_v5 (F := Ideal) x0 x1 x2 = s
  unfold Cross.normed
  pointwise [val_main_v17, val_main_v16, val_main_v11, val_main_v9, val_main_cst, val_main_cst_0, val_main_cst_1]

end Cert.Proof.Place

end
-- ==== Proof.ExpertsBody.lean ====
module
public import proofs.«01_k».proof.Proof.Gen.Kernel6Ideal.Skeleton
public import proofs.«01_k».proof.Proof.Gen.Kernel6Ideal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
@[expose] public section
set_option maxRecDepth 16384
noncomputable section
namespace Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (UR sig nD τ) ℕ
/-- The table of the groups' bounds, as the body holds it. -/
abbrev tbM0_0 : Memref sig .tc .smem S512 .i32 := Memref.whole main_v8
/-- It is a whole buffer. -/
abbrev htbM0_0 : tbM0_0.IsWhole := Memref.isWhole_whole _
/-- What the table holds. -/
abbrev TbBuf0 (c : Dev nD) {S : Shape} {e : EltTy} (M : Memref sig .tc .smem S e) : Type := Buf (Elt F) (M.view.loc (c : Thread nD τ))
/-- The half of the table the body may read. -/
abbrev tbPt0 (c : Dev nD) {S : Shape} {e : EltTy} (M : Memref sig .tc .smem S e) (f : TbBuf0 (F := F) c M) : sProp 𝕄 :=
  M.view.loc (c : Thread nD τ) ↦{fullShare.right} f

set_option maxHeartbeats 2000000 in
/-- The body run once, at any grid point: every branch both ways. The two witnesses are what the accumulator and the
    staged block of the result hold afterwards, each branch's store under the branch's own condition. -/
noncomputable def run (c : Dev nD) (i : grid0.Coords) (arg3 : Memref sig .tc .vmem S1024x1024 .bf16) (harg3 : arg3.IsWhole) (arg4 : Memref sig .tc .vmem S1024x128 .f32) (harg4 : arg4.IsWhole) (arg5 : Memref sig .tc .vmem S1x8x1024x256 .bf16) (harg5 : arg5.IsWhole) (arg6 : Memref sig .tc .vmem S1x8x1024x256 .bf16) (harg6 : arg6.IsWhole) (arg7 : Memref sig .tc .vmem S1x2048x1024 .bf16) (harg7 : arg7.IsWhole) (arg8 : Memref sig .tc .vmem S1024x1024 .bf16) (harg8 : arg8.IsWhole) (arg9 : Memref sig .tc .vmem S1024x1024 .f32) (harg9 : arg9.IsWhole)
    (x0 : Vec F S1024x1024 .bf16) (x1 : Vec F S1024x128 .f32) (x2 : Vec F S1x8x1024x256 .bf16) (x3 : Vec F S1x8x1024x256 .bf16) (x4 : Vec F S1x2048x1024 .bf16) (xt0 : TbBuf0 (F := F) c tbM0_0) (xs0 : Vec F S1024x1024 .f32) (xi5 : Vec F S1024x1024 .bf16) :
    { W : Buf (Elt F) (arg9.view.loc (c : Thread nD τ)) × Buf (Elt F) (arg8.view.loc (c : Thread nD τ)) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg8.view.loc (c : Thread nD τ) ↦[arg8.view.set]{fullShare} W.2) ∗ (arg9.view.loc (c : Thread nD τ) ↦[arg9.view.set]{fullShare} W.1) ∗ tbPt0 c tbM0_0 xt0) -∗ K ⟨⟩))
          ⊢ wp frame (wpE (defs₀ (F := F)) Variants.none c none) E (cc0_moe_experts i tbM0_0 htbM0_0 arg3 harg3 arg4 harg4 arg5 harg5 arg6 harg6 arg7 harg7 arg8 harg8 arg9 harg9) K } := by
  refine ⟨(?_, ?_), fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexact H5
    isplitl [HS0]; · iexact HS0
    iexact HT0

/-! ## What the body computes, in vectors -/

/-- A block of tokens times one expert's matrix. -/
def gate (h : Vec F S128x1024 .bf16) (w : Vec F S1x1x1024x256 .bf16) : FVec F S128x256 .f32 :=
  matmul dot_S128x1024_S1024x256_S128x256_1_0_0_1_n_n none h (shapeCast S1024x256 w shapeCasts_S1x1x1024x256_S1024x256 : FVec F S1024x256 .bf16) (constant S128x256 .f32 0x00000000#32)

/-- One expert's hidden values for a block of 128 tokens: SiLU of the gate times the up projection, weighted by the
    column of the combine weights that belongs to the expert. -/
def part (a e : BitVec 32) (h : Vec F S128x1024 .bf16) (cw : Vec F S128x128 .f32) (wg wu : Vec F S1x1x1024x256 .bf16) : FVec F S128x256 .bf16 :=
  truncf .bf16 (mulf (mulf (mulf (gate h wg) (logistic (gate h wg))) (gate h wu))
    (broadcastTo S128x256 (shapeCast S128x1 (multiReduction .add [1] S128
      (select (cmpi .eq (iota .tc S128x128 32 [1] iota_S128x128_d1_w32) (broadcast S128x128 (Scalar.addi (Scalar.addi 4#32 (Scalar.muli a 8#32)) e)))
        cw (broadcast S128x128 (Scalar.ofBits .f32 0x00000000#32)))
      0x00000000#32 reduces_S128x128_S128 (.inl rfl) rfl) shapeCasts_S128_S128x1) broadcasts_S128x1_S128x256)) bitsLt_bf16_f32

/-- The eight experts of a group side by side. -/
def hid (a : BitVec 32) (h : Vec F S128x1024 .bf16) (cw : Vec F S128x128 .f32) (x2 x3 : Vec F S1x8x1024x256 .bf16) : FVec F S128x2048 .bf16 :=
  concatenate S128x2048 1 [
    ⟨S128x256, part a 0#32 h cw (View.ld x2 (Rect.unit ![0, 0, 0, 0] S1x1x1024x256.size inb_S1x8x1024x256_S1x1x1024x256_0_0_0_0)) (View.ld x3 (Rect.unit ![0, 0, 0, 0] S1x1x1024x256.size inb_S1x8x1024x256_S1x1x1024x256_0_0_0_0))⟩,
    ⟨S128x256, part a 1#32 h cw (View.ld x2 (Rect.unit ![0, 1, 0, 0] S1x1x1024x256.size inb_S1x8x1024x256_S1x1x1024x256_0_1_0_0)) (View.ld x3 (Rect.unit ![0, 1, 0, 0] S1x1x1024x256.size inb_S1x8x1024x256_S1x1x1024x256_0_1_0_0))⟩,
    ⟨S128x256, part a 2#32 h cw (View.ld x2 (Rect.unit ![0, 2, 0, 0] S1x1x1024x256.size inb_S1x8x1024x256_S1x1x1024x256_0_2_0_0)) (View.ld x3 (Rect.unit ![0, 2, 0, 0] S1x1x1024x256.size inb_S1x8x1024x256_S1x1x1024x256_0_2_0_0))⟩,
    ⟨S128x256, part a 3#32 h cw (View.ld x2 (Rect.unit ![0, 3, 0, 0] S1x1x1024x256.size inb_S1x8x1024x256_S1x1x1024x256_0_3_0_0)) (View.ld x3 (Rect.unit ![0, 3, 0, 0] S1x1x1024x256.size inb_S1x8x1024x256_S1x1x1024x256_0_3_0_0))⟩,
    ⟨S128x256, part a 4#32 h cw (View.ld x2 (Rect.unit ![0, 4, 0, 0] S1x1x1024x256.size inb_S1x8x1024x256_S1x1x1024x256_0_4_0_0)) (View.ld x3 (Rect.unit ![0, 4, 0, 0] S1x1x1024x256.size inb_S1x8x1024x256_S1x1x1024x256_0_4_0_0))⟩,
    ⟨S128x256, part a 5#32 h cw (View.ld x2 (Rect.unit ![0, 5, 0, 0] S1x1x1024x256.size inb_S1x8x1024x256_S1x1x1024x256_0_5_0_0)) (View.ld x3 (Rect.unit ![0, 5, 0, 0] S1x1x1024x256.size inb_S1x8x1024x256_S1x1x1024x256_0_5_0_0))⟩,
    ⟨S128x256, part a 6#32 h cw (View.ld x2 (Rect.unit ![0, 6, 0, 0] S1x1x1024x256.size inb_S1x8x1024x256_S1x1x1024x256_0_6_0_0)) (View.ld x3 (Rect.unit ![0, 6, 0, 0] S1x1x1024x256.size inb_S1x8x1024x256_S1x1x1024x256_0_6_0_0))⟩,
    ⟨S128x256, part a 7#32 h cw (View.ld x2 (Rect.unit ![0, 7, 0, 0] S1x1x1024x256.size inb_S1x8x1024x256_S1x1x1024x256_0_7_0_0)) (View.ld x3 (Rect.unit ![0, 7, 0, 0] S1x1x1024x256.size inb_S1x8x1024x256_S1x1x1024x256_0_7_0_0))⟩]
    concatenates_S128x256_S128x256_S128x256_S128x256_S128x256_S128x256_S128x256_S128x256_S128x2048_d1

/-- Whether the group's tokens reach into the block of tokens `[o, o')`, the group's own being `[lo, hi)`. -/
def live (lo hi o o' : BitVec 32) : BitVec 1 :=
  Scalar.cmpi .ne (Scalar.extui (Scalar.andi (Scalar.cmpi .slt lo o') (Scalar.cmpi .sgt hi o))) 0#32

/-- The accumulator a group starts from: zeros for the first group. -/
def start (C : BitVec 1) (a : Vec F S1024x1024 .f32) : Vec F S1024x1024 .f32 := if C = 1#1 then k0_pay118 else a

/-- The accumulator after the block of tokens from `o` on: when the condition holds, the block's rows with the group's
    output added. -/
def step (C : BitVec 1) (g : BitVec 32) (o : ℕ) (inb : ∀ a, (![o, 0] : Fin 2 → ℕ) a + S128x1024.size a ≤ S1024x1024.size a)
    (inb' : ∀ a, (![o, 0] : Fin 2 → ℕ) a + S128x128.size a ≤ S1024x128.size a)
    (x0 : Vec F S1024x1024 .bf16) (x1 : Vec F S1024x128 .f32) (x2 x3 : Vec F S1x8x1024x256 .bf16) (x4 : Vec F S1x2048x1024 .bf16) (a : Vec F S1024x1024 .f32) : Vec F S1024x1024 .f32 :=
  if C = 1#1 then
    VecWindow.put a ![o, 0] S128x1024.size (k0_pay119 (View.ld a (Rect.unit ![o, 0] S128x1024.size inb))
      (hid g (View.ld x0 (Rect.unit ![o, 0] S128x1024.size inb)) (View.ld x1 (Rect.unit ![o, 0] S128x128.size inb')) x2 x3)
      (View.ld x4 (Rect.unit ![0, 0, 0] S1x2048x1024.size inb_S1x2048x1024_S1x2048x1024_0_0_0)))
  else a

/-- The accumulator after a grid point. -/
def acc (i : grid0.Coords) (lo hi : BitVec 32) (x0 : Vec F S1024x1024 .bf16) (x1 : Vec F S1024x128 .f32) (x2 x3 : Vec F S1x8x1024x256 .bf16) (x4 : Vec F S1x2048x1024 .bf16) (a : Vec F S1024x1024 .f32) : Vec F S1024x1024 .f32 :=
  step (live lo hi 896#32 1024#32) (BitVec.ofNat 32 (i 1).val) 896 inb_S1024x1024_S128x1024_896_0 inb_S1024x128_S128x128_896_0 x0 x1 x2 x3 x4
    (step (live lo hi 768#32 896#32) (BitVec.ofNat 32 (i 1).val) 768 inb_S1024x1024_S128x1024_768_0 inb_S1024x128_S128x128_768_0 x0 x1 x2 x3 x4
    (step (live lo hi 640#32 768#32) (BitVec.ofNat 32 (i 1).val) 640 inb_S1024x1024_S128x1024_640_0 inb_S1024x128_S128x128_640_0 x0 x1 x2 x3 x4
    (step (live lo hi 512#32 640#32) (BitVec.ofNat 32 (i 1).val) 512 inb_S1024x1024_S128x1024_512_0 inb_S1024x128_S128x128_512_0 x0 x1 x2 x3 x4
    (step (live lo hi 384#32 512#32) (BitVec.ofNat 32 (i 1).val) 384 inb_S1024x1024_S128x1024_384_0 inb_S1024x128_S128x128_384_0 x0 x1 x2 x3 x4
    (step (live lo hi 256#32 384#32) (BitVec.ofNat 32 (i 1).val) 256 inb_S1024x1024_S128x1024_256_0 inb_S1024x128_S128x128_256_0 x0 x1 x2 x3 x4
    (step (live lo hi 128#32 256#32) (BitVec.ofNat 32 (i 1).val) 128 inb_S1024x1024_S128x1024_128_0 inb_S1024x128_S128x128_128_0 x0 x1 x2 x3 x4
    (step (live lo hi 0#32 128#32) (BitVec.ofNat 32 (i 1).val) 0 inb_S1024x1024_S128x1024_0_0 inb_S1024x128_S128x128_0_0 x0 x1 x2 x3 x4
    (start (Scalar.cmpi .ne (Scalar.extui (Scalar.cmpi .eq (BitVec.ofNat 32 (i 1).val) 0#32)) 0#32) a))))))))

/-- A guarded store of a block of rows, read back. -/
theorem read_step {κ : Kind} {sp : Space} (v : View sig κ sp S1024x1024 .f32) (C : BitVec 1) (A : v.ty.Contents (Elt F)) (a : Vec F S1024x1024 .f32) (hA : v.read (Elt F) A = a)
    (g : BitVec 32) (o : ℕ) (inb : ∀ a, (![o, 0] : Fin 2 → ℕ) a + S128x1024.size a ≤ S1024x1024.size a)
    (inb' : ∀ a, (![o, 0] : Fin 2 → ℕ) a + S128x128.size a ≤ S1024x128.size a)
    (x0 : Vec F S1024x1024 .bf16) (x1 : Vec F S1024x128 .f32) (x2 x3 : Vec F S1x8x1024x256 .bf16) (x4 : Vec F S1x2048x1024 .bf16)
    (p : (Rect.unit (s := S1024x1024) ![o, 0] S128x1024.size inb).shape.Idx → Elt F .f32)
    (hp : p = k0_pay119 (View.ld (v.read (Elt F) A) (Rect.unit ![o, 0] S128x1024.size inb))
      (hid g (View.ld x0 (Rect.unit ![o, 0] S128x1024.size inb)) (View.ld x1 (Rect.unit ![o, 0] S128x128.size inb')) x2 x3)
      (View.ld x4 (Rect.unit ![0, 0, 0] S1x2048x1024.size inb_S1x2048x1024_S1x2048x1024_0_0_0))) :
    v.read (Elt F) (if hc : C = 1#1 then v.writes (Elt F) A [⟨Rect.unit ![o, 0] S128x1024.size inb, p⟩] else A)
      = step C g o inb inb' x0 x1 x2 x3 x4 a := by
  subst hA hp
  unfold step
  split
  · exact View.read_writes_cons_put v A inb _ [] rfl
  · rfl

/-- The guarded store of zeros, read back. -/
theorem read_start {κ : Kind} {sp : Space} (v : View sig κ sp S1024x1024 .f32) (C : BitVec 1) (A : v.ty.Contents (Elt F))
    (inb : ∀ a, (![0, 0] : Fin 2 → ℕ) a + S1024x1024.size a ≤ S1024x1024.size a) :
    v.read (Elt F) (if hc : C = 1#1 then v.writes (Elt F) A [⟨Rect.unit ![0, 0] S1024x1024.size inb, k0_pay118⟩] else A) = start C (v.read (Elt F) A) := by
  unfold start
  split
  · exact View.read_writes_full v A inb _ []
  · rfl

set_option maxHeartbeats 2000000 in
/-- The accumulator after the body, read back, over what the buffers read. -/
theorem read_run_raw (c : Dev nD) (i : grid0.Coords) (arg3 : Memref sig .tc .vmem S1024x1024 .bf16) (harg3 : arg3.IsWhole) (arg4 : Memref sig .tc .vmem S1024x128 .f32) (harg4 : arg4.IsWhole) (arg5 : Memref sig .tc .vmem S1x8x1024x256 .bf16) (harg5 : arg5.IsWhole) (arg6 : Memref sig .tc .vmem S1x8x1024x256 .bf16) (harg6 : arg6.IsWhole) (arg7 : Memref sig .tc .vmem S1x2048x1024 .bf16) (harg7 : arg7.IsWhole) (arg8 : Memref sig .tc .vmem S1024x1024 .bf16) (harg8 : arg8.IsWhole) (arg9 : Memref sig .tc .vmem S1024x1024 .f32) (harg9 : arg9.IsWhole)
    (x0 : Vec F S1024x1024 .bf16) (x1 : Vec F S1024x128 .f32) (x2 : Vec F S1x8x1024x256 .bf16) (x3 : Vec F S1x8x1024x256 .bf16) (x4 : Vec F S1x2048x1024 .bf16) (xt0 : TbBuf0 (F := F) c tbM0_0) (xs0 : Vec F S1024x1024 .f32) (xi5 : Vec F S1024x1024 .bf16) :
    arg9.view.read (Elt F) (run c i arg3 harg3 arg4 harg4 arg5 harg5 arg6 harg6 arg7 harg7 arg8 harg8 arg9 harg9 x0 x1 x2 x3 x4 xt0 xs0 xi5).val.1 = acc i (run.sl.r c i xt0) (run.sl.r_1 c i xt0) (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg9.view.read (Elt F) (harg9.unread xs0)) := by
  unfold acc
  refine read_step _ _ _ _ ?_ (BitVec.ofNat 32 (i 1).val) 896 inb_S1024x1024_S128x1024_896_0 inb_S1024x128_S128x128_896_0 (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) _ (by rfl)
  refine read_step _ _ _ _ ?_ (BitVec.ofNat 32 (i 1).val) 768 inb_S1024x1024_S128x1024_768_0 inb_S1024x128_S128x128_768_0 (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) _ (by rfl)
  refine read_step _ _ _ _ ?_ (BitVec.ofNat 32 (i 1).val) 640 inb_S1024x1024_S128x1024_640_0 inb_S1024x128_S128x128_640_0 (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) _ (by rfl)
  refine read_step _ _ _ _ ?_ (BitVec.ofNat 32 (i 1).val) 512 inb_S1024x1024_S128x1024_512_0 inb_S1024x128_S128x128_512_0 (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) _ (by rfl)
  refine read_step _ _ _ _ ?_ (BitVec.ofNat 32 (i 1).val) 384 inb_S1024x1024_S128x1024_384_0 inb_S1024x128_S128x128_384_0 (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) _ (by rfl)
  refine read_step _ _ _ _ ?_ (BitVec.ofNat 32 (i 1).val) 256 inb_S1024x1024_S128x1024_256_0 inb_S1024x128_S128x128_256_0 (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) _ (by rfl)
  refine read_step _ _ _ _ ?_ (BitVec.ofNat 32 (i 1).val) 128 inb_S1024x1024_S128x1024_128_0 inb_S1024x128_S128x128_128_0 (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) _ (by rfl)
  refine read_step _ _ _ _ ?_ (BitVec.ofNat 32 (i 1).val) 0 inb_S1024x1024_S128x1024_0_0 inb_S1024x128_S128x128_0_0 (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) _ (by rfl)
  exact read_start _ _ _ _
/-- The accumulator after the body. -/
theorem read_run (c : Dev nD) (i : grid0.Coords) (arg3 : Memref sig .tc .vmem S1024x1024 .bf16) (harg3 : arg3.IsWhole) (arg4 : Memref sig .tc .vmem S1024x128 .f32) (harg4 : arg4.IsWhole) (arg5 : Memref sig .tc .vmem S1x8x1024x256 .bf16) (harg5 : arg5.IsWhole) (arg6 : Memref sig .tc .vmem S1x8x1024x256 .bf16) (harg6 : arg6.IsWhole) (arg7 : Memref sig .tc .vmem S1x2048x1024 .bf16) (harg7 : arg7.IsWhole) (arg8 : Memref sig .tc .vmem S1024x1024 .bf16) (harg8 : arg8.IsWhole) (arg9 : Memref sig .tc .vmem S1024x1024 .f32) (harg9 : arg9.IsWhole)
    (x0 : Vec F S1024x1024 .bf16) (x1 : Vec F S1024x128 .f32) (x2 : Vec F S1x8x1024x256 .bf16) (x3 : Vec F S1x8x1024x256 .bf16) (x4 : Vec F S1x2048x1024 .bf16) (xt0 : TbBuf0 (F := F) c tbM0_0) (xs0 : Vec F S1024x1024 .f32) (xi5 : Vec F S1024x1024 .bf16) :
    arg9.view.read (Elt F) (run c i arg3 harg3 arg4 harg4 arg5 harg5 arg6 harg6 arg7 harg7 arg8 harg8 arg9 harg9 x0 x1 x2 x3 x4 xt0 xs0 xi5).val.1 = acc i (run.sl.r c i xt0) (run.sl.r_1 c i xt0) x0 x1 x2 x3 x4 xs0 := by
  rw [read_run_raw, harg3.read_unread, harg4.read_unread, harg5.read_unread, harg6.read_unread, harg7.read_unread, harg9.read_unread]

/-- The staged block of the result after the body: the accumulator, rounded, at a tile's last group; else as it was. -/
def outv (i : grid0.Coords) (a : Vec F S1024x1024 .f32) (o : Vec F S1024x1024 .bf16) : Vec F S1024x1024 .bf16 :=
  if k0_cond10 i = 1#1 then k0_pay5 (View.ld a (Rect.unit ![0, 0] S1024x1024.size inb_S1024x1024_S1024x1024_0_0)) else o

/-- A guarded store of the whole block, read back. -/
theorem read_outv {κ : Kind} {sp : Space} (v : View sig κ sp S1024x1024 .bf16) (i : grid0.Coords) (A : v.ty.Contents (Elt F)) (a : Vec F S1024x1024 .f32)
    (inb : ∀ a, (![0, 0] : Fin 2 → ℕ) a + S1024x1024.size a ≤ S1024x1024.size a) (p : (Rect.unit (s := S1024x1024) ![0, 0] S1024x1024.size inb).shape.Idx → Elt F .bf16)
    (hp : p = k0_pay5 (View.ld a (Rect.unit ![0, 0] S1024x1024.size inb_S1024x1024_S1024x1024_0_0))) :
    v.read (Elt F) (if hc : k0_cond10 i = 1#1 then v.writes (Elt F) A [⟨Rect.unit ![0, 0] S1024x1024.size inb, p⟩] else A)
      = outv i a (v.read (Elt F) A) := by
  subst hp
  unfold outv
  split
  · exact View.read_writes_full v A inb _ []
  · rfl

/-- The staged block of the result after the body. -/
theorem read_run_out (c : Dev nD) (i : grid0.Coords) (arg3 : Memref sig .tc .vmem S1024x1024 .bf16) (harg3 : arg3.IsWhole) (arg4 : Memref sig .tc .vmem S1024x128 .f32) (harg4 : arg4.IsWhole) (arg5 : Memref sig .tc .vmem S1x8x1024x256 .bf16) (harg5 : arg5.IsWhole) (arg6 : Memref sig .tc .vmem S1x8x1024x256 .bf16) (harg6 : arg6.IsWhole) (arg7 : Memref sig .tc .vmem S1x2048x1024 .bf16) (harg7 : arg7.IsWhole) (arg8 : Memref sig .tc .vmem S1024x1024 .bf16) (harg8 : arg8.IsWhole) (arg9 : Memref sig .tc .vmem S1024x1024 .f32) (harg9 : arg9.IsWhole)
    (x0 : Vec F S1024x1024 .bf16) (x1 : Vec F S1024x128 .f32) (x2 : Vec F S1x8x1024x256 .bf16) (x3 : Vec F S1x8x1024x256 .bf16) (x4 : Vec F S1x2048x1024 .bf16) (xt0 : TbBuf0 (F := F) c tbM0_0) (xs0 : Vec F S1024x1024 .f32) (xi5 : Vec F S1024x1024 .bf16) :
    arg8.view.read (Elt F) (run c i arg3 harg3 arg4 harg4 arg5 harg5 arg6 harg6 arg7 harg7 arg8 harg8 arg9 harg9 x0 x1 x2 x3 x4 xt0 xs0 xi5).val.2 = outv i (acc i (run.sl.r c i xt0) (run.sl.r_1 c i xt0) x0 x1 x2 x3 x4 xs0) xi5 := by
  rw [← read_run c i arg3 harg3 arg4 harg4 arg5 harg5 arg6 harg6 arg7 harg7 arg8 harg8 arg9 harg9 x0 x1 x2 x3 x4 xt0 xs0 xi5]
  exact (read_outv arg8.view i (harg8.unread xi5) (arg9.view.read (Elt F) (run c i arg3 harg3 arg4 harg4 arg5 harg5 arg6 harg6 arg7 harg7 arg8 harg8 arg9 harg9 x0 x1 x2 x3 x4 xt0 xs0 xi5).val.1) _ _ (by rfl)).trans (by rw [harg8.read_unread])

/-- At a tile's first group the accumulator before does not matter. -/
theorem acc_first (i : grid0.Coords) (hi0 : (Scalar.cmpi .ne (Scalar.extui (Scalar.cmpi .eq (BitVec.ofNat 32 (i 1).val) 0#32)) 0#32) = 1#1) (lo hi : BitVec 32) (x0 : Vec F S1024x1024 .bf16) (x1 : Vec F S1024x128 .f32) (x2 x3 : Vec F S1x8x1024x256 .bf16) (x4 : Vec F S1x2048x1024 .bf16) (a b : Vec F S1024x1024 .f32) :
    acc i lo hi x0 x1 x2 x3 x4 a = acc i lo hi x0 x1 x2 x3 x4 b := by
  unfold acc start; rw [if_pos hi0, if_pos hi0]

end Cert.Kernel6Ideal.Gen
end
-- ==== Proof.ExpertsFrame.lean ====
module

public import proofs.«01_k».proof.Proof.ExpertsBody
public import Idealize.ShloMosaic.Lib.Claim

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the call, and what the call finds -/

/-- Core `c`'s buffers when the call is entered. -/
abbrev V (c : Dev nD) (b : Ref sig .tc) : Buf (Elt F) ((c : Thread nD τ).loc b) := StableHlo.after hostOps0 (fun b => m (c, b)) b

/-- No host line asks for a new buffer. -/
theorem hostOps0_fresh : (hostOps0 : List (HloOp τ sig (Elt F))).Forall fun op => op.fresh = ∅ := by
  simp only [List.Forall]; repeat' constructor

set_option maxHeartbeats 800000 in
/-- The program up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host lines leave argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host lines leave argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host lines leave argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host lines leave argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host lines leave argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- The host lines leave argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The table's contents when the call is entered. -/
def tbl : pre0.Contents (Elt F) := fun j => V m (0 : Dev nD) (pre0.ref j)
/-- The one device's are those. -/
theorem V_pre (c : Dev nD) (j : Fin 1) : V m c (pre0.ref j) = tbl m j := by
  obtain rfl : c = 0 := Subsingleton.elim _ _; rfl
/-- No block's place depends on the table, so any contents will do. -/
abbrev adm : (pcfg0 (F := F)).Adm := ⟨tbl m, trivial⟩
/-- The call at those contents. -/
abbrev cfgM : Pipeline.Cfg sig Λ₀ := cfg0 (adm m)

/-- The half of the table the body is handed. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows -/

/-- Window `w`'s block at point `t`, of its array as the call finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0 holds its block at every point, fetched there or not. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- It is read at every point. -/
theorem liveAt0_0 : ∀ t : Fin (cfgM m).N, (cfgM m).idle 0 (grid0.coords t) = false :=
  (fun _ => rfl : ∀ t : Fin grid0.N, idle0 0 (grid0.coords t) = false)
/-- Input window 1 holds its block at every point, fetched there or not. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- It is read at every point. -/
theorem liveAt0_1 : ∀ t : Fin (cfgM m).N, (cfgM m).idle 1 (grid0.coords t) = false :=
  (fun _ => rfl : ∀ t : Fin grid0.N, idle0 1 (grid0.coords t) = false)
/-- Input window 2 holds its block at every point, fetched there or not. -/
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- It is read at every point. -/
theorem liveAt0_2 : ∀ t : Fin (cfgM m).N, (cfgM m).idle 2 (grid0.coords t) = false :=
  (fun _ => rfl : ∀ t : Fin grid0.N, idle0 2 (grid0.coords t) = false)
/-- Input window 3 holds its block at every point, fetched there or not. -/
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- It is read at every point. -/
theorem liveAt0_3 : ∀ t : Fin (cfgM m).N, (cfgM m).idle 3 (grid0.coords t) = false :=
  (fun _ => rfl : ∀ t : Fin grid0.N, idle0 3 (grid0.coords t) = false)
/-- Input window 4 holds its block at every point, fetched there or not. -/
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- It is read at every point. -/
theorem liveAt0_4 : ∀ t : Fin (cfgM m).N, (cfgM m).idle 4 (grid0.coords t) = false :=
  (fun _ => rfl : ∀ t : Fin grid0.N, idle0 4 (grid0.coords t) = false)

/-- A run of the call leaves the arguments as they were. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The two conditions on the group -/

/-- The body's first condition: the group is the first. -/
abbrev first (i : grid0.Coords) : Prop := (Scalar.cmpi .ne (Scalar.extui (Scalar.cmpi .eq (BitVec.ofNat 32 (i 1).val) 0#32)) 0#32) = 1#1
/-- It holds at the points divisible by 4. -/
theorem first_iff (t : Fin grid0.N) : first (grid0.coords t) ↔ t.val % 4 = 0 := by
  have ht : t.val < 256 := Nat.lt_of_lt_of_eq t.isLt N_0
  have e1 : (grid0.coords t 1).val = t.val / 1 % 4 := Pipeline.Grid.coords_val t 1 (by decide) rfl
  simp only [first, e1]
  word_cmp
/-- The body's last condition: the group is the last. -/
abbrev last (i : grid0.Coords) : Prop := k0_cond10 i = 1#1
/-- It holds at the points that leave 3 by 4. -/
theorem last_iff (t : Fin grid0.N) : last (grid0.coords t) ↔ t.val % 4 = 3 := by
  have ht : t.val < 256 := Nat.lt_of_lt_of_eq t.isLt N_0
  have e1 : (grid0.coords t 1).val = t.val / 1 % 4 := Pipeline.Grid.coords_val t 1 (by decide) rfl
  simp only [last, k0_cond10, e1]
  word_cmp

/-- Off a tile's last group the result's buffer is not stored to, -/
theorem idleAt0_5 : ∀ t : Fin (cfgM m).N, ¬last (grid0.coords t) → (cfgM m).idle 5 (grid0.coords t) = true :=
  (by decide +kernel : ∀ t : Fin grid0.N, ¬last (grid0.coords t) → idle0 5 (grid0.coords t) = true)
/-- and not written back. -/
theorem noFlush0_5 : ∀ t : Fin (cfgM m).N, ¬last (grid0.coords t) → ((cfgM m).win 5).flush t = false :=
  (by decide +kernel : ∀ t : Fin grid0.N, ¬last (grid0.coords t) → Pipeline.Window.flushOf grid0 true cc0_transform_5 t = false)
/-- At a tile's last group it is stored to. -/
theorem liveAt0_5 : ∀ t : Fin (cfgM m).N, last (grid0.coords t) → (cfgM m).idle 5 (grid0.coords t) = false :=
  (by decide +kernel : ∀ t : Fin grid0.N, last (grid0.coords t) → idle0 5 (grid0.coords t) = false)

/-- Window 0's staging buffer at point `t`, and that it is whole. -/
abbrev ms0_0 (t : Fin (cfgM m).N) : Memref sig .tc .vmem S1024x1024 .bf16 := spec0_0.stage ((cfgM m).slots t 0)
abbrev hs0_0 (t : Fin (cfgM m).N) : (ms0_0 m t).IsWhole := hstage0_0 (((cfgM m).slots t 0).cast nbuf0_0)
/-- Window 1's staging buffer at point `t`, and that it is whole. -/
abbrev ms0_1 (t : Fin (cfgM m).N) : Memref sig .tc .vmem S1024x128 .f32 := spec0_1.stage ((cfgM m).slots t 1)
abbrev hs0_1 (t : Fin (cfgM m).N) : (ms0_1 m t).IsWhole := hstage0_1 (((cfgM m).slots t 1).cast nbuf0_1)
/-- Window 2's staging buffer at point `t`, and that it is whole. -/
abbrev ms0_2 (t : Fin (cfgM m).N) : Memref sig .tc .vmem S1x8x1024x256 .bf16 := spec0_2.stage ((cfgM m).slots t 2)
abbrev hs0_2 (t : Fin (cfgM m).N) : (ms0_2 m t).IsWhole := hstage0_2 (((cfgM m).slots t 2).cast nbuf0_2)
/-- Window 3's staging buffer at point `t`, and that it is whole. -/
abbrev ms0_3 (t : Fin (cfgM m).N) : Memref sig .tc .vmem S1x8x1024x256 .bf16 := spec0_3.stage ((cfgM m).slots t 3)
abbrev hs0_3 (t : Fin (cfgM m).N) : (ms0_3 m t).IsWhole := hstage0_3 (((cfgM m).slots t 3).cast nbuf0_3)
/-- Window 4's staging buffer at point `t`, and that it is whole. -/
abbrev ms0_4 (t : Fin (cfgM m).N) : Memref sig .tc .vmem S1x2048x1024 .bf16 := spec0_4.stage ((cfgM m).slots t 4)
abbrev hs0_4 (t : Fin (cfgM m).N) : (ms0_4 m t).IsWhole := hstage0_4 (((cfgM m).slots t 4).cast nbuf0_4)
/-- Window 5's staging buffer at point `t`, and that it is whole. -/
abbrev ms0_5 (t : Fin (cfgM m).N) : Memref sig .tc .vmem S1024x1024 .bf16 := spec0_5.stage ((cfgM m).slots t 5)
abbrev hs0_5 (t : Fin (cfgM m).N) : (ms0_5 m t).IsWhole := hstage0_5 (((cfgM m).slots t 5).cast nbuf0_5)
/-- The accumulator's buffer. -/
abbrev scM0_0 : Memref sig .tc .vmem S1024x1024 .f32 := Memref.whole cc0_scratch0

/-- What the launch hands the call: the accumulator at anything, and the random generator. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The body at point `t`. -/
abbrev bodyAt0 (t : Fin (cfgM m).N) : Prog (TpuEff nD τ sig (Elt F) Λ₀ .tc) PUnit :=
  cc0_moe_experts (grid0.coords t) (Memref.whole main_v8) (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t) (Memref.whole cc0_scratch0) (Memref.isWhole_whole _)

/-! ## The accumulator, point by point -/

/-- The accumulator after point `t`, found at `a`. -/
def accPt (c : Dev nD) (t : Fin (cfgM m).N) (a : Vec F S1024x1024 .f32) : Vec F S1024x1024 .f32 :=
  acc (grid0.coords t) (run.sl.r c (grid0.coords t) (tbl m 0)) (run.sl.r_1 c (grid0.coords t) (tbl m 0)) (iblk m c 0 t) (iblk m c 1 t) (iblk m c 2 t) (iblk m c 3 t) (iblk m c 4 t) a

/-- The accumulator after point `n`. -/
def accAt (c : Dev nD) : (n : ℕ) → n < (cfgM m).N → Vec F S1024x1024 .f32
  | 0, h => accPt m c ⟨0, h⟩ k0_pay118
  | n + 1, h => accPt m c ⟨n + 1, h⟩ (accAt c n (Nat.lt_of_succ_lt h))

/-- What is stored for the result at point `t`, when it is stored to. -/
def outAt (c : Dev nD) (t : Fin (cfgM m).N) : Vec F S1024x1024 .bf16 :=
  k0_pay5 (View.ld (accAt m c t.val t.isLt) (Rect.unit ![0, 0] S1024x1024.size inb_S1024x1024_S1024x1024_0_0))

/-- What holds between points: the accumulator at what the point before left. -/
def PhiS (c : Dev nD) : (n : ℕ) → n ≤ (cfgM m).N → sProp 𝕄
  | 0, _ => iprop(Pipeline.ΦA spec0 c ∗ Pipeline.ΦT pre0 (tbl m) c)
  | n + 1, h => iprop(iprop(iprop(owns (c : Thread nD τ) scM0_0 fullShare (accAt m c n h)) ∗ (∃ r, prngReg c r)) ∗ Pipeline.ΦT pre0 (tbl m) c)

/-- Before the first point. -/
theorem PhiS_zero (c : Dev nD) (n : ℕ) (h : n ≤ (cfgM m).N) (hz : n = 0) :
    PhiS m c n h = iprop(Pipeline.ΦA spec0 c ∗ Pipeline.ΦT pre0 (tbl m) c) := by
  subst hz; rfl

/-- After a point. -/
theorem PhiS_succ (c : Dev nD) (n : ℕ) (h : n + 1 ≤ (cfgM m).N) :
    PhiS m c (n + 1) h = iprop(iprop(iprop(owns (c : Thread nD τ) scM0_0 fullShare (accAt m c n h)) ∗ (∃ r, prngReg c r)) ∗ Pipeline.ΦT pre0 (tbl m) c) := rfl

/-- Before a later point. -/
theorem PhiS_pos (c : Dev nD) (n : ℕ) (h : n ≤ (cfgM m).N) (hz : n ≠ 0) :
    PhiS m c n h = iprop(iprop(iprop(owns (c : Thread nD τ) scM0_0 fullShare (accAt m c (n - 1) (by omega))) ∗ (∃ r, prngReg c r)) ∗ Pipeline.ΦT pre0 (tbl m) c) := by
  cases n with
  | zero => exact absurd rfl hz
  | succ n => rfl

/-- The call's proof data. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

/-- Its arrays are those the call finds. -/
theorem A_eq (c : Dev nD) (w : Fin (cfgM m).W) : (dats m 0 c).A w = V m c (Pipeline.arrRef spec0 w) := by
  dsimp only [dats]

/-- What holds at a point's start. -/
theorem PhiS_castSucc (c : Dev nD) (t : Fin (cfgM m).N) :
    (dats m 0 c).Φ t.castSucc = PhiS m c t.val (Nat.le_of_lt t.isLt) := by
  dsimp only [dats]; exact Pipeline.Dat.Φ_castSucc (PhiS m c) t

/-- The body leaves window 0 its block, -/
theorem after0_0 (c : Dev nD) (t : Fin (cfgM m).N) : (dats m 0 c).after 0 t = iblk m c 0 t := by dsimp only [dats]; try rfl
/-- and finds it there. -/
theorem before0_0 (c : Dev nD) (t : Fin (cfgM m).N) (d) : (dats m 0 c).before 0 t d = iblk m c 0 t :=
  before0_0_of m (dats m 0 c) (A_eq m c 0) (after0_0 m c) t d
/-- The body leaves window 1 its block, -/
theorem after0_1 (c : Dev nD) (t : Fin (cfgM m).N) : (dats m 0 c).after 1 t = iblk m c 1 t := by dsimp only [dats]; try rfl
/-- and finds it there. -/
theorem before0_1 (c : Dev nD) (t : Fin (cfgM m).N) (d) : (dats m 0 c).before 1 t d = iblk m c 1 t :=
  before0_1_of m (dats m 0 c) (A_eq m c 1) (after0_1 m c) t d
/-- The body leaves window 2 its block, -/
theorem after0_2 (c : Dev nD) (t : Fin (cfgM m).N) : (dats m 0 c).after 2 t = iblk m c 2 t := by dsimp only [dats]; try rfl
/-- and finds it there. -/
theorem before0_2 (c : Dev nD) (t : Fin (cfgM m).N) (d) : (dats m 0 c).before 2 t d = iblk m c 2 t :=
  before0_2_of m (dats m 0 c) (A_eq m c 2) (after0_2 m c) t d
/-- The body leaves window 3 its block, -/
theorem after0_3 (c : Dev nD) (t : Fin (cfgM m).N) : (dats m 0 c).after 3 t = iblk m c 3 t := by dsimp only [dats]; try rfl
/-- and finds it there. -/
theorem before0_3 (c : Dev nD) (t : Fin (cfgM m).N) (d) : (dats m 0 c).before 3 t d = iblk m c 3 t :=
  before0_3_of m (dats m 0 c) (A_eq m c 3) (after0_3 m c) t d
/-- The body leaves window 4 its block, -/
theorem after0_4 (c : Dev nD) (t : Fin (cfgM m).N) : (dats m 0 c).after 4 t = iblk m c 4 t := by dsimp only [dats]; try rfl
/-- and finds it there. -/
theorem before0_4 (c : Dev nD) (t : Fin (cfgM m).N) (d) : (dats m 0 c).before 4 t d = iblk m c 4 t :=
  before0_4_of m (dats m 0 c) (A_eq m c 4) (after0_4 m c) t d
/-- The body leaves the result's buffer at what is stored. -/
theorem after0_5 (c : Dev nD) (t : Fin (cfgM m).N) : (dats m 0 c).after 5 t = outAt m c t := by dsimp only [dats]; try rfl

/-! ## The body's obligation -/

/-- The body, its effect on the accumulator and on the staged result in closed form. -/
theorem body_acc (c : Dev nD) (i : grid0.Coords) (arg3 : Memref sig .tc .vmem S1024x1024 .bf16) (harg3 : arg3.IsWhole) (arg4 : Memref sig .tc .vmem S1024x128 .f32) (harg4 : arg4.IsWhole) (arg5 : Memref sig .tc .vmem S1x8x1024x256 .bf16) (harg5 : arg5.IsWhole) (arg6 : Memref sig .tc .vmem S1x8x1024x256 .bf16) (harg6 : arg6.IsWhole) (arg7 : Memref sig .tc .vmem S1x2048x1024 .bf16) (harg7 : arg7.IsWhole) (arg8 : Memref sig .tc .vmem S1024x1024 .bf16) (harg8 : arg8.IsWhole) (arg9 : Memref sig .tc .vmem S1024x1024 .f32) (harg9 : arg9.IsWhole)
    (x0 : Vec F S1024x1024 .bf16) (x1 : Vec F S1024x128 .f32) (x2 : Vec F S1x8x1024x256 .bf16) (x3 : Vec F S1x8x1024x256 .bf16) (x4 : Vec F S1x2048x1024 .bf16) (xt0 : TbBuf0 (F := F) c tbM0_0) (xs0 : Vec F S1024x1024 .f32) (xi5 : Vec F S1024x1024 .bf16)
    (A : Vec F S1024x1024 .f32) (hA : acc i (run.sl.r c i xt0) (run.sl.r_1 c i xt0) x0 x1 x2 x3 x4 xs0 = A) (O : Vec F S1024x1024 .bf16) (hO : outv i A xi5 = O) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ tbPt0 c tbM0_0 xt0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare O ∗ owns (c : Thread nD τ) arg9 fullShare A ∗ tbPt0 c tbM0_0 xt0) -∗ K ⟨⟩))
      ⊢ wp frame (wpE (defs₀ (F := F)) Variants.none c none) E (cc0_moe_experts i tbM0_0 htbM0_0 arg3 harg3 arg4 harg4 arg5 harg5 arg6 harg6 arg7 harg7 arg8 harg8 arg9 harg9) K := by
  iintro ⟨H0, H1, H2, H3, H4, H5, HS0, HT0, Hk⟩
  iapply ((run c i arg3 harg3 arg4 harg4 arg5 harg5 arg6 harg6 arg7 harg7 arg8 harg8 arg9 harg9 x0 x1 x2 x3 x4 xt0 xs0 xi5).2 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HT0]; · iexact HT0
  iintro ⟨H0, H1, H2, H3, H4, H5, HS0, HT0⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact (read_run_out c i arg3 harg3 arg4 harg4 arg5 harg5 arg6 harg6 arg7 harg7 arg8 harg8 arg9 harg9 x0 x1 x2 x3 x4 xt0 xs0 xi5).trans (by rw [hA]; exact hO)
  isplitl [HS0]
  · unfold owns; iexists _; isplitr
    swap; · iexact HS0
    ipureintro; exact (read_run c i arg3 harg3 arg4 harg4 arg5 harg5 arg6 harg6 arg7 harg7 arg8 harg8 arg9 harg9 x0 x1 x2 x3 x4 xt0 xs0 xi5).trans hA
  iexact HT0

/-- What the body is called with. -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d)))

/-- What it returns. -/
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The accumulator after a point, whatever the point found, when the point before left what it found or the group is
    the first. -/
theorem accAt_eq (c : Dev nD) (t : Fin (cfgM m).N) (a : Vec F S1024x1024 .f32)
    (h : t.val = 0 ∨ ∃ hz : t.val ≠ 0, a = accAt m c (t.val - 1) (by omega)) : accAt m c t.val t.isLt = accPt m c t a := by
  obtain ⟨n, hn⟩ := t
  rcases h with h | ⟨hz, h⟩
  · obtain rfl : n = 0 := h
    show accPt m c ⟨0, hn⟩ k0_pay118 = _
    exact acc_first _ ((first_iff ⟨0, hn⟩).mpr rfl) _ _ _ _ _ _ _ _ _
  · cases n with
    | zero => exact absurd rfl hz
    | succ n => subst h; rfl

set_option maxHeartbeats 4800000 in
/-- The body at a point, from the accumulator found there. -/
theorem sound_from (c : Dev nD) (t : Fin (cfgM m).N) (a : Vec F S1024x1024 .f32) (ha : accAt m c t.val t.isLt = accPt m c t a) :
    iprop((iprop(owns (c : Thread nD τ) scM0_0 fullShare a ∗ (∃ r, prngReg c r)) ∗ Pipeline.ΦT pre0 (tbl m) c) ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d))) ⊢ wp frame (wpE (defs₀ (F := F)) Variants.none c none) Set.univ (bodyAt0 m t) (fun _ => bodyPost m c t) := by
  unfold bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ, PhiT0_eq]
  rw [show (dats m 0 c).leavesExact 0 t = owns (c : Thread nD τ) (ms0_0 m t) fullShare ((dats m 0 c).after 0 t) from by
      unfold Dat.leavesExact; rw [liveAt0_0 m t]; try rfl, after0_0]
  rw [show (dats m 0 c).leavesExact 1 t = owns (c : Thread nD τ) (ms0_1 m t) fullShare ((dats m 0 c).after 1 t) from by
      unfold Dat.leavesExact; rw [liveAt0_1 m t]; try rfl, after0_1]
  rw [show (dats m 0 c).leavesExact 2 t = owns (c : Thread nD τ) (ms0_2 m t) fullShare ((dats m 0 c).after 2 t) from by
      unfold Dat.leavesExact; rw [liveAt0_2 m t]; try rfl, after0_2]
  rw [show (dats m 0 c).leavesExact 3 t = owns (c : Thread nD τ) (ms0_3 m t) fullShare ((dats m 0 c).after 3 t) from by
      unfold Dat.leavesExact; rw [liveAt0_3 m t]; try rfl, after0_3]
  rw [show (dats m 0 c).leavesExact 4 t = owns (c : Thread nD τ) (ms0_4 m t) fullShare ((dats m 0 c).after 4 t) from by
      unfold Dat.leavesExact; rw [liveAt0_4 m t]; try rfl, after0_4]
  have ha' : accAt m c t.val t.isLt = acc (grid0.coords t) (run.sl.r c (grid0.coords t) (tbl m 0)) (run.sl.r_1 c (grid0.coords t) (tbl m 0)) (iblk m c 0 t) (iblk m c 1 t) (iblk m c 2 t) (iblk m c 3 t) (iblk m c 4 t) a := ha
  by_cases h1 : last (grid0.coords t)
  · rw [show (dats m 0 c).leavesExact 5 t = owns (c : Thread nD τ) (ms0_5 m t) fullShare ((dats m 0 c).after 5 t) from by
      unfold Dat.leavesExact; rw [liveAt0_5 m t h1]; try rfl, after0_5]
    have ho : ∀ d, outv (grid0.coords t) (accAt m c t.val t.isLt) d = outAt m c t := fun d => by
      unfold outv outAt; rw [if_pos h1]
    iintro ⟨⟨⟨HS0, Hg⟩, HT0⟩, Ho, ⟨%d0, H0⟩, ⟨%d1, H1⟩, ⟨%d2, H2⟩, ⟨%d3, H3⟩, ⟨%d4, H4⟩, ⟨%d5, H5⟩⟩
    iapply (body_acc c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) scM0_0 (Memref.isWhole_whole _) (iblk m c 0 t) (iblk m c 1 t) (iblk m c 2 t) (iblk m c 3 t) (iblk m c 4 t) (tbl m 0) a ((dats m 0 c).before 5 t d5) (accAt m c t.val t.isLt) ha'.symm _ (ho _) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HT0]; · iexact HT0
    iintro ⟨H0, H1, H2, H3, H4, H5, HS0, HT0⟩
    isplitl [HS0 Hg HT0]
    · isplitl [HS0 Hg]
      · isplitl [HS0]; · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dats m 0 c) 5 t (idleAt0_5 m t h1) (noFlush0_5 m t h1)]
    have ho : ∀ d, outv (grid0.coords t) (accAt m c t.val t.isLt) d = d := fun d => by
      unfold outv; rw [if_neg h1]
    iintro ⟨⟨⟨HS0, Hg⟩, HT0⟩, Ho, ⟨%d0, H0⟩, ⟨%d1, H1⟩, ⟨%d2, H2⟩, ⟨%d3, H3⟩, ⟨%d4, H4⟩, ⟨%d5, H5⟩⟩
    iapply (body_acc c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) scM0_0 (Memref.isWhole_whole _) (iblk m c 0 t) (iblk m c 1 t) (iblk m c 2 t) (iblk m c 3 t) (iblk m c 4 t) (tbl m 0) a ((dats m 0 c).before 5 t d5) (accAt m c t.val t.isLt) ha'.symm _ (ho _) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HT0]; · iexact HT0
    iintro ⟨H0, H1, H2, H3, H4, H5, HS0, HT0⟩
    isplitl [HS0 Hg HT0]
    · isplitl [HS0 Hg]
      · isplitl [HS0]; · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    iexists _; iexact H5

/-- The body at any point. -/
theorem sound_body (c : Dev nD) (t : Fin (cfgM m).N) :
    bodyPre m c t ⊢ wp frame (wpE (defs₀ (F := F)) Variants.none c none) Set.univ (bodyAt0 m t) (fun _ => bodyPost m c t) := by
  unfold bodyPre
  by_cases hz : t.val = 0
  · rw [PhiS_castSucc m c t, PhiS_zero m c _ _ hz, PhiA0_eq]
    iintro ⟨⟨⟨⟨%d, HS0⟩, Hg⟩, HT0⟩, Hr⟩
    iapply (sound_from m c t d (accAt_eq m c t d (.inl hz)))
    isplitl [HS0 Hg HT0]
    · isplitl [HS0 Hg]
      · isplitl [HS0]; · iexact HS0
        iexact Hg
      iexact HT0
    iexact Hr
  · rw [PhiS_castSucc m c t, PhiS_pos m c _ _ hz]
    exact sound_from m c t _ (accAt_eq m c t _ (.inr ⟨hz, rfl⟩))

/-- The program's body at a point is that body. -/
theorem defs₀_row (t : Fin (cfgM m).N) :
    defs₀ (F := F) .tc (cfgM m).body ((cfgM m).bodyArgs t ((cfgM m).slots t)) = bodyAt0 m t := by
  unfold defs₀; rw [Defs.onTc_tc]

/-- The obligation at every point. -/
theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-- What the launch hands over is what holds before the first point. -/
theorem hin (c : Dev nD) : iprop(Pipeline.ΦA spec0 c ∗ Pipeline.ΦT pre0 (tbl m) c) ⊢ (dats m 0 c).Φ 0 := by
  rw [show (dats m 0 c).Φ 0 = PhiS m c 0 (Nat.zero_le _) from rfl, PhiS_zero m c 0 _ rfl]
  try exact Idealize.SL.BI.Entails.refl _

/-- What holds after the last point gives it back. -/
theorem hout (c : Dev nD) : (dats m 0 c).Φ (Fin.last (cfgM m).N) ⊢ Pipeline.ΦA spec0 c := by
  have hN : (cfgM m).N = 256 := N_0
  have ht : (Fin.last (cfgM m).N).val ≠ 0 := by rw [Fin.val_last]; omega
  rw [show (dats m 0 c).Φ (Fin.last (cfgM m).N) = PhiS m c (Fin.last (cfgM m).N).val (Nat.le_of_lt_succ (Fin.last (cfgM m).N).isLt) from rfl, PhiS_pos m c _ _ ht, PhiA0_eq]
  iintro ⟨⟨HS0, Hg⟩, -⟩
  isplitl [HS0]
  · iexists _; iexact HS0
  iexact Hg

/-! ## The run -/

set_option backward.isDefEq.respectTransparency.types false in
/-- The program's run: every array at what the points left, and no semaphore raised. -/
theorem run_main_quiescent : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := hin m) (hout := hout m)

/-- The same without the semaphores. -/
theorem run_main : θ_run defs (onTc (τ := τ) (main (F := F))) (s₀ m ρ) (Pipeline.FramePost (Pipeline.pin pcfgs fun _ => adm m) (dats m) 0 (V m)) :=
  (θ_run defs _ _).mono (fun _ h => h.1) (run_main_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel6Ideal.Gen
end
-- ==== Proof.Experts.lean ====
/- The routed experts, index by index. -/
module

public import proofs.«01_k».proof.Proof.ExpertsFrame
public import Idealize.ShloMosaic.Lib.Pipeline.ValueKit
public import Idealize.ShloMosaic.Lib.Pipeline.Covers
public import Idealize.ShloMosaic.Lib.Pointwise
public import Idealize.ShloMosaic.Lib.StableHlo.ReadAt

@[expose] public section

set_option maxRecDepth 16384

noncomputable section

namespace Cert.Proof.Experts

open Idealize.ShloMosaic Idealize.ShloMosaic.TcCoe Idealize.SL.Sem Cert.Kernel6Ideal Cert.Kernel6Ideal.Gen

/-- The gated product of one hidden unit. -/
def unit (h : Fin 1024 → EReal) (g u : Fin 1024 → EReal) : EReal :=
  (∑ k, h k * g k) * Ideal.logistic (∑ k, h k * g k) * (∑ k, h k * u k)

theorem gate_val (h : Vec Ideal S128x1024 .bf16) (w : Vec Ideal S1x1x1024x256 .bf16) (r : Fin 128) (f : Fin 256) :
    gate (F := Ideal) h w (ix2 r f) = ∑ k, h (ix2 r k) * w (ix4 0 0 k f) := by
  pointwise [gate]

theorem part_val (a e : BitVec 32) (h : Vec Ideal S128x1024 .bf16) (cw : Vec Ideal S128x128 .f32) (wg wu : Vec Ideal S1x1x1024x256 .bf16) (r : Fin 128) (f : Fin 256)
    (l : Fin 128) (hl : BitVec.ofNat 32 l.val = Scalar.addi (Scalar.addi 4#32 (Scalar.muli a 8#32)) e) :
    part (F := Ideal) a e h cw wg wu (ix2 r f)
      = unit (fun k => h (ix2 r k)) (fun k => wg (ix4 0 0 k f)) (fun k => wu (ix4 0 0 k f)) * cw (ix2 r l) := by
  have key : (∑ x : Fin 128, Scalar.select (IntOp.cmpi CmpIPredicate.eq (BitVec.ofNat 32 x.val) (Scalar.addi (Scalar.addi (4#32) (Scalar.muli a 8#32)) e)) (cw (ix2 r x)) (0 : EReal))
      = cw (ix2 r l) := by
    rw [Finset.sum_eq_single l, ← hl]
    · have : IntOp.cmpi CmpIPredicate.eq (BitVec.ofNat 32 l.val) (BitVec.ofNat 32 l.val) = 1#1 := by
        simp [IntOp.cmpi]
      rw [this]; rfl
    · intro x _ hx
      have hne : BitVec.ofNat 32 x.val ≠ BitVec.ofNat 32 l.val := by
        intro hc
        have := congrArg BitVec.toNat hc
        simp only [BitVec.toNat_ofNat] at this
        have h1 := x.isLt
        have h2 := l.isLt
        exact hx (Fin.ext (by omega))
      have : IntOp.cmpi CmpIPredicate.eq (BitVec.ofNat 32 x.val) (BitVec.ofNat 32 l.val) = 0#1 := by
        show BitVec.ofBool (BitVec.ofNat 32 x.val == BitVec.ofNat 32 l.val) = 0#1
        rw [beq_eq_false_iff_ne.mpr hne]; rfl
      rw [← hl, this]; rfl
    · intro hx; exact absurd (Finset.mem_univ l) hx
  have hu : unit (fun k => h (ix2 r k)) (fun k => wg (ix4 0 0 k f)) (fun k => wu (ix4 0 0 k f))
      = gate (F := Ideal) h wg (ix2 r f) * Ideal.logistic (gate (F := Ideal) h wg (ix2 r f)) * gate (F := Ideal) h wu (ix2 r f) := by
    unfold unit
    rw [gate_val, gate_val]
  rw [hu, ← key]
  unfold part
  generalize gate (F := Ideal) h wg = s
  generalize gate (F := Ideal) h wu = q
  pointwise

theorem pay_val (a : Vec Ideal S128x1024 .f32) (h : FVec Ideal S128x2048 .bf16) (w : Vec Ideal S1x2048x1024 .bf16) (r : Fin 128) (k : Fin 1024) :
    k0_pay119 (F := Ideal) a h w (ix2 r k) = a (ix2 r k) + ∑ n, h (ix2 r n) * w (ix3 0 n k) := by
  pointwise [k0_pay119]

theorem lane_word : ∀ (g : Fin 4) (e : Fin 8), BitVec.ofNat 32 (4 + 8 * g.val + e.val) = Scalar.addi (Scalar.addi 4#32 (Scalar.muli (BitVec.ofNat 32 g.val) 8#32)) (BitVec.ofNat 32 e.val) := by
  decide

/-- The lane of expert `e` of group `g` among the combine weights of a row. -/
def lane (g : Fin 4) (e : Fin 8) : Fin 128 := ⟨4 + 8 * g.val + e.val, by omega⟩

theorem hid_0 (g : Fin 4) (h : Vec Ideal S128x1024 .bf16) (cw : Vec Ideal S128x128 .f32) (x2 x3 : Vec Ideal S1x8x1024x256 .bf16) (r : Fin 128) (f : Fin 256) :
    hid (F := Ideal) (BitVec.ofNat 32 g.val) h cw x2 x3 (ix2 r ⟨f.val + 0, by omega⟩)
      = unit (fun k => h (ix2 r k)) (fun k => x2 (ix4 0 0 k f)) (fun k => x3 (ix4 0 0 k f)) * cw (ix2 r (lane g 0)) := by
  have hl : BitVec.ofNat 32 (lane g 0).val = Scalar.addi (Scalar.addi 4#32 (Scalar.muli (BitVec.ofNat 32 g.val) 8#32)) 0#32 := lane_word g 0
  generalize hL : lane g 0 = l at hl
  pointwise [hid]
  rw [part_val (l := l) (hl := hl)]
  unfold unit
  pointwise

theorem hid_1 (g : Fin 4) (h : Vec Ideal S128x1024 .bf16) (cw : Vec Ideal S128x128 .f32) (x2 x3 : Vec Ideal S1x8x1024x256 .bf16) (r : Fin 128) (f : Fin 256) :
    hid (F := Ideal) (BitVec.ofNat 32 g.val) h cw x2 x3 (ix2 r ⟨f.val + 256, by omega⟩)
      = unit (fun k => h (ix2 r k)) (fun k => x2 (ix4 0 1 k f)) (fun k => x3 (ix4 0 1 k f)) * cw (ix2 r (lane g 1)) := by
  have hl : BitVec.ofNat 32 (lane g 1).val = Scalar.addi (Scalar.addi 4#32 (Scalar.muli (BitVec.ofNat 32 g.val) 8#32)) 1#32 := lane_word g 1
  generalize hL : lane g 1 = l at hl
  pointwise [hid]
  rw [dif_neg (show ¬ (f.val + 256 < 256) by omega), dif_pos (show f.val + 256 - 256 < 256 by omega), part_val (l := l) (hl := hl)]
  have hf : ∀ hp, (⟨f.val + 256 - 256, hp⟩ : Fin 256) = f := fun hp => Fin.ext (show f.val + 256 - 256 = f.val by omega)
  simp only [hf]
  unfold unit
  pointwise

theorem hid_2 (g : Fin 4) (h : Vec Ideal S128x1024 .bf16) (cw : Vec Ideal S128x128 .f32) (x2 x3 : Vec Ideal S1x8x1024x256 .bf16) (r : Fin 128) (f : Fin 256) :
    hid (F := Ideal) (BitVec.ofNat 32 g.val) h cw x2 x3 (ix2 r ⟨f.val + 512, by omega⟩)
      = unit (fun k => h (ix2 r k)) (fun k => x2 (ix4 0 2 k f)) (fun k => x3 (ix4 0 2 k f)) * cw (ix2 r (lane g 2)) := by
  have hl : BitVec.ofNat 32 (lane g 2).val = Scalar.addi (Scalar.addi 4#32 (Scalar.muli (BitVec.ofNat 32 g.val) 8#32)) 2#32 := lane_word g 2
  generalize hL : lane g 2 = l at hl
  pointwise [hid]
  rw [dif_neg (show ¬ (f.val + 512 < 256) by omega), dif_neg (show ¬ (f.val + 512 - 256 < 256) by omega), dif_pos (show f.val + 512 - 256 - 256 < 256 by omega), part_val (l := l) (hl := hl)]
  have hf : ∀ hp, (⟨f.val + 512 - 256 - 256, hp⟩ : Fin 256) = f := fun hp => Fin.ext (show f.val + 512 - 256 - 256 = f.val by omega)
  simp only [hf]
  unfold unit
  pointwise

theorem hid_3 (g : Fin 4) (h : Vec Ideal S128x1024 .bf16) (cw : Vec Ideal S128x128 .f32) (x2 x3 : Vec Ideal S1x8x1024x256 .bf16) (r : Fin 128) (f : Fin 256) :
    hid (F := Ideal) (BitVec.ofNat 32 g.val) h cw x2 x3 (ix2 r ⟨f.val + 768, by omega⟩)
      = unit (fun k => h (ix2 r k)) (fun k => x2 (ix4 0 3 k f)) (fun k => x3 (ix4 0 3 k f)) * cw (ix2 r (lane g 3)) := by
  have hl : BitVec.ofNat 32 (lane g 3).val = Scalar.addi (Scalar.addi 4#32 (Scalar.muli (BitVec.ofNat 32 g.val) 8#32)) 3#32 := lane_word g 3
  generalize hL : lane g 3 = l at hl
  pointwise [hid]
  rw [dif_neg (show ¬ (f.val + 768 < 256) by omega), dif_neg (show ¬ (f.val + 768 - 256 < 256) by omega), dif_neg (show ¬ (f.val + 768 - 256 - 256 < 256) by omega), dif_pos (show f.val + 768 - 256 - 256 - 256 < 256 by omega), part_val (l := l) (hl := hl)]
  have hf : ∀ hp, (⟨f.val + 768 - 256 - 256 - 256, hp⟩ : Fin 256) = f := fun hp => Fin.ext (show f.val + 768 - 256 - 256 - 256 = f.val by omega)
  simp only [hf]
  unfold unit
  pointwise

theorem hid_4 (g : Fin 4) (h : Vec Ideal S128x1024 .bf16) (cw : Vec Ideal S128x128 .f32) (x2 x3 : Vec Ideal S1x8x1024x256 .bf16) (r : Fin 128) (f : Fin 256) :
    hid (F := Ideal) (BitVec.ofNat 32 g.val) h cw x2 x3 (ix2 r ⟨f.val + 1024, by omega⟩)
      = unit (fun k => h (ix2 r k)) (fun k => x2 (ix4 0 4 k f)) (fun k => x3 (ix4 0 4 k f)) * cw (ix2 r (lane g 4)) := by
  have hl : BitVec.ofNat 32 (lane g 4).val = Scalar.addi (Scalar.addi 4#32 (Scalar.muli (BitVec.ofNat 32 g.val) 8#32)) 4#32 := lane_word g 4
  generalize hL : lane g 4 = l at hl
  pointwise [hid]
  rw [dif_neg (show ¬ (f.val + 1024 < 256) by omega), dif_neg (show ¬ (f.val + 1024 - 256 < 256) by omega), dif_neg (show ¬ (f.val + 1024 - 256 - 256 < 256) by omega), dif_neg (show ¬ (f.val + 1024 - 256 - 256 - 256 < 256) by omega), dif_pos (show f.val + 1024 - 256 - 256 - 256 - 256 < 256 by omega), part_val (l := l) (hl := hl)]
  have hf : ∀ hp, (⟨f.val + 1024 - 256 - 256 - 256 - 256, hp⟩ : Fin 256) = f := fun hp => Fin.ext (show f.val + 1024 - 256 - 256 - 256 - 256 = f.val by omega)
  simp only [hf]
  unfold unit
  pointwise

theorem hid_5 (g : Fin 4) (h : Vec Ideal S128x1024 .bf16) (cw : Vec Ideal S128x128 .f32) (x2 x3 : Vec Ideal S1x8x1024x256 .bf16) (r : Fin 128) (f : Fin 256) :
    hid (F := Ideal) (BitVec.ofNat 32 g.val) h cw x2 x3 (ix2 r ⟨f.val + 1280, by omega⟩)
      = unit (fun k => h (ix2 r k)) (fun k => x2 (ix4 0 5 k f)) (fun k => x3 (ix4 0 5 k f)) * cw (ix2 r (lane g 5)) := by
  have hl : BitVec.ofNat 32 (lane g 5).val = Scalar.addi (Scalar.addi 4#32 (Scalar.muli (BitVec.ofNat 32 g.val) 8#32)) 5#32 := lane_word g 5
  generalize hL : lane g 5 = l at hl
  pointwise [hid]
  rw [dif_neg (show ¬ (f.val + 1280 < 256) by omega), dif_neg (show ¬ (f.val + 1280 - 256 < 256) by omega), dif_neg (show ¬ (f.val + 1280 - 256 - 256 < 256) by omega), dif_neg (show ¬ (f.val + 1280 - 256 - 256 - 256 < 256) by omega), dif_neg (show ¬ (f.val + 1280 - 256 - 256 - 256 - 256 < 256) by omega), dif_pos (show f.val + 1280 - 256 - 256 - 256 - 256 - 256 < 256 by omega), part_val (l := l) (hl := hl)]
  have hf : ∀ hp, (⟨f.val + 1280 - 256 - 256 - 256 - 256 - 256, hp⟩ : Fin 256) = f := fun hp => Fin.ext (show f.val + 1280 - 256 - 256 - 256 - 256 - 256 = f.val by omega)
  simp only [hf]
  unfold unit
  pointwise

theorem hid_6 (g : Fin 4) (h : Vec Ideal S128x1024 .bf16) (cw : Vec Ideal S128x128 .f32) (x2 x3 : Vec Ideal S1x8x1024x256 .bf16) (r : Fin 128) (f : Fin 256) :
    hid (F := Ideal) (BitVec.ofNat 32 g.val) h cw x2 x3 (ix2 r ⟨f.val + 1536, by omega⟩)
      = unit (fun k => h (ix2 r k)) (fun k => x2 (ix4 0 6 k f)) (fun k => x3 (ix4 0 6 k f)) * cw (ix2 r (lane g 6)) := by
  have hl : BitVec.ofNat 32 (lane g 6).val = Scalar.addi (Scalar.addi 4#32 (Scalar.muli (BitVec.ofNat 32 g.val) 8#32)) 6#32 := lane_word g 6
  generalize hL : lane g 6 = l at hl
  pointwise [hid]
  rw [dif_neg (show ¬ (f.val + 1536 < 256) by omega), dif_neg (show ¬ (f.val + 1536 - 256 < 256) by omega), dif_neg (show ¬ (f.val + 1536 - 256 - 256 < 256) by omega), dif_neg (show ¬ (f.val + 1536 - 256 - 256 - 256 < 256) by omega), dif_neg (show ¬ (f.val + 1536 - 256 - 256 - 256 - 256 < 256) by omega), dif_neg (show ¬ (f.val + 1536 - 256 - 256 - 256 - 256 - 256 < 256) by omega), dif_pos (show f.val + 1536 - 256 - 256 - 256 - 256 - 256 - 256 < 256 by omega), part_val (l := l) (hl := hl)]
  have hf : ∀ hp, (⟨f.val + 1536 - 256 - 256 - 256 - 256 - 256 - 256, hp⟩ : Fin 256) = f := fun hp => Fin.ext (show f.val + 1536 - 256 - 256 - 256 - 256 - 256 - 256 = f.val by omega)
  simp only [hf]
  unfold unit
  pointwise

theorem hid_7 (g : Fin 4) (h : Vec Ideal S128x1024 .bf16) (cw : Vec Ideal S128x128 .f32) (x2 x3 : Vec Ideal S1x8x1024x256 .bf16) (r : Fin 128) (f : Fin 256) :
    hid (F := Ideal) (BitVec.ofNat 32 g.val) h cw x2 x3 (ix2 r ⟨f.val + 1792, by omega⟩)
      = unit (fun k => h (ix2 r k)) (fun k => x2 (ix4 0 7 k f)) (fun k => x3 (ix4 0 7 k f)) * cw (ix2 r (lane g 7)) := by
  have hl : BitVec.ofNat 32 (lane g 7).val = Scalar.addi (Scalar.addi 4#32 (Scalar.muli (BitVec.ofNat 32 g.val) 8#32)) 7#32 := lane_word g 7
  generalize hL : lane g 7 = l at hl
  pointwise [hid]
  rw [dif_neg (show ¬ (f.val + 1792 < 256) by omega), dif_neg (show ¬ (f.val + 1792 - 256 < 256) by omega), dif_neg (show ¬ (f.val + 1792 - 256 - 256 < 256) by omega), dif_neg (show ¬ (f.val + 1792 - 256 - 256 - 256 < 256) by omega), dif_neg (show ¬ (f.val + 1792 - 256 - 256 - 256 - 256 < 256) by omega), dif_neg (show ¬ (f.val + 1792 - 256 - 256 - 256 - 256 - 256 < 256) by omega), dif_neg (show ¬ (f.val + 1792 - 256 - 256 - 256 - 256 - 256 - 256 < 256) by omega), part_val (l := l) (hl := hl)]
  have hf : ∀ hp, (⟨f.val + 1792 - 256 - 256 - 256 - 256 - 256 - 256 - 256, hp⟩ : Fin 256) = f := fun hp => Fin.ext (show f.val + 1792 - 256 - 256 - 256 - 256 - 256 - 256 - 256 = f.val by omega)
  simp only [hf]
  unfold unit
  pointwise

theorem hid_val (g : Fin 4) (h : Vec Ideal S128x1024 .bf16) (cw : Vec Ideal S128x128 .f32) (x2 x3 : Vec Ideal S1x8x1024x256 .bf16) (r : Fin 128) (e : Fin 8) (f : Fin 256) :
    hid (F := Ideal) (BitVec.ofNat 32 g.val) h cw x2 x3 (ix2 r ⟨f.val + 256 * e.val, by omega⟩)
      = unit (fun k => h (ix2 r k)) (fun k => x2 (ix4 0 e k f)) (fun k => x3 (ix4 0 e k f)) * cw (ix2 r (lane g e)) := by
  match e with
  | ⟨0, _⟩ => exact hid_0 g h cw x2 x3 r f
  | ⟨1, _⟩ => exact hid_1 g h cw x2 x3 r f
  | ⟨2, _⟩ => exact hid_2 g h cw x2 x3 r f
  | ⟨3, _⟩ => exact hid_3 g h cw x2 x3 r f
  | ⟨4, _⟩ => exact hid_4 g h cw x2 x3 r f
  | ⟨5, _⟩ => exact hid_5 g h cw x2 x3 r f
  | ⟨6, _⟩ => exact hid_6 g h cw x2 x3 r f
  | ⟨7, _⟩ => exact hid_7 g h cw x2 x3 r f

/-- What the eight experts of group `g` add to one entry of a row. -/
def grp (h : Fin 1024 → EReal) (wg wu : Fin 8 → Fin 256 → Fin 1024 → EReal) (cw : Fin 8 → EReal) (wd : Fin 8 → Fin 256 → EReal) : EReal :=
  ∑ e, ∑ f, unit h (wg e f) (wu e f) * cw e * wd e f

theorem sum_split (s : Fin 2048 → EReal) :
    ∑ n, s n = ∑ e : Fin 8, ∑ f : Fin 256, s ⟨f.val + 256 * e.val, by omega⟩ := by
  rw [← Finset.sum_product', ← (finProdFinEquiv (m := 8) (n := 256)).sum_comp]
  rfl

theorem pay_hid (g : Fin 4) (a : Vec Ideal S128x1024 .f32) (h : Vec Ideal S128x1024 .bf16) (cw : Vec Ideal S128x128 .f32) (x2 x3 : Vec Ideal S1x8x1024x256 .bf16) (w : Vec Ideal S1x2048x1024 .bf16) (r : Fin 128) (k : Fin 1024) :
    k0_pay119 (F := Ideal) a (hid (F := Ideal) (BitVec.ofNat 32 g.val) h cw x2 x3) w (ix2 r k)
      = a (ix2 r k) + grp (fun k => h (ix2 r k)) (fun e f k => x2 (ix4 0 e k f)) (fun e f k => x3 (ix4 0 e k f)) (fun e => cw (ix2 r (lane g e)))
          (fun e f => w (ix3 0 ⟨f.val + 256 * e.val, by omega⟩ k)) := by
  rw [pay_val, sum_split]
  unfold grp
  simp only [hid_val]

/-- What a group adds to one entry of the tile's accumulator. -/
def add (g : Fin 4) (x0 : Vec Ideal S1024x1024 .bf16) (x1 : Vec Ideal S1024x128 .f32) (x2 x3 : Vec Ideal S1x8x1024x256 .bf16) (x4 : Vec Ideal S1x2048x1024 .bf16) (y n : Fin 1024) : EReal :=
  grp (fun k => x0 (ix2 y k)) (fun e f k => x2 (ix4 0 e k f)) (fun e f k => x3 (ix4 0 e k f)) (fun e => x1 (ix2 y (lane g e)))
    (fun e f => x4 (ix3 0 ⟨f.val + 256 * e.val, by omega⟩ n))

theorem step_in (C : BitVec 1) (g : Fin 4) (o : ℕ) (inb : ∀ a, (![o, 0] : Fin 2 → ℕ) a + S128x1024.size a ≤ S1024x1024.size a)
    (inb' : ∀ a, (![o, 0] : Fin 2 → ℕ) a + S128x128.size a ≤ S1024x128.size a)
    (x0 : Vec Ideal S1024x1024 .bf16) (x1 : Vec Ideal S1024x128 .f32) (x2 x3 : Vec Ideal S1x8x1024x256 .bf16) (x4 : Vec Ideal S1x2048x1024 .bf16) (a : Vec Ideal S1024x1024 .f32)
    (y n : Fin 1024) (hy : o ≤ y.val ∧ y.val < o + 128) (hC : C ≠ 1#1 → add g x0 x1 x2 x3 x4 y n = 0) :
    step (F := Ideal) C (BitVec.ofNat 32 g.val) o inb inb' x0 x1 x2 x3 x4 a (ix2 y n) = a (ix2 y n) + add g x0 x1 x2 x3 x4 y n := by
  unfold step
  by_cases h : C = 1#1
  · rw [if_pos h]
    unfold VecWindow.put
    have hb := n.isLt
    rw [dif_pos (fun b => by
      match b with
      | ⟨0, _⟩ => exact hy
      | ⟨1, _⟩ => exact ⟨Nat.zero_le _, by show n.val < 0 + 1024; omega⟩)]
    obtain ⟨r, hr⟩ : ∃ r : Fin 128, y.val = o + r.val := ⟨⟨y.val - o, by omega⟩, by show y.val = o + (y.val - o); omega⟩
    refine (congrArg _ (show _ = (ix2 r n : S128x1024.Idx) from funext fun b => Fin.ext ?_)).trans ?_
    · match b with
      | ⟨0, _⟩ => show y.val - o = r.val; omega
      | ⟨1, _⟩ => show n.val - 0 = n.val; omega
    rw [pay_hid]
    unfold add
    have e0 : ∀ (x : Vec Ideal S1024x1024 .f32) (k : Fin 1024), View.ld x (Rect.unit ![o, 0] S128x1024.size inb) (ix2 r k) = x (ix2 y k) := fun x k =>
      View.ld_unit_apply_of x _ _ inb (ix2 r k) (ix2 y k) fun b => by
        match b with
        | ⟨0, _⟩ => exact hr
        | ⟨1, _⟩ => show k.val = 0 + k.val; omega
    have e0' : ∀ (x : Vec Ideal S1024x1024 .bf16) (k : Fin 1024), View.ld x (Rect.unit ![o, 0] S128x1024.size inb) (ix2 r k) = x (ix2 y k) := fun x k =>
      View.ld_unit_apply_of x _ _ inb (ix2 r k) (ix2 y k) fun b => by
        match b with
        | ⟨0, _⟩ => exact hr
        | ⟨1, _⟩ => show k.val = 0 + k.val; omega
    have e1 : ∀ (k : Fin 128), View.ld x1 (Rect.unit ![o, 0] S128x128.size inb') (ix2 r k) = x1 (ix2 y k) := fun k =>
      View.ld_unit_apply_of x1 _ _ inb' (ix2 r k) (ix2 y k) fun b => by
        match b with
        | ⟨0, _⟩ => exact hr
        | ⟨1, _⟩ => show k.val = 0 + k.val; omega
    have e4 : ∀ (k : Fin 2048), View.ld x4 (Rect.unit ![0, 0, 0] S1x2048x1024.size inb_S1x2048x1024_S1x2048x1024_0_0_0) (ix3 0 k n) = x4 (ix3 0 k n) := fun k => by
      pointwise
    refine congrArg₂ (· + ·) (e0 a n) ?_
    show grp _ _ _ _ _ = grp _ _ _ _ _
    congr 1
    · funext k; exact e0' x0 k
    · funext e; exact e1 _
    · funext e f; exact e4 _
  · rw [if_neg h, hC h, add_zero]

theorem step_out (C : BitVec 1) (g : BitVec 32) (o : ℕ) (inb : ∀ a, (![o, 0] : Fin 2 → ℕ) a + S128x1024.size a ≤ S1024x1024.size a)
    (inb' : ∀ a, (![o, 0] : Fin 2 → ℕ) a + S128x128.size a ≤ S1024x128.size a)
    (x0 : Vec Ideal S1024x1024 .bf16) (x1 : Vec Ideal S1024x128 .f32) (x2 x3 : Vec Ideal S1x8x1024x256 .bf16) (x4 : Vec Ideal S1x2048x1024 .bf16) (a : Vec Ideal S1024x1024 .f32)
    (y n : Fin 1024) (hy : ¬(o ≤ y.val ∧ y.val < o + 128)) :
    step (F := Ideal) C g o inb inb' x0 x1 x2 x3 x4 a (ix2 y n) = a (ix2 y n) := by
  unfold step
  split
  · unfold VecWindow.put
    rw [dif_neg (fun h => hy (h 0))]
  · rfl

theorem acc_val (i : grid0.Coords) (g : Fin 4) (hg : (i 1).val = g.val) (lo hi : BitVec 32) (x0 : Vec Ideal S1024x1024 .bf16) (x1 : Vec Ideal S1024x128 .f32) (x2 x3 : Vec Ideal S1x8x1024x256 .bf16) (x4 : Vec Ideal S1x2048x1024 .bf16) (a : Vec Ideal S1024x1024 .f32)
    (y n : Fin 1024)
    (hz : ∀ j : ℕ, j < 8 → 128 * j ≤ y.val ∧ y.val < 128 * j + 128 → live lo hi (BitVec.ofNat 32 (128 * j)) (BitVec.ofNat 32 (128 * j + 128)) ≠ 1#1 → add g x0 x1 x2 x3 x4 y n = 0) :
    acc (F := Ideal) i lo hi x0 x1 x2 x3 x4 a (ix2 y n)
      = start (F := Ideal) (Scalar.cmpi .ne (Scalar.extui (Scalar.cmpi .eq (BitVec.ofNat 32 (i 1).val) 0#32)) 0#32) a (ix2 y n) + add g x0 x1 x2 x3 x4 y n := by
  unfold acc
  generalize start (F := Ideal) _ a = b
  rw [hg]
  have hy := y.isLt
  obtain ⟨j, hj, hj'⟩ : ∃ j : ℕ, j < 8 ∧ (128 * j ≤ y.val ∧ y.val < 128 * j + 128) := ⟨y.val / 128, by omega, by omega⟩
  have hzj := hz j hj hj'
  clear hz
  interval_cases j
  · rw [step_out (o := 896) (hy := by omega), step_out (o := 768) (hy := by omega), step_out (o := 640) (hy := by omega), step_out (o := 512) (hy := by omega), step_out (o := 384) (hy := by omega), step_out (o := 256) (hy := by omega), step_out (o := 128) (hy := by omega), step_in (o := 0) (hy := hj') (hC := hzj)]
  · rw [step_out (o := 896) (hy := by omega), step_out (o := 768) (hy := by omega), step_out (o := 640) (hy := by omega), step_out (o := 512) (hy := by omega), step_out (o := 384) (hy := by omega), step_out (o := 256) (hy := by omega), step_in (o := 128) (hy := hj') (hC := hzj), step_out (o := 0) (hy := by omega)]
  · rw [step_out (o := 896) (hy := by omega), step_out (o := 768) (hy := by omega), step_out (o := 640) (hy := by omega), step_out (o := 512) (hy := by omega), step_out (o := 384) (hy := by omega), step_in (o := 256) (hy := hj') (hC := hzj), step_out (o := 128) (hy := by omega), step_out (o := 0) (hy := by omega)]
  · rw [step_out (o := 896) (hy := by omega), step_out (o := 768) (hy := by omega), step_out (o := 640) (hy := by omega), step_out (o := 512) (hy := by omega), step_in (o := 384) (hy := hj') (hC := hzj), step_out (o := 256) (hy := by omega), step_out (o := 128) (hy := by omega), step_out (o := 0) (hy := by omega)]
  · rw [step_out (o := 896) (hy := by omega), step_out (o := 768) (hy := by omega), step_out (o := 640) (hy := by omega), step_in (o := 512) (hy := hj') (hC := hzj), step_out (o := 384) (hy := by omega), step_out (o := 256) (hy := by omega), step_out (o := 128) (hy := by omega), step_out (o := 0) (hy := by omega)]
  · rw [step_out (o := 896) (hy := by omega), step_out (o := 768) (hy := by omega), step_in (o := 640) (hy := hj') (hC := hzj), step_out (o := 512) (hy := by omega), step_out (o := 384) (hy := by omega), step_out (o := 256) (hy := by omega), step_out (o := 128) (hy := by omega), step_out (o := 0) (hy := by omega)]
  · rw [step_out (o := 896) (hy := by omega), step_in (o := 768) (hy := hj') (hC := hzj), step_out (o := 640) (hy := by omega), step_out (o := 512) (hy := by omega), step_out (o := 384) (hy := by omega), step_out (o := 256) (hy := by omega), step_out (o := 128) (hy := by omega), step_out (o := 0) (hy := by omega)]
  · rw [step_in (o := 896) (hy := hj') (hC := hzj), step_out (o := 768) (hy := by omega), step_out (o := 640) (hy := by omega), step_out (o := 512) (hy := by omega), step_out (o := 384) (hy := by omega), step_out (o := 256) (hy := by omega), step_out (o := 128) (hy := by omega), step_out (o := 0) (hy := by omega)]

variable (m : (ℓ : Loc nD τ sig) → Buf (Elt Ideal) ℓ)

/-! ## The arrays the call finds -/

theorem w1 (c : Dev nD) (g : Fin 4) (e : Fin 8) (k : Fin 1024) (f : Fin 256) :
    V (F := Ideal) m c main_v1 (ix4 g e k f) = m ((c : Thread nD τ).loc main_arg3) (ix3 ⟨8 * g.val + e.val, by omega⟩ k f) := by
  unfold V; after_reads_at
  exact congrArg (fun i : Fin 32 => m ((c : Thread nD τ).loc main_arg3) (ix3 i k f)) (Fin.ext (by show g.val * 8 + e.val = 8 * g.val + e.val; omega))
theorem w3 (c : Dev nD) (g : Fin 4) (e : Fin 8) (k : Fin 1024) (f : Fin 256) :
    V (F := Ideal) m c main_v3 (ix4 g e k f) = m ((c : Thread nD τ).loc main_arg4) (ix3 ⟨8 * g.val + e.val, by omega⟩ k f) := by
  unfold V; after_reads_at
  exact congrArg (fun i : Fin 32 => m ((c : Thread nD τ).loc main_arg4) (ix3 i k f)) (Fin.ext (by show g.val * 8 + e.val = 8 * g.val + e.val; omega))
theorem w5 (c : Dev nD) (g : Fin 4) (e : Fin 8) (f : Fin 256) (n : Fin 1024) :
    V (F := Ideal) m c main_v5 (ix3 g ⟨f.val + 256 * e.val, by omega⟩ n) = m ((c : Thread nD τ).loc main_arg5) (ix3 ⟨8 * g.val + e.val, by omega⟩ f n) := by
  unfold V; after_reads_at
  exact congrArg (fun i : Fin 32 => m ((c : Thread nD τ).loc main_arg5) (ix3 i f n)) (Fin.ext (by show g.val * 8 + (f.val + 256 * e.val) / 256 = 8 * g.val + e.val; omega))
theorem w8 (c : Dev nD) (T : Fin 64) (g : Fin 8) :
    V (F := Ideal) m c main_v8 (ix1 ⟨8 * T.val + g.val, by omega⟩) = m ((c : Thread nD τ).loc main_arg0) (ix3 T 0 ⟨g.val, by omega⟩) := by
  unfold V; after_reads_at

theorem idx_0 (t : Fin (cfgM m).N) : ((cfgM m).win 0).index t = ![(grid0.coords t 0).val, 0] :=
  (by decide +kernel : ∀ t : Fin grid0.N, cc0_transform_0 (grid0.coords t) = ![(grid0.coords t 0).val, 0]) t
theorem idx_1 (t : Fin (cfgM m).N) : ((cfgM m).win 1).index t = ![(grid0.coords t 0).val, 0] :=
  (by decide +kernel : ∀ t : Fin grid0.N, cc0_transform_1 (grid0.coords t) = ![(grid0.coords t 0).val, 0]) t
theorem idx_2 (t : Fin (cfgM m).N) : ((cfgM m).win 2).index t = ![(grid0.coords t 1).val, 0, 0, 0] :=
  (by decide +kernel : ∀ t : Fin grid0.N, cc0_transform_2 (grid0.coords t) = ![(grid0.coords t 1).val, 0, 0, 0]) t
theorem idx_3 (t : Fin (cfgM m).N) : ((cfgM m).win 3).index t = ![(grid0.coords t 1).val, 0, 0, 0] :=
  (by decide +kernel : ∀ t : Fin grid0.N, cc0_transform_3 (grid0.coords t) = ![(grid0.coords t 1).val, 0, 0, 0]) t
theorem idx_4 (t : Fin (cfgM m).N) : ((cfgM m).win 4).index t = ![(grid0.coords t 1).val, 0, 0] :=
  (by decide +kernel : ∀ t : Fin grid0.N, cc0_transform_4 (grid0.coords t) = ![(grid0.coords t 1).val, 0, 0]) t
theorem idx_5 (t : Fin (cfgM m).N) : ((cfgM m).win 5).index t = ![(grid0.coords t 0).val, 0] :=
  (by decide +kernel : ∀ t : Fin grid0.N, cc0_transform_5 (grid0.coords t) = ![(grid0.coords t 0).val, 0]) t

theorem r0 (c : Dev nD) (t : Fin (cfgM m).N) (y k : Fin 1024) (r : Fin 65536) (hr : r.val = 1024 * (grid0.coords t 0).val + y.val) :
    iblk (F := Ideal) m c 0 t (ix2 y k) = m ((c : Thread nD τ).loc main_arg1) (ix2 r k) := by
  blk_ext [iblk, idx_0 m t]

theorem r1 (c : Dev nD) (t : Fin (cfgM m).N) (y : Fin 1024) (k : Fin 128) (r : Fin 65536) (hr : r.val = 1024 * (grid0.coords t 0).val + y.val) :
    iblk (F := Ideal) m c 1 t (ix2 y k) = m ((c : Thread nD τ).loc main_arg2) (ix2 r k) := by
  blk_ext [iblk, idx_1 m t]

theorem r2 (c : Dev nD) (t : Fin (cfgM m).N) (g : Fin 4) (hg : (grid0.coords t 1).val = g.val) (e : Fin 8) (k : Fin 1024) (f : Fin 256) :
    iblk (F := Ideal) m c 2 t (ix4 0 e k f) = m ((c : Thread nD τ).loc main_arg3) (ix3 ⟨8 * g.val + e.val, by omega⟩ k f) := by
  refine Eq.trans ?_ (w1 m c g e k f)
  blk_ext [iblk, idx_2 m t]

theorem r3 (c : Dev nD) (t : Fin (cfgM m).N) (g : Fin 4) (hg : (grid0.coords t 1).val = g.val) (e : Fin 8) (k : Fin 1024) (f : Fin 256) :
    iblk (F := Ideal) m c 3 t (ix4 0 e k f) = m ((c : Thread nD τ).loc main_arg4) (ix3 ⟨8 * g.val + e.val, by omega⟩ k f) := by
  refine Eq.trans ?_ (w3 m c g e k f)
  blk_ext [iblk, idx_3 m t]

theorem r4 (c : Dev nD) (t : Fin (cfgM m).N) (g : Fin 4) (hg : (grid0.coords t 1).val = g.val) (e : Fin 8) (f : Fin 256) (n : Fin 1024) :
    iblk (F := Ideal) m c 4 t (ix3 0 ⟨f.val + 256 * e.val, by omega⟩ n) = m ((c : Thread nD τ).loc main_arg5) (ix3 ⟨8 * g.val + e.val, by omega⟩ f n) := by
  refine Eq.trans ?_ (w5 m c g e f n)
  blk_ext [iblk, idx_4 m t]

theorem off1 : ∀ t : Fin grid0.N, k0_off1 (grid0.coords t) 0 = 8 * (grid0.coords t 0).val + (grid0.coords t 1).val := by decide +kernel
theorem off2 : ∀ t : Fin grid0.N, k0_off2 (grid0.coords t) 0 = 8 * (grid0.coords t 0).val + (grid0.coords t 1).val + 1 := by decide +kernel

theorem lo_val (c : Dev nD) (t : Fin grid0.N) (T : Fin 64) (hT : (grid0.coords t 0).val = T.val) (g : Fin 4) (hg : (grid0.coords t 1).val = g.val) :
    run.sl.r (F := Ideal) c (grid0.coords t) (tbl m 0) = m ((c : Thread nD τ).loc main_arg0) (ix3 T 0 ⟨g.val, by omega⟩) := by
  obtain rfl : c = 0 := Subsingleton.elim _ _
  refine Eq.trans ?_ (w8 m 0 T ⟨g.val, by omega⟩)
  unfold run.sl.r
  refine congrArg (V (F := Ideal) m 0 main_v8) (funext fun b => Fin.ext ?_)
  match b with
  | ⟨0, _⟩ =>
    show k0_off1 (grid0.coords t) 0 + 1 * 0 = 8 * T.val + g.val
    rw [off1, hT, hg]; omega

theorem hi_val (c : Dev nD) (t : Fin grid0.N) (T : Fin 64) (hT : (grid0.coords t 0).val = T.val) (g : Fin 4) (hg : (grid0.coords t 1).val = g.val) :
    run.sl.r_1 (F := Ideal) c (grid0.coords t) (tbl m 0) = m ((c : Thread nD τ).loc main_arg0) (ix3 T 0 ⟨g.val + 1, by omega⟩) := by
  obtain rfl : c = 0 := Subsingleton.elim _ _
  refine Eq.trans ?_ (w8 m 0 T ⟨g.val + 1, by omega⟩)
  unfold run.sl.r_1
  refine congrArg (V (F := Ideal) m 0 main_v8) (funext fun b => Fin.ext ?_)
  match b with
  | ⟨0, _⟩ =>
    show k0_off2 (grid0.coords t) 0 + 1 * 0 = 8 * T.val + (g.val + 1)
    rw [off2, hT, hg]; omega

/-! ## A tile's accumulator -/

/-- Every combine weight is zero, or its row lies in its group's segment of the tile. -/
def Routed : Prop := ∀ (c : Dev nD) (T : Fin 64) (y : Fin 1024) (g : Fin 4) (e : Fin 8),
  m ((c : Thread nD τ).loc main_arg2) (ix2 (⟨1024 * T.val + y.val, by omega⟩ : Fin 65536) (lane g e)) = (0 : EReal)
    ∨ (BitVec.toInt (m ((c : Thread nD τ).loc main_arg0) (ix3 T 0 (⟨g.val, by omega⟩ : Fin 128))) ≤ (y.val : ℤ)
      ∧ (y.val : ℤ) < BitVec.toInt (m ((c : Thread nD τ).loc main_arg0) (ix3 T 0 (⟨g.val + 1, by omega⟩ : Fin 128))))

/-- A block a segment reaches into is run. -/
theorem live_of (lo hi o o' : BitVec 32) (h1 : lo.toInt < o'.toInt) (h2 : o.toInt < hi.toInt) : live lo hi o o' = 1#1 := by
  change Scalar.cmpi .ne (Scalar.extui (IntOp.andi (IntOp.cmpi .slt lo o') (IntOp.cmpi .sgt hi o))) 0#32 = 1#1
  rw [WordCmp.cmpi_slt_eq, WordCmp.cmpi_sgt_eq, decide_eq_true h1, decide_eq_true h2]
  decide

theorem toInt_small (n : ℕ) (h : n ≤ 1024) : (BitVec.ofNat 32 n).toInt = n := by
  rw [BitVec.toInt_eq_toNat_of_lt (by rw [BitVec.toNat_ofNat]; omega), BitVec.toNat_ofNat]
  omega

/-- What the group `g` adds to row `r` of the result at column `n`. -/
def addAt (c : Dev nD) (r : Fin 65536) (n : Fin 1024) (g : Fin 4) : EReal :=
  grp (fun k => m ((c : Thread nD τ).loc main_arg1) (ix2 r k)) (fun e f k => m ((c : Thread nD τ).loc main_arg3) (ix3 ⟨8 * g.val + e.val, by omega⟩ k f))
    (fun e f k => m ((c : Thread nD τ).loc main_arg4) (ix3 ⟨8 * g.val + e.val, by omega⟩ k f)) (fun e => m ((c : Thread nD τ).loc main_arg2) (ix2 r (lane g e)))
    (fun e f => m ((c : Thread nD τ).loc main_arg5) (ix3 ⟨8 * g.val + e.val, by omega⟩ f n))

theorem add_blocks (c : Dev nD) (t : Fin (cfgM m).N) (g : Fin 4) (hg : (grid0.coords t 1).val = g.val) (y n : Fin 1024) (r : Fin 65536) (hr : r.val = 1024 * (grid0.coords t 0).val + y.val) :
    add g (iblk (F := Ideal) m c 0 t) (iblk (F := Ideal) m c 1 t) (iblk (F := Ideal) m c 2 t) (iblk (F := Ideal) m c 3 t) (iblk (F := Ideal) m c 4 t) y n = addAt m c r n g := by
  unfold add addAt
  congr 1
  · funext k; exact r0 m c t y k r hr
  · funext e f k; exact r2 m c t g hg e k f
  · funext e f k; exact r3 m c t g hg e k f
  · funext e; exact r1 m c t y _ r hr
  · funext e f; exact r4 m c t g hg e f n

theorem accPt_val (hR : Routed m) (c : Dev nD) (t : Fin (cfgM m).N) (T : Fin 64) (hT : (grid0.coords t 0).val = T.val) (g : Fin 4) (hg : (grid0.coords t 1).val = g.val) (a : Vec Ideal S1024x1024 .f32) (y n : Fin 1024) :
    accPt (F := Ideal) m c t a (ix2 y n)
      = start (F := Ideal) (Scalar.cmpi .ne (Scalar.extui (Scalar.cmpi .eq (BitVec.ofNat 32 (grid0.coords t 1).val) 0#32)) 0#32) a (ix2 y n)
        + addAt m c ⟨1024 * T.val + y.val, by omega⟩ n g := by
  have hb := add_blocks m c t g hg y n ⟨1024 * T.val + y.val, by omega⟩ (by rw [hT])
  rw [← hb]
  unfold accPt
  refine acc_val _ g hg _ _ _ _ _ _ _ a y n fun j hj hy hl => ?_
  rw [hb]
  rw [lo_val m c t T hT g hg, hi_val m c t T hT g hg] at hl
  have hz : ∀ e, m ((c : Thread nD τ).loc main_arg2) (ix2 (⟨1024 * T.val + y.val, by omega⟩ : Fin 65536) (lane g e)) = (0 : EReal) := fun e => by
    rcases hR c T y g e with h | h
    · exact h
    · refine absurd (live_of _ _ _ _ ?_ ?_) hl
      · rw [toInt_small _ (by omega)]; omega
      · rw [toInt_small _ (by omega)]; omega
  unfold addAt grp
  simp only [hz, mul_zero, zero_mul, Finset.sum_const_zero]

theorem accPt_first (hR : Routed m) (c : Dev nD) (t : Fin (cfgM m).N) (T : Fin 64) (hT : (grid0.coords t 0).val = T.val) (hg : (grid0.coords t 1).val = 0) (a : Vec Ideal S1024x1024 .f32) (y n : Fin 1024) :
    accPt (F := Ideal) m c t a (ix2 y n) = 0 + addAt m c ⟨1024 * T.val + y.val, by omega⟩ n 0 := by
  rw [accPt_val m hR c t T hT 0 hg, hg]
  unfold start
  rw [if_pos (by decide)]
  pointwise [k0_pay118]

theorem accPt_next (hR : Routed m) (c : Dev nD) (t : Fin (cfgM m).N) (T : Fin 64) (hT : (grid0.coords t 0).val = T.val) (g : Fin 4) (hg : (grid0.coords t 1).val = g.val) (h0 : g ≠ 0) (a : Vec Ideal S1024x1024 .f32) (y n : Fin 1024) :
    accPt (F := Ideal) m c t a (ix2 y n) = a (ix2 y n) + addAt m c ⟨1024 * T.val + y.val, by omega⟩ n g := by
  rw [accPt_val m hR c t T hT g hg, hg]
  unfold start
  rw [if_neg (by clear hg; revert g; decide)]

/-- What the call leaves, from the arrays the program is given. -/
def called (c : Dev nD) (j : S65536x1024.Idx) : EReal :=
  0 + addAt m c (j 0) (j 1) 0 + addAt m c (j 0) (j 1) 1 + addAt m c (j 0) (j 1) 2 + addAt m c (j 0) (j 1) 3

theorem coords_0 (t : Fin grid0.N) : (grid0.coords t 0).val = t.val / 4 := by
  revert t; decide +kernel
theorem coords_1 (t : Fin grid0.N) : (grid0.coords t 1).val = t.val % 4 := by
  revert t; decide +kernel

theorem accAt_last (hR : Routed m) (c : Dev nD) (T : Fin 64) (t : ℕ) (ht : t = 4 * T.val + 3) (h : t < (cfgM m).N) (y n : Fin 1024) :
    accAt (F := Ideal) m c t h (ix2 y n) = called m c (ix2 ⟨1024 * T.val + y.val, by omega⟩ n) := by
  subst ht
  have hN : ∀ k, k < 256 → k < (cfgM m).N := fun k hk => hk
  have hc0 : ∀ k (hk : k < (cfgM m).N), (grid0.coords (⟨k, hk⟩ : Fin grid0.N) 0).val = k / 4 := fun k hk => coords_0 ⟨k, hk⟩
  have hc1 : ∀ k (hk : k < (cfgM m).N), (grid0.coords (⟨k, hk⟩ : Fin grid0.N) 1).val = k % 4 := fun k hk => coords_1 ⟨k, hk⟩
  have e0 : ∀ (k : ℕ) (hk : k < (cfgM m).N), k = 4 * T.val → accAt (F := Ideal) m c k hk (ix2 y n) = 0 + addAt m c ⟨1024 * T.val + y.val, by omega⟩ n 0 := fun k hk e => by
    cases k with
    | zero => exact accPt_first m hR c _ T ((hc0 _ _).trans (by omega)) ((hc1 _ _).trans (by omega)) _ y n
    | succ k => exact accPt_first m hR c _ T ((hc0 _ _).trans (by omega)) ((hc1 _ _).trans (by omega)) _ y n
  unfold called
  refine (accPt_next m hR c _ T ((hc0 _ _).trans (by omega)) 3 ((hc1 _ _).trans (by show _ = 3; omega)) (by decide) _ y n).trans (congrArg (· + _) ?_)
  refine (accPt_next m hR c _ T ((hc0 _ _).trans (by omega)) 2 ((hc1 _ _).trans (by show _ = 2; omega)) (by decide) _ y n).trans (congrArg (· + _) ?_)
  refine (accPt_next m hR c _ T ((hc0 _ _).trans (by omega)) 1 ((hc1 _ _).trans (by show _ = 1; omega)) (by decide) _ y n).trans (congrArg (· + _) ?_)
  exact e0 _ _ rfl

theorem covers : ((cfgM m).win 5).Covers := by
  refine ((cfgM m).win 5).covers_of_index_surj rfl (by decide : ∀ a : Fin 2, 0 < S1024x1024.size a) fun β => ?_
  have h0 : (β (0 : Fin 2)).val < 64 := lt_of_lt_of_eq (β (0 : Fin 2)).isLt (by unfold Pipeline.Window.nblk; show (65536 + 1024 - 1) / 1024 = 64; decide)
  have h1 : (β (1 : Fin 2)).val < 1 := lt_of_lt_of_eq (β (1 : Fin 2)).isLt (by unfold Pipeline.Window.nblk; show (1024 + 1024 - 1) / 1024 = 1; decide)
  refine ⟨(⟨4 * (β (0 : Fin 2)).val, by show 4 * (β (0 : Fin 2)).val < 256; omega⟩ : Fin grid0.N), fun a => ?_⟩
  rw [idx_5, coords_0]
  match a with
  | ⟨0, _⟩ => show 4 * (β (0 : Fin 2)).val / 4 = (β (0 : Fin 2)).val; omega
  | ⟨1, _⟩ => show 0 = (β (1 : Fin 2)).val; omega

theorem result (hR : Routed m) (c : Dev nD) : (dats (F := Ideal) m 0 c).arrAt 5 (cfgM m).N = called m c := by
  refine (dats m 0 c).arrAt_eq_of_covers 5 _ (covers m) fun t hf y => ?_
  blk_simp
  rw [after0_5]
  unfold outAt
  change S1024x1024.Idx at y
  idx_vars y
  have h0 := y0.isLt
  have h1 := y1.isLt
  have ht : t.val < 256 := t.isLt
  have hc := coords_0 t
  have hl : t.val % 4 = 3 := by
    by_contra h
    have := noFlush0_5 m t (fun h' => h ((last_iff t).mp h'))
    rw [this] at hf
    exact absurd hf (by decide)
  have e : (((cfgM m).win 5).blk t).view.emb (ix2 y0 y1) = (ix2 (⟨1024 * (t.val / 4) + y0.val, by omega⟩ : Fin 65536) y1 : S65536x1024.Idx) := by
    blk_ext [idx_5 m t]
  rw [e]
  refine Eq.trans ?_ (accAt_last m hR c ⟨t.val / 4, by omega⟩ t.val (by show t.val = 4 * (t.val / 4) + 3; omega) t.isLt y0 y1)
  generalize accAt m c t.val t.isLt = A
  pointwise [k0_pay5]

end Cert.Proof.Experts
end
-- ==== Proof.ExpertsReference.lean ====
/- The experts' reference at an index. -/
module

public import proofs.«01_k».proof.Proof.Experts
public import proofs.«01_k».proof.Proof.Gen.Reference6Ideal.Read

@[expose] public section

set_option maxRecDepth 16384

noncomputable section

namespace Cert.Proof.Experts

open Idealize.ShloMosaic Cert.Reference6Ideal Cert.Reference6Ideal.Read

variable (x1 : S65536x1024.Idx → EReal) (x2 : S65536x128.Idx → EReal) (x3 x4 : S32x1024x256.Idx → EReal) (x5 : S32x256x1024.Idx → EReal)

theorem dot_at (a : FVec Ideal S65536x8x256 .f32) (b : FVec Ideal S8x256x1024 .f32) (r : Fin 65536) (n : Fin 1024) :
    (Host.dotGeneral dot_S65536x8x256_S8x256x1024_S65536x1024_12_01_0_2_n_n none a b : FVec Ideal S65536x1024 .f32) (ix2 r n) = ∑ e : Fin 8, ∑ f : Fin 256, a (ix3 r e f) * b (ix3 e f n) := by
  pointwise

theorem gate_0 (r : Fin 65536) (e : Fin 8) (f : Fin 256) : val_main_v4 (F := Ideal) x1 x3 (ix3 r e f) = ∑ k, x1 (ix2 r k) * x3 (ix3 ⟨0 + e.val, by omega⟩ k f) := by
  pointwise [val_main_v4, val_main_v2, val_main_v3]

theorem up_0 (r : Fin 65536) (e : Fin 8) (f : Fin 256) : val_main_v7 (F := Ideal) x1 x4 (ix3 r e f) = ∑ k, x1 (ix2 r k) * x4 (ix3 ⟨0 + e.val, by omega⟩ k f) := by
  pointwise [val_main_v7, val_main_v2, val_main_v6]

theorem hidden_0 (r : Fin 65536) (e : Fin 8) (f : Fin 256) : val_main_v12 (F := Ideal) x1 x2 x3 x4 (ix3 r e f)
    = unit (fun k => x1 (ix2 r k)) (fun k => x3 (ix3 ⟨0 + e.val, by omega⟩ k f)) (fun k => x4 (ix3 ⟨0 + e.val, by omega⟩ k f)) * x2 (ix2 r (lane 0 e)) := by
  unfold unit
  rw [← gate_0, ← up_0]
  unfold val_main_v12 val_main_v8 val_main_v5 val_main_call0_v5 val_main_call0_v3 val_main_call0_v1 val_main_call0_v0
  generalize val_main_v4 (F := Ideal) x1 x3 = s
  generalize val_main_v7 (F := Ideal) x1 x4 = q
  pointwise [val_main_call0_v4, val_main_call0_v2, val_main_call0_cst, val_main_call0_cst_0, val_main_v11, val_main_v10, val_main_v9, val_main_v0]
  refine congrArg₂ (· * ·) rfl (congrArg (fun i => x2 (ix2 r i)) (Fin.ext ?_))
  show _ = 4 + 8 * 0 + e.val
  first
    | rfl
    | (simp only []; omega)

theorem out_0 (r : Fin 65536) (n : Fin 1024) : val_main_v14 (F := Ideal) x1 x2 x3 x4 x5 (ix2 r n)
    = grp (fun k => x1 (ix2 r k)) (fun e f k => x3 (ix3 ⟨8 * (0 : Fin 4).val + e.val, by omega⟩ k f)) (fun e f k => x4 (ix3 ⟨8 * (0 : Fin 4).val + e.val, by omega⟩ k f))
      (fun e => x2 (ix2 r (lane 0 e))) (fun e f => x5 (ix3 ⟨8 * (0 : Fin 4).val + e.val, by omega⟩ f n)) := by
  unfold val_main_v14 grp
  refine (dot_at _ _ r n).trans (Finset.sum_congr rfl fun e _ => Finset.sum_congr rfl fun f _ => congrArg₂ (· * ·) (hidden_0 x1 x2 x3 x4 r e f) ?_)
  pointwise [val_main_v13]

theorem gate_1 (r : Fin 65536) (e : Fin 8) (f : Fin 256) : val_main_v18 (F := Ideal) x1 x3 (ix3 r e f) = ∑ k, x1 (ix2 r k) * x3 (ix3 ⟨8 + e.val, by omega⟩ k f) := by
  pointwise [val_main_v18, val_main_v16, val_main_v17]

theorem up_1 (r : Fin 65536) (e : Fin 8) (f : Fin 256) : val_main_v21 (F := Ideal) x1 x4 (ix3 r e f) = ∑ k, x1 (ix2 r k) * x4 (ix3 ⟨8 + e.val, by omega⟩ k f) := by
  pointwise [val_main_v21, val_main_v16, val_main_v20]

theorem hidden_1 (r : Fin 65536) (e : Fin 8) (f : Fin 256) : val_main_v26 (F := Ideal) x1 x2 x3 x4 (ix3 r e f)
    = unit (fun k => x1 (ix2 r k)) (fun k => x3 (ix3 ⟨8 + e.val, by omega⟩ k f)) (fun k => x4 (ix3 ⟨8 + e.val, by omega⟩ k f)) * x2 (ix2 r (lane 1 e)) := by
  unfold unit
  rw [← gate_1, ← up_1]
  unfold val_main_v26 val_main_v22 val_main_v19 val_main_call1_v5 val_main_call1_v3 val_main_call1_v1 val_main_call1_v0
  generalize val_main_v18 (F := Ideal) x1 x3 = s
  generalize val_main_v21 (F := Ideal) x1 x4 = q
  pointwise [val_main_call1_v4, val_main_call1_v2, val_main_call1_cst, val_main_call1_cst_0, val_main_v25, val_main_v24, val_main_v23, val_main_v0]
  refine congrArg₂ (· * ·) rfl (congrArg (fun i => x2 (ix2 r i)) (Fin.ext ?_))
  show _ = 4 + 8 * 1 + e.val
  first
    | rfl
    | (simp only []; omega)

theorem out_1 (r : Fin 65536) (n : Fin 1024) : val_main_v28 (F := Ideal) x1 x2 x3 x4 x5 (ix2 r n)
    = grp (fun k => x1 (ix2 r k)) (fun e f k => x3 (ix3 ⟨8 * (1 : Fin 4).val + e.val, by omega⟩ k f)) (fun e f k => x4 (ix3 ⟨8 * (1 : Fin 4).val + e.val, by omega⟩ k f))
      (fun e => x2 (ix2 r (lane 1 e))) (fun e f => x5 (ix3 ⟨8 * (1 : Fin 4).val + e.val, by omega⟩ f n)) := by
  unfold val_main_v28 grp
  refine (dot_at _ _ r n).trans (Finset.sum_congr rfl fun e _ => Finset.sum_congr rfl fun f _ => congrArg₂ (· * ·) (hidden_1 x1 x2 x3 x4 r e f) ?_)
  pointwise [val_main_v27]

theorem gate_2 (r : Fin 65536) (e : Fin 8) (f : Fin 256) : val_main_v32 (F := Ideal) x1 x3 (ix3 r e f) = ∑ k, x1 (ix2 r k) * x3 (ix3 ⟨16 + e.val, by omega⟩ k f) := by
  pointwise [val_main_v32, val_main_v30, val_main_v31]

theorem up_2 (r : Fin 65536) (e : Fin 8) (f : Fin 256) : val_main_v35 (F := Ideal) x1 x4 (ix3 r e f) = ∑ k, x1 (ix2 r k) * x4 (ix3 ⟨16 + e.val, by omega⟩ k f) := by
  pointwise [val_main_v35, val_main_v30, val_main_v34]

theorem hidden_2 (r : Fin 65536) (e : Fin 8) (f : Fin 256) : val_main_v40 (F := Ideal) x1 x2 x3 x4 (ix3 r e f)
    = unit (fun k => x1 (ix2 r k)) (fun k => x3 (ix3 ⟨16 + e.val, by omega⟩ k f)) (fun k => x4 (ix3 ⟨16 + e.val, by omega⟩ k f)) * x2 (ix2 r (lane 2 e)) := by
  unfold unit
  rw [← gate_2, ← up_2]
  unfold val_main_v40 val_main_v36 val_main_v33 val_main_call2_v5 val_main_call2_v3 val_main_call2_v1 val_main_call2_v0
  generalize val_main_v32 (F := Ideal) x1 x3 = s
  generalize val_main_v35 (F := Ideal) x1 x4 = q
  pointwise [val_main_call2_v4, val_main_call2_v2, val_main_call2_cst, val_main_call2_cst_0, val_main_v39, val_main_v38, val_main_v37, val_main_v0]
  refine congrArg₂ (· * ·) rfl (congrArg (fun i => x2 (ix2 r i)) (Fin.ext ?_))
  show _ = 4 + 8 * 2 + e.val
  first
    | rfl
    | (simp only []; omega)

theorem out_2 (r : Fin 65536) (n : Fin 1024) : val_main_v42 (F := Ideal) x1 x2 x3 x4 x5 (ix2 r n)
    = grp (fun k => x1 (ix2 r k)) (fun e f k => x3 (ix3 ⟨8 * (2 : Fin 4).val + e.val, by omega⟩ k f)) (fun e f k => x4 (ix3 ⟨8 * (2 : Fin 4).val + e.val, by omega⟩ k f))
      (fun e => x2 (ix2 r (lane 2 e))) (fun e f => x5 (ix3 ⟨8 * (2 : Fin 4).val + e.val, by omega⟩ f n)) := by
  unfold val_main_v42 grp
  refine (dot_at _ _ r n).trans (Finset.sum_congr rfl fun e _ => Finset.sum_congr rfl fun f _ => congrArg₂ (· * ·) (hidden_2 x1 x2 x3 x4 r e f) ?_)
  pointwise [val_main_v41]

theorem gate_3 (r : Fin 65536) (e : Fin 8) (f : Fin 256) : val_main_v46 (F := Ideal) x1 x3 (ix3 r e f) = ∑ k, x1 (ix2 r k) * x3 (ix3 ⟨24 + e.val, by omega⟩ k f) := by
  pointwise [val_main_v46, val_main_v44, val_main_v45]

theorem up_3 (r : Fin 65536) (e : Fin 8) (f : Fin 256) : val_main_v49 (F := Ideal) x1 x4 (ix3 r e f) = ∑ k, x1 (ix2 r k) * x4 (ix3 ⟨24 + e.val, by omega⟩ k f) := by
  pointwise [val_main_v49, val_main_v44, val_main_v48]

theorem hidden_3 (r : Fin 65536) (e : Fin 8) (f : Fin 256) : val_main_v54 (F := Ideal) x1 x2 x3 x4 (ix3 r e f)
    = unit (fun k => x1 (ix2 r k)) (fun k => x3 (ix3 ⟨24 + e.val, by omega⟩ k f)) (fun k => x4 (ix3 ⟨24 + e.val, by omega⟩ k f)) * x2 (ix2 r (lane 3 e)) := by
  unfold unit
  rw [← gate_3, ← up_3]
  unfold val_main_v54 val_main_v50 val_main_v47 val_main_call3_v5 val_main_call3_v3 val_main_call3_v1 val_main_call3_v0
  generalize val_main_v46 (F := Ideal) x1 x3 = s
  generalize val_main_v49 (F := Ideal) x1 x4 = q
  pointwise [val_main_call3_v4, val_main_call3_v2, val_main_call3_cst, val_main_call3_cst_0, val_main_v53, val_main_v52, val_main_v51, val_main_v0]
  refine congrArg₂ (· * ·) rfl (congrArg (fun i => x2 (ix2 r i)) (Fin.ext ?_))
  show _ = 4 + 8 * 3 + e.val
  first
    | rfl
    | (simp only []; omega)

theorem out_3 (r : Fin 65536) (n : Fin 1024) : val_main_v56 (F := Ideal) x1 x2 x3 x4 x5 (ix2 r n)
    = grp (fun k => x1 (ix2 r k)) (fun e f k => x3 (ix3 ⟨8 * (3 : Fin 4).val + e.val, by omega⟩ k f)) (fun e f k => x4 (ix3 ⟨8 * (3 : Fin 4).val + e.val, by omega⟩ k f))
      (fun e => x2 (ix2 r (lane 3 e))) (fun e f => x5 (ix3 ⟨8 * (3 : Fin 4).val + e.val, by omega⟩ f n)) := by
  unfold val_main_v56 grp
  refine (dot_at _ _ r n).trans (Finset.sum_congr rfl fun e _ => Finset.sum_congr rfl fun f _ => congrArg₂ (· * ·) (hidden_3 x1 x2 x3 x4 r e f) ?_)
  pointwise [val_main_v55]

theorem ref_at (r : Fin 65536) (n : Fin 1024) : val_main_v58 (F := Ideal) x1 x2 x3 x4 x5 (ix2 r n)
    = 0 + val_main_v14 (F := Ideal) x1 x2 x3 x4 x5 (ix2 r n) + val_main_v28 (F := Ideal) x1 x2 x3 x4 x5 (ix2 r n) + val_main_v42 (F := Ideal) x1 x2 x3 x4 x5 (ix2 r n)
      + val_main_v56 (F := Ideal) x1 x2 x3 x4 x5 (ix2 r n) := by
  unfold val_main_v58 val_main_v57 val_main_v43 val_main_v29 val_main_v15
  generalize val_main_v14 (F := Ideal) x1 x2 x3 x4 x5 = s
  generalize val_main_v28 (F := Ideal) x1 x2 x3 x4 x5 = s1
  generalize val_main_v42 (F := Ideal) x1 x2 x3 x4 x5 = s2
  generalize val_main_v56 (F := Ideal) x1 x2 x3 x4 x5 = s3
  pointwise [val_main_v1, val_main_cst]

end Cert.Proof.Experts

end
-- ==== Proof.ExpertsRun.lean ====
/- The experts' run with its result named, and what the precondition says of the arrays. -/
module

public import proofs.«01_k».proof.Defs
public import proofs.«01_k».proof.Proof.ExpertsReference
public import Idealize.ShloMosaic.Lib.WordCmp

@[expose] public section

set_option maxRecDepth 16384

noncomputable section

namespace Cert.Proof.Experts

open Idealize.ShloMosaic Idealize.ShloMosaic.TcCoe Idealize.SL.Sem

section
open Cert.Kernel6Ideal Cert.Kernel6Ideal.Gen

variable (m : (ℓ : Loc nD τ sig) → Buf (Elt Ideal) ℓ) (ρ : Dev nD → PrngReg)

/-- The run, with the result array at what the call leaves. -/
theorem run_called (hR : Routed m) : θ_run (defs (F := Ideal)) (onTc (τ := τ) (main (F := Ideal))) ⟨m, fun _ => 0, ρ⟩ (fun r => ∀ c : Dev nD,
      r.2.mem ((c.tc : Thread nD τ).loc main_v9) = called m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 5).trans (result m hR c),
      ((h c).2 main_arg0 (by decide : main_arg0 ∈ Pipeline.restRefs sig spec0)).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) (run_main m ρ)

end

theorem routed_facts : Cert.Pre_routed.Facts := by
  constructor <;> decide

/-- The precondition at a combine weight. -/
theorem pre_at [Cert.Pre_routed.Facts] (x0 : Cert.Pre_routed.S64x8x128.Idx → BitVec 32) (x1 : Cert.Pre_routed.S65536x1024.Idx → EReal) (x2 : Cert.Pre_routed.S65536x128.Idx → EReal)
    (x3 x4 : Cert.Pre_routed.S32x1024x256.Idx → EReal) (x5 : Cert.Pre_routed.S32x256x1024.Idx → EReal)
    (h : Cert.Pre_routed.fn (F := Ideal) x0 x1 x2 x3 x4 x5 = fun _ => 1#1) (T : Fin 64) (y : Fin 1024) (g : Fin 4) (e : Fin 8) :
    x2 (ix2 (⟨1024 * T.val + y.val, by omega⟩ : Fin 65536) (lane g e)) = (0 : EReal)
      ∨ ((x0 (ix3 T 0 (⟨g.val, by omega⟩ : Fin 128))).toInt ≤ (y.val : ℤ) ∧ (y.val : ℤ) < (x0 (ix3 T 0 (⟨g.val + 1, by omega⟩ : Fin 128))).toInt) := by
  have p := congrFun h (ix4 T y g e)
  unfold Cert.Pre_routed.fn at p
  pointwise at p
  have hy : (BitVec.ofNat 32 y.val).toInt = y.val := toInt_small y.val (by omega)
  have e1 : (⟨T.val * 1024 + y.val, by omega⟩ : Fin 65536) = ⟨1024 * T.val + y.val, by omega⟩ := Fin.ext (by show T.val * 1024 + y.val = 1024 * T.val + y.val; omega)
  have e2 : (⟨4 + (g.val * 8 + e.val), by omega⟩ : Fin 128) = lane g e := Fin.ext (by show 4 + (g.val * 8 + e.val) = 4 + 8 * g.val + e.val; omega)
  have e3 : (⟨1 + g.val, by omega⟩ : Fin 128) = ⟨g.val + 1, by omega⟩ := Fin.ext (by show 1 + g.val = g.val + 1; omega)
  rw [e1, e2, e3, WordCmp.cmpi_sle_eq, WordCmp.cmpi_slt_eq, hy] at p
  by_cases h0 : x2 (ix2 (⟨1024 * T.val + y.val, by omega⟩ : Fin 65536) (lane g e)) = (0 : EReal)
  · exact Or.inl h0
  · refine Or.inr ⟨?_, ?_⟩
    · by_contra hn
      rw [decide_eq_false h0, decide_eq_false hn] at p
      exact absurd p (by cases decide ((y.val : ℤ) < (x0 (ix3 T 0 (⟨g.val + 1, by omega⟩ : Fin 128))).toInt) <;> decide)
    · by_contra hn
      rw [decide_eq_false h0, decide_eq_false hn] at p
      exact absurd p (by cases decide ((x0 (ix3 T 0 (⟨g.val, by omega⟩ : Fin 128))).toInt ≤ (y.val : ℤ)) <;> decide)

end Cert.Proof.Experts
end
-- ==== Proof.ExpertsSame.lean ====
module

public import proofs.«01_k».proof.Kernel6
public import proofs.«01_k».proof.Proof.Gen.Kernel6
public import proofs.«01_k».proof.Proof.ExpertsFrame

@[expose] public section

set_option maxRecDepth 65536

noncomputable section

namespace Cert.Proof

open Idealize.ShloMosaic Idealize.ShloMosaic.TcCoe Idealize.SL.Sem

variable {F : FTy → Type} [FloatOps F]

set_option backward.isDefEq.respectTransparency.types false in
set_option backward.isDefEq.respectTransparency false in
/-- The printed program's frame: its text is the idealized program's. -/
theorem frame_experts (m : (ℓ : Loc Cert.Kernel6.nD Cert.Kernel6.τ Cert.Kernel6.sig) → Buf (Elt F) ℓ) (g : Dev Cert.Kernel6.nD → PrngReg) :
    θ_run (Cert.Kernel6.defs (F := F)) (onTc (τ := Cert.Kernel6.τ) (Cert.Kernel6.main (F := F))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0) :=
  cast (by sl_kernel_rfl) (Cert.Kernel6Ideal.Gen.frame (F := F) m g)

end Cert.Proof
end
-- ==== Proof.Memory.lean ====
/- The keys and values of the memory, index by index. -/
module

public import proofs.«01_k».proof.Proof.Cross
public import proofs.«01_k».proof.Proof.Gen.Kernel7Ideal.Value
public import proofs.«01_k».proof.Proof.Gen.Reference7Ideal.Read

@[expose] public section

set_option maxRecDepth 16384

noncomputable section

namespace Cert.Proof.Memory

open Idealize.ShloMosaic Idealize.ShloMosaic.TcCoe Idealize.SL.Sem

/-- One row of the result: the normed row times the weight. -/
def rowOut (x g : Fin 1024 → EReal) (w : Fin 1024 → Fin 1024 → EReal) (n : Fin 1024) : EReal := ∑ k, Cross.normed x g k * w k n

section
open Cert.Kernel7Ideal Cert.Kernel7Ideal.Gen

theorem pay1_val (v0 : Vec Ideal S1x256x1024 .f32) (v2 : Vec Ideal S1x1024 .f32) (v17 : Vec Ideal S1024x1024 .bf16) (r : Fin 256) (n : Fin 1024) :
    k0_pay1 (F := Ideal) v0 v2 v17 (ix3 0 r n) = rowOut (fun k => v0 (ix3 0 r k)) (fun k => v2 (ix2 0 k)) (fun k n => v17 (ix2 k n)) n := by
  unfold rowOut Cross.normed
  pointwise [k0_pay1]

theorem out_val (x0 : Vec Ideal S1x256x1024 .f32) (x1 : Vec Ideal S1x1024 .f32) (x2 : Vec Ideal S1024x1024 .bf16) (r : Fin 256) (n : Fin 1024) :
    out0_3 (F := Ideal) x0 x1 x2 (ix3 0 r n) = rowOut (fun k => x0 (ix3 0 r k)) (fun k => x1 (ix2 0 k)) (fun k n => x2 (ix2 k n)) n := by
  unfold out0_3
  rw [View.canon_cons_unit_lit _ _ _ (by decide)]
  have e0 : View.ld x0 r0_0 = x0 := by funext y; idx_vars y; obtain rfl : y0 = 0 := Fin.ext (by omega); pointwise [r0_0]
  have e1 : View.ld x1 r0_1 = x1 := by funext y; idx_vars y; obtain rfl : y0 = 0 := Fin.ext (by omega); pointwise [r0_1]
  have e2 : View.ld x2 r0_2 = x2 := by funext y; idx_vars y; pointwise [r0_2]
  rw [e0, e1, e2, pay1_val]

variable (m : (ℓ : Loc nD τ sig) → Buf (Elt Ideal) ℓ)

theorem idx : ∀ t : Fin grid0.N, win0_0.index t = ![(grid0.coords t 0).val, 0, 0] ∧ win0_1.index t = ![0, 0]
    ∧ win0_2.index t = ![0, 0] ∧ win0_3.index t = ![(grid0.coords t 0).val, 0, 0] := by
  decide +kernel

/-- What the call leaves, from the arrays the program is given. -/
def called (c : Dev nD) (j : S16x256x1024.Idx) : EReal :=
  rowOut (fun k => m ((c : Thread nD τ).loc main_arg0) (ix3 (j 0) (j 1) k)) (fun k => m ((c : Thread nD τ).loc main_arg1) (ix1 k))
    (fun k n => m ((c : Thread nD τ).loc main_arg2) (ix2 k n)) (j 2)

theorem gain (c : Dev nD) (k : Fin 1024) : V (F := Ideal) m c main_v0 (ix2 0 k) = m ((c : Thread nD τ).loc main_arg1) (ix1 k) := by
  unfold V; after_reads_at

theorem weight (c : Dev nD) (k : Fin 1024) (n : Fin 1024) : V (F := Ideal) m c main_v1 (ix2 k n) = m ((c : Thread nD τ).loc main_arg2) (ix2 k n) := by
  unfold V; after_reads_at

theorem result (c : Dev nD) : (dats m 0 c).arrAt 3 cfg0.N = called m c := by
  refine (dats m 0 c).arrAt_eq_of_covers 3 _ (by decide +kernel) fun t hf y => ?_
  blk_simp
  rw [after0_3]
  change S1x256x1024.Idx at y
  idx_vars y
  have g0 : (grid0.coords t 0).val < 16 := (grid0.coords t 0).isLt
  have e : (win0_3.blk t).view.emb (ix3 y0 y1 y2) = (ix3 ⟨(grid0.coords t 0).val, g0⟩ y1 y2 : S16x256x1024.Idx) := by
    blk_ext [(idx t).2.2.2]
  rw [e]
  have hy0 : y0 = 0 := Fin.ext (by omega)
  subst hy0
  refine (out_val _ _ _ y1 y2).trans ?_
  show _ = rowOut _ _ _ y2
  congr 1
  · funext k
    blk_ext [iblk, (idx t).1]
  · funext k
    refine Eq.trans ?_ (gain m c k)
    blk_ext [iblk, (idx t).2.1]
  · funext k n
    refine Eq.trans ?_ (weight m c k n)
    blk_ext [iblk, (idx t).2.2.1]
end

section
open Cert.Reference7Ideal Cert.Reference7Ideal.Read

variable (x0 : S16x256x1024.Idx → EReal) (x1 : S1024.Idx → EReal) (x2 : S1024x1024.Idx → EReal)

theorem normed_at (b : Fin 16) (r : Fin 256) (k : Fin 1024) : val_main_v12 (F := Ideal) x0 x1 (ix3 b r k) = Cross.normed (fun k => x0 (ix3 b r k)) (fun k => x1 (ix1 k)) k := by
  unfold Cross.normed
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem ref_at (b : Fin 16) (r : Fin 256) (n : Fin 1024) : val_main_v14 (F := Ideal) x0 x1 x2 (ix3 b r n)
    = rowOut (fun k => x0 (ix3 b r k)) (fun k => x1 (ix1 k)) (fun k n => x2 (ix2 k n)) n := by
  unfold rowOut
  simp only [← normed_at]
  unfold val_main_v14 val_main_v13
  generalize val_main_v12 (F := Ideal) x0 x1 = p
  pointwise
end

end Cert.Proof.Memory

end
-- ==== Proof.Short.lean ====
/- The short convolution, index by index. -/
module

public import proofs.«01_k».proof.Proof.Gen.Kernel9Ideal.Value
public import proofs.«01_k».proof.Proof.Gen.Reference9Ideal.Read
public import Idealize.ShloMosaic.Lib.Pipeline.ValueKit
public import Idealize.ShloMosaic.Lib.Pointwise
public import Idealize.ShloMosaic.Lib.StableHlo.ReadAt

@[expose] public section

set_option maxRecDepth 200000

noncomputable section

namespace Cert.Proof.Short

open Idealize.ShloMosaic Idealize.ShloMosaic.TcCoe Idealize.SL.Sem

/-- The gated sum of a position and its two neighbours; outside the row stands zero. -/
def pos (b c x : Fin 4096 → EReal) (w : Fin 3 → EReal) (r : Fin 4096) : EReal :=
  b r * (w 0 * (if r.val = 0 then 0 else c ⟨r.val - 1, by omega⟩ * x ⟨r.val - 1, by omega⟩) + w 1 * (c r * x r)
    + w 2 * (if h : r.val < 4095 then c ⟨r.val + 1, by omega⟩ * x ⟨r.val + 1, by omega⟩ else 0))

section
open Cert.Kernel9Ideal Cert.Kernel9Ideal.Gen

theorem pay2_val (v0 v3 v6 : Vec Ideal S1x4096x128 .bf16) (v10 : Vec Ideal S1x3x128 .f32) (r : Fin 4096) (n : Fin 128) :
    k0_pay2 (F := Ideal) v0 v3 v6 v10 (ix2 r n) = pos (fun r => v0 (ix3 0 r n)) (fun r => v3 (ix3 0 r n)) (fun r => v6 (ix3 0 r n)) (fun i => v10 (ix3 0 i n)) r := by
  unfold pos
  pointwise [k0_pay2]
  have hr := r.isLt
  have z0 : (Scalar.select (IntOp.cmpi .eq (BitVec.ofNat 32 r.val) 0#32) : EReal → EReal → EReal) = fun x y => if r.val = 0 then x else y := by
    funext x y; unfold Scalar.select
    exact if_congr (WordCmp.cmpi_eq_ofNat_eq_one_iff (w := 32) (b := 0) (by omega) (by omega)) rfl rfl
  have z1 : (Scalar.select (IntOp.cmpi .eq (BitVec.ofNat 32 r.val) 4095#32) : EReal → EReal → EReal) = fun x y => if r.val = 4095 then x else y := by
    funext x y; unfold Scalar.select
    exact if_congr (WordCmp.cmpi_eq_ofNat_eq_one_iff (w := 32) (b := 4095) (by omega) (by omega)) rfl rfl
  simp only [z0, z1]
  refine congrArg (v0 (ix3 0 r n) * ·) (congrArg₂ (· + ·) (congrArg (· + _) ?_) ?_)
  · by_cases h : r.val = 0
    · simp only [if_pos h, mul_zero]
    · simp only [if_neg h]
      rw [show (⟨(r.val + 4096 - 1) % 4096, by omega⟩ : Fin 4096) = ⟨r.val - 1, by omega⟩ from Fin.ext (by show (r.val + 4096 - 1) % 4096 = r.val - 1; omega)]
  · by_cases h : r.val = 4095
    · rw [if_pos h, dif_neg (by omega), mul_zero]
    · rw [if_neg h, dif_pos (by omega)]
      rw [show (⟨(r.val + 4096 - 4095) % 4096, by omega⟩ : Fin 4096) = ⟨r.val + 1, by omega⟩ from Fin.ext (by show (r.val + 4096 - 4095) % 4096 = r.val + 1; omega)]

theorem out_val (x0 x1 x2 : Vec Ideal S1x4096x128 .bf16) (x3 : Vec Ideal S1x3x128 .f32) (r : Fin 4096) (n : Fin 128) :
    out0_4 (F := Ideal) x0 x1 x2 x3 (ix3 0 r n) = pos (fun r => x0 (ix3 0 r n)) (fun r => x1 (ix3 0 r n)) (fun r => x2 (ix3 0 r n)) (fun i => x3 (ix3 0 i n)) r := by
  unfold out0_4
  rw [View.canon_cons_unit_lit _ _ _ (by decide)]
  have e0 : View.ld x0 r0_0 = x0 := by funext y; idx_vars y; obtain rfl : y0 = 0 := Fin.ext (by omega); pointwise [r0_0]
  have e1 : View.ld x1 r0_0 = x1 := by funext y; idx_vars y; obtain rfl : y0 = 0 := Fin.ext (by omega); pointwise [r0_0]
  have e2 : View.ld x2 r0_0 = x2 := by funext y; idx_vars y; obtain rfl : y0 = 0 := Fin.ext (by omega); pointwise [r0_0]
  have e3 : View.ld x3 r0_1 = x3 := by funext y; idx_vars y; obtain rfl : y0 = 0 := Fin.ext (by omega); pointwise [r0_1]
  rw [e0, e1, e2, e3, ← pay2_val]
  generalize k0_pay2 (F := Ideal) x0 x1 x2 x3 = p
  pointwise [k0_pay1]

variable (m : (ℓ : Loc nD τ sig) → Buf (Elt Ideal) ℓ)

theorem idx : ∀ t : Fin grid0.N, win0_0.index t = ![(grid0.coords t 0).val, 0, 32 + (grid0.coords t 1).val] ∧ win0_1.index t = ![(grid0.coords t 0).val, 0, 36 + (grid0.coords t 1).val]
    ∧ win0_2.index t = ![(grid0.coords t 0).val, 0, 40 + (grid0.coords t 1).val] ∧ win0_3.index t = ![(grid0.coords t 1).val, 0, 0]
    ∧ win0_4.index t = ![(grid0.coords t 0).val, 0, (grid0.coords t 1).val] := by
  decide +kernel

/-- What the call leaves, from the arrays the program is given. -/
def called (c : Dev nD) (j : S16x4096x512.Idx) : EReal :=
  pos (fun r => m ((c : Thread nD τ).loc main_arg0) (ix3 (j 0) r ⟨4096 + (j 2).val, Nat.lt_of_lt_of_le (Nat.add_lt_add_left (j 2).isLt 4096) (by decide)⟩))
    (fun r => m ((c : Thread nD τ).loc main_arg0) (ix3 (j 0) r ⟨4608 + (j 2).val, Nat.lt_of_lt_of_le (Nat.add_lt_add_left (j 2).isLt 4608) (by decide)⟩))
    (fun r => m ((c : Thread nD τ).loc main_arg0) (ix3 (j 0) r ⟨5120 + (j 2).val, Nat.lt_of_lt_of_le (Nat.add_lt_add_left (j 2).isLt 5120) (by decide)⟩))
    (fun i => m ((c : Thread nD τ).loc main_arg1) (ix2 i (j 2))) (j 1)

theorem weight (c : Dev nD) (g : Fin 4) (i : Fin 3) (n : Fin 128) : V (F := Ideal) m c main_v1 (ix3 g i n) = m ((c : Thread nD τ).loc main_arg1) (ix2 i ⟨128 * g.val + n.val, by omega⟩) := by
  unfold V; after_reads_at
  exact congrArg (fun k => m ((c : Thread nD τ).loc main_arg1) (ix2 i k)) (Fin.ext (by show g.val * 128 + n.val = 128 * g.val + n.val; omega))

theorem result (c : Dev nD) : (dats m 0 c).arrAt 4 cfg0.N = called m c := by
  refine (dats m 0 c).arrAt_eq_of_covers 4 _ (by decide +kernel) fun t hf y => ?_
  blk_simp
  rw [after0_4]
  change S1x4096x128.Idx at y
  idx_vars y
  have h2 := y2.isLt
  have g0 : (grid0.coords t 0).val < 16 := (grid0.coords t 0).isLt
  have g1 : (grid0.coords t 1).val < 4 := (grid0.coords t 1).isLt
  have e : (win0_4.blk t).view.emb (ix3 y0 y1 y2) = (ix3 ⟨(grid0.coords t 0).val, g0⟩ y1 ⟨128 * (grid0.coords t 1).val + y2.val, by omega⟩ : S16x4096x512.Idx) := by
    blk_ext [(idx t).2.2.2.2]
  rw [e]
  have hy0 : y0 = 0 := Fin.ext (by omega)
  subst hy0
  refine (out_val _ _ _ _ y1 y2).trans ?_
  show _ = pos _ _ _ _ y1
  congr 1
  · funext r
    blk_ext [iblk, (idx t).1]
  · funext r
    blk_ext [iblk, (idx t).2.1]
  · funext r
    blk_ext [iblk, (idx t).2.2.1]
  · funext i
    refine Eq.trans ?_ (weight m c ⟨(grid0.coords t 1).val, g1⟩ i y2)
    blk_ext [iblk, (idx t).2.2.2.1]
end

section
open Cert.Reference9Ideal Cert.Reference9Ideal.Read

variable (x0 : S16x4096x8448.Idx → EReal) (x1 : S3x512.Idx → EReal)

theorem pad_at (b : Fin 16) (r : Fin 4098) (n : Fin 512) : val_main_v6 (F := Ideal) x0 (ix3 b r n) = if h : 1 ≤ r.val ∧ r.val < 4097 then val_main_v5 (F := Ideal) x0 (ix3 b ⟨r.val - 1, by omega⟩ n) else 0 := by
  unfold val_main_v6
  pointwise
  have h0 : val_main_call0_v0 (F := Ideal) (Shape.Idx.first Gen.h_S_) = 0 := by
    show (((0#32 : BitVec 32).toInt : ℝ) : EReal) = 0
    simp
  rw [h0]
  by_cases h : 1 ≤ r.val ∧ r.val < 4097
  · rw [dif_pos h, dif_pos (by omega)]
  · rw [dif_neg h, dif_neg (by omega)]

theorem gated_at (b : Fin 16) (r : Fin 4096) (n : Fin 512) : val_main_v5 (F := Ideal) x0 (ix3 b r n) = x0 (ix3 b r ⟨4608 + n.val, by omega⟩) * x0 (ix3 b r ⟨5120 + n.val, by omega⟩) := by
  pointwise [val_main_v5, val_main_v4, val_main_v3, val_main_v1, val_main_v0]
  exact congrArg₂ (fun i j => x0 (ix3 b r i) * x0 (ix3 b r j)) (Fin.ext (by show 4096 + (512 + n.val) = 4608 + n.val; omega)) (Fin.ext (by show 4096 + (1024 + n.val) = 5120 + n.val; omega))

theorem ref_at (b : Fin 16) (r : Fin 4096) (n : Fin 512) : val_main_v27 (F := Ideal) x0 x1 (ix3 b r n)
    = pos (fun r => x0 (ix3 b r ⟨4096 + n.val, by omega⟩)) (fun r => x0 (ix3 b r ⟨4608 + n.val, by omega⟩)) (fun r => x0 (ix3 b r ⟨5120 + n.val, by omega⟩)) (fun i => x1 (ix2 i n)) r := by
  unfold pos
  have hr := r.isLt
  have g0 : val_main_v9 (F := Ideal) x0 (ix3 b r n) = val_main_v6 (F := Ideal) x0 (ix3 b ⟨r.val, by omega⟩ n) := by
    unfold val_main_v9; generalize val_main_v6 (F := Ideal) x0 = q; pointwise
  have g1 : val_main_v15 (F := Ideal) x0 (ix3 b r n) = val_main_v6 (F := Ideal) x0 (ix3 b ⟨1 + r.val, by omega⟩ n) := by
    unfold val_main_v15; generalize val_main_v6 (F := Ideal) x0 = q; pointwise
  have g2 : val_main_v22 (F := Ideal) x0 (ix3 b r n) = val_main_v6 (F := Ideal) x0 (ix3 b ⟨2 + r.val, by omega⟩ n) := by
    unfold val_main_v22; generalize val_main_v6 (F := Ideal) x0 = q; pointwise
  simp only [pad_at, gated_at] at g0 g1 g2
  have e : val_main_v27 (F := Ideal) x0 x1 (ix3 b r n) = x0 (ix3 b r ⟨4096 + n.val, by omega⟩) * (x1 (ix2 0 n) * val_main_v9 (F := Ideal) x0 (ix3 b r n)
      + x1 (ix2 1 n) * val_main_v15 (F := Ideal) x0 (ix3 b r n) + x1 (ix2 2 n) * val_main_v22 (F := Ideal) x0 (ix3 b r n)) := by
    unfold val_main_v27 val_main_v26 val_main_v25 val_main_v19 val_main_v18 val_main_v12
    generalize val_main_v9 (F := Ideal) x0 = a
    generalize val_main_v15 (F := Ideal) x0 = a'
    generalize val_main_v22 (F := Ideal) x0 = a''
    pointwise [val_main_v24, val_main_v23, val_main_v21, val_main_v20, val_main_v17, val_main_v16, val_main_v14, val_main_v13, val_main_v11, val_main_v10, val_main_v8, val_main_v7, val_main_v2, val_main_v1, val_main_v0]
  rw [e, g0, g1, g2]
  refine congrArg (x0 (ix3 b r ⟨4096 + n.val, by omega⟩) * ·) (congrArg₂ (· + ·) (congrArg₂ (· + ·) (congrArg (x1 (ix2 0 n) * ·) ?_) (congrArg (x1 (ix2 1 n) * ·) ?_)) (congrArg (x1 (ix2 2 n) * ·) ?_))
  · by_cases h : r.val = 0
    · rw [dif_neg (by omega), if_pos h]
    · rw [dif_pos (by omega), if_neg h]
  · rw [dif_pos (by omega)]
    rw [show (⟨1 + r.val - 1, by omega⟩ : Fin 4096) = r from Fin.ext (by show 1 + r.val - 1 = r.val; omega)]
  · by_cases h : r.val < 4095
    · rw [dif_pos (by omega), dif_pos h]
      rw [show (⟨2 + r.val - 1, by omega⟩ : Fin 4096) = ⟨r.val + 1, by omega⟩ from Fin.ext (by show 2 + r.val - 1 = r.val + 1; omega)]
    · rw [dif_neg (by omega), dif_neg h]
end

end Cert.Proof.Short

end
-- ==== Proof.Prep.lean ====
/- The preparation of the latent attention, index by index. -/
module

public import proofs.«01_k».proof.Proof.Gen.Kernel8Ideal.Value
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Prep

open Idealize.ShloMosaic Idealize.ShloMosaic.TcCoe Idealize.SL.Sem

/-- A latent row divided by its root mean square and weighted. -/
def normed (x g : Fin 256 → EReal) (k : Fin 256) : EReal :=
  x k * Ideal.rsqrt (Ideal.div (∑ c, x c * x c) (Ideal.ofBits FTy.f32 0x43800000#32) + Ideal.ofBits FTy.f32 0x358637BD#32) * g k

/-- The scale of the scores, one over the root of 96 rounded. -/
def scale : EReal := Ideal.ofBits FTy.f32 0x3DD105EC#32

/-- Lane `d` of a query: the product and the turned product, each under its table. -/
def qRow (c : Fin 256 → EReal) (w : Fin 256 → Fin 256 → EReal) (cos sin : Fin 128 → EReal) (d : Fin 128) : EReal :=
  ((∑ k, c k * w k ⟨d.val, by omega⟩) * cos d + (∑ k, c k * w k ⟨128 + d.val, by omega⟩) * sin d) * scale

/-- Lane `d` of a key. -/
def kRow (c : Fin 256 → EReal) (w : Fin 256 → Fin 256 → EReal) (a b cos sin : Fin 128 → EReal) (d : Fin 128) : EReal :=
  (∑ k, c k * w k ⟨d.val, by omega⟩) + (a d * cos d + b d * sin d)

/-- Lane `d` of a value; lane 64 is one. -/
def vRow (c : Fin 256 → EReal) (w : Fin 256 → Fin 256 → EReal) (d : Fin 128) : EReal :=
  (∑ k, c k * w k ⟨128 + d.val, by omega⟩) + if d.val = 64 then 1 else 0

open Cert.Kernel8Ideal Cert.Kernel8Ideal.Gen

theorem pay5_val (v0 : Vec Ideal S1x512x256 .bf16) (v3 : Vec Ideal S1x256 .f32) (r : Fin 512) (k : Fin 256) :
    k0_pay5 (F := Ideal) v0 v3 (ix2 r k) = normed (fun k => v0 (ix3 0 r k)) (fun k => v3 (ix2 0 k)) k := by
  unfold normed
  pointwise [k0_pay5]

theorem pay6_val (v0 : Vec Ideal S1x512x256 .bf16) (v3 : Vec Ideal S1x256 .f32) (r : Fin 512) (k : Fin 256) :
    k0_pay6 (F := Ideal) v0 v3 (ix2 r k) = normed (fun k => v0 (ix3 0 r k)) (fun k => v3 (ix2 0 k)) k := pay5_val v0 v3 r k

theorem pay16_val (v17 : FVec Ideal S512x256 .bf16) (v37 v39 : FVec Ideal S512x128 .f32) (w : Vec Ideal S1x256x256 .bf16) (r : Fin 512) (d : Fin 128) :
    k0_pay16 (F := Ideal) v17 v37 v39 w (ix4 0 0 r d) = qRow (fun k => v17 (ix2 r k)) (fun k n => w (ix3 0 k n)) (fun d => v37 (ix2 r d)) (fun d => v39 (ix2 r d)) d := by
  unfold qRow scale
  pointwise [k0_pay16]

theorem pay3_val (v35 : FVec Ideal S512x256 .bf16) (v48 : FVec Ideal S512x128 .f32) (w : Vec Ideal S1x256x256 .bf16) (r : Fin 512) (d : Fin 128) :
    k0_pay3 (F := Ideal) v35 v48 w (ix4 0 0 r d) = (∑ k, v35 (ix2 r k) * w (ix3 0 k ⟨d.val, by omega⟩)) + v48 (ix2 r d) := by
  pointwise [k0_pay3, k0_pay2]

theorem pay4_val (v35 : FVec Ideal S512x256 .bf16) (v54 : FVec Ideal S512x128 .f32) (w : Vec Ideal S1x256x256 .bf16) (r : Fin 512) (d : Fin 128) :
    k0_pay4 (F := Ideal) v35 v54 w (ix4 0 0 r d) = (∑ k, v35 (ix2 r k) * w (ix3 0 k ⟨128 + d.val, by omega⟩)) + v54 (ix2 r d) := by
  pointwise [k0_pay4, k0_pay2]

theorem pay9_val (v37 : FVec Ideal S512x128 .f32) (v38 : Vec Ideal S1x512x128 .f32) (v40 v44 : Vec Ideal S1x512x128 .bf16) (r : Fin 512) (d : Fin 128) :
    k0_pay9 (F := Ideal) v37 v38 v40 v44 (ix2 r d) = v40 (ix3 0 r d) * v37 (ix2 r d) + v44 (ix3 0 r d) * v38 (ix3 0 r d) := by
  pointwise [k0_pay9, k0_pay8]

theorem pay10_val (r : Fin 512) (d : Fin 128) : k0_pay10 (F := Ideal) (ix2 r d) = if d.val = 64 then 1 else 0 := by
  have z : (Scalar.select (IntOp.cmpi .eq (BitVec.ofNat 32 d.val) 64#32) : EReal → EReal → EReal) = fun x y => if d.val = 64 then x else y := by
    funext x y; unfold Scalar.select
    exact if_congr (WordCmp.cmpi_eq_ofNat_eq_one_iff (w := 32) (b := 64) (by omega) (by omega)) rfl rfl
  pointwise [k0_pay10]
  rw [z]

variable (x0 x1 : Vec Ideal S1x512x256 .bf16) (x2 x3 : Vec Ideal S1x512x128 .bf16) (x4 x5 : Vec Ideal S1x512x128 .f32) (x6 x7 : Vec Ideal S1x256 .f32) (x8 x9 : Vec Ideal S8x256x256 .bf16)

theorem ld0 (x : Vec Ideal S1x512x256 .bf16) : View.ld x r0_0 = x := by funext y; idx_vars y; obtain rfl : y0 = 0 := Fin.ext (by omega); pointwise [r0_0]
theorem ld1 (x : Vec Ideal S1x256 .f32) : View.ld x r0_1 = x := by funext y; idx_vars y; obtain rfl : y0 = 0 := Fin.ext (by omega); pointwise [r0_1]
theorem ld2 {e : EltTy} (x : Vec Ideal S1x512x128 e) : View.ld x r0_2 = x := by funext y; idx_vars y; obtain rfl : y0 = 0 := Fin.ext (by omega); pointwise [r0_2]

/-- What one grid point leaves in the three results. -/
def qBlk (y : S1x8x512x128.Idx) : EReal :=
  qRow (normed (fun k => x0 (ix3 0 (y 2) k)) (fun k => x6 (ix2 0 k))) (fun k n => x8 (ix3 (y 1) k n)) (fun d => x4 (ix3 0 (y 2) d)) (fun d => x5 (ix3 0 (y 2) d)) (y 3)
def kBlk (y : S1x8x512x128.Idx) : EReal :=
  kRow (normed (fun k => x1 (ix3 0 (y 2) k)) (fun k => x7 (ix2 0 k))) (fun k n => x9 (ix3 (y 1) k n)) (fun d => x2 (ix3 0 (y 2) d)) (fun d => x3 (ix3 0 (y 2) d))
    (fun d => x4 (ix3 0 (y 2) d)) (fun d => x5 (ix3 0 (y 2) d)) (y 3)
def vBlk (y : S1x8x512x128.Idx) : EReal :=
  vRow (normed (fun k => x1 (ix3 0 (y 2) k)) (fun k => x7 (ix2 0 k))) (fun k n => x9 (ix3 (y 1) k n)) (y 3)

theorem q_at (h : Fin 8) (w : Vec Ideal S1x256x256 .bf16) (hw : ∀ k n, w (ix3 0 k n) = x8 (ix3 h k n)) (r : Fin 512) (d : Fin 128) :
    k0_pay16 (F := Ideal) (k0_pay46 x0 x1 x2 x3 x4 x5 x6 x7 x8 x9) (k0_pay48 x0 x1 x2 x3 x4 x5 x6 x7 x8 x9) (k0_pay49 x0 x1 x2 x3 x4 x5 x6 x7 x8 x9) w (ix4 0 0 r d)
      = qBlk x0 x4 x5 x6 x8 (ix4 0 h r d) := by
  rw [pay16_val]
  show _ = qRow (normed (fun k => x0 (ix3 0 r k)) (fun k => x6 (ix2 0 k))) (fun k n => x8 (ix3 h k n)) (fun d => x4 (ix3 0 r d)) (fun d => x5 (ix3 0 r d)) d
  simp only [hw, k0_pay46, k0_pay48, k0_pay49, ld0, ld1, ld2, pay5_val]
  congr 1
  · funext d; pointwise [k0_pay7]
  · funext d; pointwise [k0_pay8]

theorem k_at (h : Fin 8) (w : Vec Ideal S1x256x256 .bf16) (hw : ∀ k n, w (ix3 0 k n) = x9 (ix3 h k n)) (r : Fin 512) (d : Fin 128) :
    k0_pay3 (F := Ideal) (k0_pay47 x0 x1 x2 x3 x4 x5 x6 x7 x8 x9) (k0_pay50 x0 x1 x2 x3 x4 x5 x6 x7 x8 x9) w (ix4 0 0 r d)
      = kBlk x1 x2 x3 x4 x5 x7 x9 (ix4 0 h r d) := by
  rw [pay3_val]
  show _ = kRow (normed (fun k => x1 (ix3 0 r k)) (fun k => x7 (ix2 0 k))) (fun k n => x9 (ix3 h k n)) (fun d => x2 (ix3 0 r d)) (fun d => x3 (ix3 0 r d)) (fun d => x4 (ix3 0 r d)) (fun d => x5 (ix3 0 r d)) d
  unfold kRow
  simp only [hw, k0_pay47, k0_pay48, k0_pay50, ld0, ld1, ld2, pay6_val, pay9_val]
  refine congrArg (_ + ·) (congrArg (· + _) (congrArg (_ * ·) ?_))
  pointwise [k0_pay7]

theorem v_at (h : Fin 8) (w : Vec Ideal S1x256x256 .bf16) (hw : ∀ k n, w (ix3 0 k n) = x9 (ix3 h k n)) (r : Fin 512) (d : Fin 128) :
    k0_pay4 (F := Ideal) (k0_pay47 x0 x1 x2 x3 x4 x5 x6 x7 x8 x9) (k0_pay51 x0 x1 x2 x3 x4 x5 x6 x7 x8 x9) w (ix4 0 0 r d)
      = vBlk x1 x7 x9 (ix4 0 h r d) := by
  rw [pay4_val]
  show _ = vRow (normed (fun k => x1 (ix3 0 r k)) (fun k => x7 (ix2 0 k))) (fun k n => x9 (ix3 h k n)) d
  unfold vRow
  simp only [hw, k0_pay47, k0_pay51, ld0, ld1, ld2, pay6_val, pay10_val]

theorem head_idx (x : S1x1x512x128.Idx) : ∃ (r : Fin 512) (d : Fin 128), x = ix4 0 0 r d := ⟨x 2, x 3, by
  funext a; match a with
  | ⟨0, _⟩ => exact Fin.ext (Nat.lt_one_iff.mp (x 0).isLt)
  | ⟨1, _⟩ => exact Fin.ext (Nat.lt_one_iff.mp (x 1).isLt)
  | ⟨2, _⟩ => rfl
  | ⟨3, _⟩ => rfl⟩

theorem emb0 (r : Fin 512) (d : Fin 128) : (r0_4).emb (ix4 0 0 r d : S1x1x512x128.Idx) = (ix4 0 0 r d : S1x8x512x128.Idx) := by
  funext a; match a with
  | ⟨0, _⟩ => rfl
  | ⟨1, _⟩ => rfl
  | ⟨2, _⟩ => exact Fin.ext (by show 0 + 1 * r.val = r.val; omega)
  | ⟨3, _⟩ => exact Fin.ext (by show 0 + 1 * d.val = d.val; omega)
theorem emb1 (r : Fin 512) (d : Fin 128) : (r0_6).emb (ix4 0 0 r d : S1x1x512x128.Idx) = (ix4 0 1 r d : S1x8x512x128.Idx) := by
  funext a; match a with
  | ⟨0, _⟩ => rfl
  | ⟨1, _⟩ => rfl
  | ⟨2, _⟩ => exact Fin.ext (by show 0 + 1 * r.val = r.val; omega)
  | ⟨3, _⟩ => exact Fin.ext (by show 0 + 1 * d.val = d.val; omega)
theorem emb2 (r : Fin 512) (d : Fin 128) : (r0_8).emb (ix4 0 0 r d : S1x1x512x128.Idx) = (ix4 0 2 r d : S1x8x512x128.Idx) := by
  funext a; match a with
  | ⟨0, _⟩ => rfl
  | ⟨1, _⟩ => rfl
  | ⟨2, _⟩ => exact Fin.ext (by show 0 + 1 * r.val = r.val; omega)
  | ⟨3, _⟩ => exact Fin.ext (by show 0 + 1 * d.val = d.val; omega)
theorem emb3 (r : Fin 512) (d : Fin 128) : (r0_10).emb (ix4 0 0 r d : S1x1x512x128.Idx) = (ix4 0 3 r d : S1x8x512x128.Idx) := by
  funext a; match a with
  | ⟨0, _⟩ => rfl
  | ⟨1, _⟩ => rfl
  | ⟨2, _⟩ => exact Fin.ext (by show 0 + 1 * r.val = r.val; omega)
  | ⟨3, _⟩ => exact Fin.ext (by show 0 + 1 * d.val = d.val; omega)
theorem emb4 (r : Fin 512) (d : Fin 128) : (r0_12).emb (ix4 0 0 r d : S1x1x512x128.Idx) = (ix4 0 4 r d : S1x8x512x128.Idx) := by
  funext a; match a with
  | ⟨0, _⟩ => rfl
  | ⟨1, _⟩ => rfl
  | ⟨2, _⟩ => exact Fin.ext (by show 0 + 1 * r.val = r.val; omega)
  | ⟨3, _⟩ => exact Fin.ext (by show 0 + 1 * d.val = d.val; omega)
theorem emb5 (r : Fin 512) (d : Fin 128) : (r0_14).emb (ix4 0 0 r d : S1x1x512x128.Idx) = (ix4 0 5 r d : S1x8x512x128.Idx) := by
  funext a; match a with
  | ⟨0, _⟩ => rfl
  | ⟨1, _⟩ => rfl
  | ⟨2, _⟩ => exact Fin.ext (by show 0 + 1 * r.val = r.val; omega)
  | ⟨3, _⟩ => exact Fin.ext (by show 0 + 1 * d.val = d.val; omega)
theorem emb6 (r : Fin 512) (d : Fin 128) : (r0_16).emb (ix4 0 0 r d : S1x1x512x128.Idx) = (ix4 0 6 r d : S1x8x512x128.Idx) := by
  funext a; match a with
  | ⟨0, _⟩ => rfl
  | ⟨1, _⟩ => rfl
  | ⟨2, _⟩ => exact Fin.ext (by show 0 + 1 * r.val = r.val; omega)
  | ⟨3, _⟩ => exact Fin.ext (by show 0 + 1 * d.val = d.val; omega)
theorem emb7 (r : Fin 512) (d : Fin 128) : (r0_18).emb (ix4 0 0 r d : S1x1x512x128.Idx) = (ix4 0 7 r d : S1x8x512x128.Idx) := by
  funext a; match a with
  | ⟨0, _⟩ => rfl
  | ⟨1, _⟩ => rfl
  | ⟨2, _⟩ => exact Fin.ext (by show 0 + 1 * r.val = r.val; omega)
  | ⟨3, _⟩ => exact Fin.ext (by show 0 + 1 * d.val = d.val; omega)

theorem out_q (y : S1x8x512x128.Idx) : out0_10 (F := Ideal) x0 x1 x2 x3 x4 x5 x6 x7 x8 x9 y = qBlk x0 x4 x5 x6 x8 y := by
  unfold out0_10
  refine View.canon_apply_of_pieces (Val := Elt Ideal) (e := .bf16) (qBlk x0 x4 x5 x6 x8) _ ?_ y (cover0_10 _ _ _ _ _ _ _ _ y)
  intro p hp x
  simp only [List.mem_cons, List.mem_nil_iff, or_false] at hp
  rcases hp with rfl | rfl | rfl | rfl | rfl | rfl | rfl | rfl
  · obtain ⟨r, d, e⟩ := head_idx x
    subst e
    exact (q_at x0 x1 x2 x3 x4 x5 x6 x7 x8 x9 7 (View.ld x8 r0_17) (fun k n => by pointwise [r0_17]) r d).trans (congrArg (qBlk x0 x4 x5 x6 x8) (emb7 r d).symm)
  · obtain ⟨r, d, e⟩ := head_idx x
    subst e
    exact (q_at x0 x1 x2 x3 x4 x5 x6 x7 x8 x9 6 (View.ld x8 r0_15) (fun k n => by pointwise [r0_15]) r d).trans (congrArg (qBlk x0 x4 x5 x6 x8) (emb6 r d).symm)
  · obtain ⟨r, d, e⟩ := head_idx x
    subst e
    exact (q_at x0 x1 x2 x3 x4 x5 x6 x7 x8 x9 5 (View.ld x8 r0_13) (fun k n => by pointwise [r0_13]) r d).trans (congrArg (qBlk x0 x4 x5 x6 x8) (emb5 r d).symm)
  · obtain ⟨r, d, e⟩ := head_idx x
    subst e
    exact (q_at x0 x1 x2 x3 x4 x5 x6 x7 x8 x9 4 (View.ld x8 r0_11) (fun k n => by pointwise [r0_11]) r d).trans (congrArg (qBlk x0 x4 x5 x6 x8) (emb4 r d).symm)
  · obtain ⟨r, d, e⟩ := head_idx x
    subst e
    exact (q_at x0 x1 x2 x3 x4 x5 x6 x7 x8 x9 3 (View.ld x8 r0_9) (fun k n => by pointwise [r0_9]) r d).trans (congrArg (qBlk x0 x4 x5 x6 x8) (emb3 r d).symm)
  · obtain ⟨r, d, e⟩ := head_idx x
    subst e
    exact (q_at x0 x1 x2 x3 x4 x5 x6 x7 x8 x9 2 (View.ld x8 r0_7) (fun k n => by pointwise [r0_7]) r d).trans (congrArg (qBlk x0 x4 x5 x6 x8) (emb2 r d).symm)
  · obtain ⟨r, d, e⟩ := head_idx x
    subst e
    exact (q_at x0 x1 x2 x3 x4 x5 x6 x7 x8 x9 1 (View.ld x8 r0_5) (fun k n => by pointwise [r0_5]) r d).trans (congrArg (qBlk x0 x4 x5 x6 x8) (emb1 r d).symm)
  · obtain ⟨r, d, e⟩ := head_idx x
    subst e
    exact (q_at x0 x1 x2 x3 x4 x5 x6 x7 x8 x9 0 (View.ld x8 r0_3) (fun k n => by pointwise [r0_3]) r d).trans (congrArg (qBlk x0 x4 x5 x6 x8) (emb0 r d).symm)

theorem out_k (y : S1x8x512x128.Idx) : out0_11 (F := Ideal) x0 x1 x2 x3 x4 x5 x6 x7 x8 x9 y = kBlk x1 x2 x3 x4 x5 x7 x9 y := by
  unfold out0_11
  refine View.canon_apply_of_pieces (Val := Elt Ideal) (e := .bf16) (kBlk x1 x2 x3 x4 x5 x7 x9) _ ?_ y (cover0_11 _ _ _ _ _ _ _ _ y)
  intro p hp x
  simp only [List.mem_cons, List.mem_nil_iff, or_false] at hp
  rcases hp with rfl | rfl | rfl | rfl | rfl | rfl | rfl | rfl
  · obtain ⟨r, d, e⟩ := head_idx x
    subst e
    exact (k_at x0 x1 x2 x3 x4 x5 x6 x7 x8 x9 7 (View.ld x9 r0_17) (fun k n => by pointwise [r0_17]) r d).trans (congrArg (kBlk x1 x2 x3 x4 x5 x7 x9) (emb7 r d).symm)
  · obtain ⟨r, d, e⟩ := head_idx x
    subst e
    exact (k_at x0 x1 x2 x3 x4 x5 x6 x7 x8 x9 6 (View.ld x9 r0_15) (fun k n => by pointwise [r0_15]) r d).trans (congrArg (kBlk x1 x2 x3 x4 x5 x7 x9) (emb6 r d).symm)
  · obtain ⟨r, d, e⟩ := head_idx x
    subst e
    exact (k_at x0 x1 x2 x3 x4 x5 x6 x7 x8 x9 5 (View.ld x9 r0_13) (fun k n => by pointwise [r0_13]) r d).trans (congrArg (kBlk x1 x2 x3 x4 x5 x7 x9) (emb5 r d).symm)
  · obtain ⟨r, d, e⟩ := head_idx x
    subst e
    exact (k_at x0 x1 x2 x3 x4 x5 x6 x7 x8 x9 4 (View.ld x9 r0_11) (fun k n => by pointwise [r0_11]) r d).trans (congrArg (kBlk x1 x2 x3 x4 x5 x7 x9) (emb4 r d).symm)
  · obtain ⟨r, d, e⟩ := head_idx x
    subst e
    exact (k_at x0 x1 x2 x3 x4 x5 x6 x7 x8 x9 3 (View.ld x9 r0_9) (fun k n => by pointwise [r0_9]) r d).trans (congrArg (kBlk x1 x2 x3 x4 x5 x7 x9) (emb3 r d).symm)
  · obtain ⟨r, d, e⟩ := head_idx x
    subst e
    exact (k_at x0 x1 x2 x3 x4 x5 x6 x7 x8 x9 2 (View.ld x9 r0_7) (fun k n => by pointwise [r0_7]) r d).trans (congrArg (kBlk x1 x2 x3 x4 x5 x7 x9) (emb2 r d).symm)
  · obtain ⟨r, d, e⟩ := head_idx x
    subst e
    exact (k_at x0 x1 x2 x3 x4 x5 x6 x7 x8 x9 1 (View.ld x9 r0_5) (fun k n => by pointwise [r0_5]) r d).trans (congrArg (kBlk x1 x2 x3 x4 x5 x7 x9) (emb1 r d).symm)
  · obtain ⟨r, d, e⟩ := head_idx x
    subst e
    exact (k_at x0 x1 x2 x3 x4 x5 x6 x7 x8 x9 0 (View.ld x9 r0_3) (fun k n => by pointwise [r0_3]) r d).trans (congrArg (kBlk x1 x2 x3 x4 x5 x7 x9) (emb0 r d).symm)

theorem out_v (y : S1x8x512x128.Idx) : out0_12 (F := Ideal) x0 x1 x2 x3 x4 x5 x6 x7 x8 x9 y = vBlk x1 x7 x9 y := by
  unfold out0_12
  refine View.canon_apply_of_pieces (Val := Elt Ideal) (e := .bf16) (vBlk x1 x7 x9) _ ?_ y (cover0_12 _ _ _ _ _ _ _ _ y)
  intro p hp x
  simp only [List.mem_cons, List.mem_nil_iff, or_false] at hp
  rcases hp with rfl | rfl | rfl | rfl | rfl | rfl | rfl | rfl
  · obtain ⟨r, d, e⟩ := head_idx x
    subst e
    exact (v_at x0 x1 x2 x3 x4 x5 x6 x7 x8 x9 7 (View.ld x9 r0_17) (fun k n => by pointwise [r0_17]) r d).trans (congrArg (vBlk x1 x7 x9) (emb7 r d).symm)
  · obtain ⟨r, d, e⟩ := head_idx x
    subst e
    exact (v_at x0 x1 x2 x3 x4 x5 x6 x7 x8 x9 6 (View.ld x9 r0_15) (fun k n => by pointwise [r0_15]) r d).trans (congrArg (vBlk x1 x7 x9) (emb6 r d).symm)
  · obtain ⟨r, d, e⟩ := head_idx x
    subst e
    exact (v_at x0 x1 x2 x3 x4 x5 x6 x7 x8 x9 5 (View.ld x9 r0_13) (fun k n => by pointwise [r0_13]) r d).trans (congrArg (vBlk x1 x7 x9) (emb5 r d).symm)
  · obtain ⟨r, d, e⟩ := head_idx x
    subst e
    exact (v_at x0 x1 x2 x3 x4 x5 x6 x7 x8 x9 4 (View.ld x9 r0_11) (fun k n => by pointwise [r0_11]) r d).trans (congrArg (vBlk x1 x7 x9) (emb4 r d).symm)
  · obtain ⟨r, d, e⟩ := head_idx x
    subst e
    exact (v_at x0 x1 x2 x3 x4 x5 x6 x7 x8 x9 3 (View.ld x9 r0_9) (fun k n => by pointwise [r0_9]) r d).trans (congrArg (vBlk x1 x7 x9) (emb3 r d).symm)
  · obtain ⟨r, d, e⟩ := head_idx x
    subst e
    exact (v_at x0 x1 x2 x3 x4 x5 x6 x7 x8 x9 2 (View.ld x9 r0_7) (fun k n => by pointwise [r0_7]) r d).trans (congrArg (vBlk x1 x7 x9) (emb2 r d).symm)
  · obtain ⟨r, d, e⟩ := head_idx x
    subst e
    exact (v_at x0 x1 x2 x3 x4 x5 x6 x7 x8 x9 1 (View.ld x9 r0_5) (fun k n => by pointwise [r0_5]) r d).trans (congrArg (vBlk x1 x7 x9) (emb1 r d).symm)
  · obtain ⟨r, d, e⟩ := head_idx x
    subst e
    exact (v_at x0 x1 x2 x3 x4 x5 x6 x7 x8 x9 0 (View.ld x9 r0_3) (fun k n => by pointwise [r0_3]) r d).trans (congrArg (vBlk x1 x7 x9) (emb0 r d).symm)

end Cert.Proof.Prep

end
-- ==== Proof.PrepHost.lean ====
/- The arrays the host prepares for the latent attention, and the call's results, index by index. -/
module

public import proofs.«01_k».proof.Proof.Prep

@[expose] public section

set_option maxRecDepth 16384

noncomputable section

namespace Cert.Proof.Prep

open Idealize.ShloMosaic Idealize.ShloMosaic.TcCoe Idealize.SL.Sem Cert.Kernel8Ideal Cert.Kernel8Ideal.Gen

/-- The angle of a position at frequency `n`. -/
def angle (p : EReal) (n : ℕ) : EReal :=
  p * Ideal.div 1 (Ideal.pow (Ideal.ofBits FTy.f32 1176256512#32)
    (Ideal.div (Ideal.ofBits FTy.f32 1073741824#32 * FloatOps.sitofp (F := Ideal) FTy.f32 (BitVec.ofNat 32 n)) (Ideal.ofBits FTy.f32 1107296256#32)))

/-- The two tables: constant on the first 64 lanes, the 16 angles twice, then zero. -/
def cosT (p : EReal) (d : Fin 128) : EReal :=
  if d.val < 64 then 1 else if d.val - 64 < 16 then Ideal.cos (angle p (d.val - 64)) else if d.val - 64 - 16 < 16 then Ideal.cos (angle p (d.val - 64 - 16)) else 0
def sinT (p : EReal) (d : Fin 128) : EReal :=
  if d.val < 64 then 0 else if d.val - 64 < 16 then Ideal.sin (angle p (d.val - 64)) else if d.val - 64 - 16 < 16 then Ideal.sin (angle p (d.val - 64 - 16)) else 0

/-- The rope columns of a latent row between zeros, and the same turned by a quarter. -/
def ropeA (P : Fin 544 → EReal) (d : Fin 128) : EReal :=
  if d.val < 64 then 0 else if h : d.val - 64 < 32 then P ⟨512 + (d.val - 64), by omega⟩ else 0
def ropeB (P : Fin 544 → EReal) (d : Fin 128) : EReal :=
  if d.val < 64 then 0 else if h : d.val - 64 < 32 then
    (if h' : d.val - 64 < 16 then -P ⟨512 + (16 + (d.val - 64)), by omega⟩ else P ⟨512 + (d.val - 64 - 16), by omega⟩) else 0

/-- The weights of head `h`: 96 columns and zeros, then the turned rope columns between zeros; the 64 key columns and the 64 value columns, each with zeros. -/
def wQ (w : Fin 256 → Fin 768 → EReal) (h : Fin 8) (k n : Fin 256) : EReal :=
  if h' : n.val < 96 then w k ⟨h.val * 96 + n.val, by omega⟩ else if n.val - 96 < 32 then 0 else if n.val - 96 - 32 < 64 then 0
    else if h₁ : n.val - 96 - 32 - 64 < 32 then
      (if h₂ : n.val - 96 - 32 - 64 < 16 then -w k ⟨h.val * 96 + (64 + (16 + (n.val - 96 - 32 - 64))), by omega⟩
        else w k ⟨h.val * 96 + (64 + (n.val - 96 - 32 - 64 - 16)), by omega⟩) else 0
def wKV (w : Fin 256 → Fin 1024 → EReal) (h : Fin 8) (k n : Fin 256) : EReal :=
  if h' : n.val < 64 then w k ⟨h.val * 128 + n.val, by omega⟩ else if n.val - 64 < 64 then 0
    else if h₁ : n.val - 64 - 64 < 64 then w k ⟨h.val * 128 + (64 + (n.val - 64 - 64)), by omega⟩ else 0

/-- Lane `d` of head `h` at position `r`, for the queries, the keys and the values, from the arrays the program is given. -/
def qArgs (P : Fin 544 → EReal) (p : EReal) (g : Fin 256 → EReal) (w : Fin 256 → Fin 768 → EReal) (h : Fin 8) (d : Fin 128) : EReal :=
  qRow (normed (fun k => P ⟨k.val, by omega⟩) g) (wQ w h) (cosT p) (sinT p) d
def kArgs (P : Fin 544 → EReal) (p : EReal) (g : Fin 256 → EReal) (w : Fin 256 → Fin 1024 → EReal) (h : Fin 8) (d : Fin 128) : EReal :=
  kRow (normed (fun k => P ⟨256 + k.val, by omega⟩) g) (wKV w h) (ropeA P) (ropeB P) (cosT p) (sinT p) d
def vArgs (P : Fin 544 → EReal) (g : Fin 256 → EReal) (w : Fin 256 → Fin 1024 → EReal) (h : Fin 8) (d : Fin 128) : EReal :=
  vRow (normed (fun k => P ⟨256 + k.val, by omega⟩) g) (wKV w h) d

variable (m : (ℓ : Loc nD τ sig) → Buf (Elt Ideal) ℓ)

theorem at_cq (c : Dev nD) (b : Fin 16) (r : Fin 4096) (k : Fin 256) :
    V (F := Ideal) m c main_v10 (ix3 b r ⟨7680 + k.val, by omega⟩) = m ((c : Thread nD τ).loc main_arg0) (ix3 b r ⟨k.val, by omega⟩) := by
  unfold V; after_reads_at
  rw [dif_pos (by omega)]
  after_reads_at

theorem at_ckv (c : Dev nD) (b : Fin 16) (r : Fin 4096) (k : Fin 256) :
    V (F := Ideal) m c main_v10 (ix3 b r ⟨7936 + k.val, by omega⟩) = m ((c : Thread nD τ).loc main_arg0) (ix3 b r ⟨256 + k.val, by omega⟩) := by
  unfold V; after_reads_at
  rw [dif_neg (by omega), dif_pos (by omega)]
  after_reads_at
  exact congrArg (fun k => m ((c : Thread nD τ).loc main_arg0) (ix3 b r k)) (Fin.ext (by show 7936 + k.val - 7680 = 256 + k.val; omega))

theorem at_kra (c : Dev nD) (b : Fin 16) (r : Fin 4096) (d : Fin 128) :
    V (F := Ideal) m c main_v10 (ix3 b r ⟨8192 + d.val, by omega⟩) = ropeA (fun k => m ((c : Thread nD τ).loc main_arg0) (ix3 b r k)) d := by
  unfold V ropeA; after_reads_at
  rw [dif_neg (by omega), dif_neg (by omega)]
  by_cases h : d.val < 64
  · rw [dif_pos (by omega), if_pos h]
    after_reads_at
  · rw [dif_neg (by omega), if_neg h]
    by_cases h' : d.val - 64 < 32
    · rw [dif_pos (by omega), dif_pos h']
      after_reads_at
      exact congrArg (fun k => m ((c : Thread nD τ).loc main_arg0) (ix3 b r k)) (Fin.ext (by show 512 + (8192 + d.val - 7680 - 512 - 64) = 512 + (d.val - 64); omega))
    · rw [dif_neg (by omega), dif_neg h', dif_pos (by omega)]
      after_reads_at

theorem at_krb (c : Dev nD) (b : Fin 16) (r : Fin 4096) (d : Fin 128) :
    V (F := Ideal) m c main_v10 (ix3 b r ⟨8320 + d.val, by omega⟩) = ropeB (fun k => m ((c : Thread nD τ).loc main_arg0) (ix3 b r k)) d := by
  unfold V ropeB; after_reads_at
  rw [dif_neg (by omega), dif_neg (by omega), dif_neg (by omega), dif_neg (by omega), dif_neg (by omega)]
  by_cases h : d.val < 64
  · rw [dif_pos (by omega), if_pos h]
    after_reads_at
  · rw [dif_neg (by omega), if_neg h]
    by_cases h' : d.val - 64 < 32
    · rw [dif_pos (by omega), dif_pos h']
      after_reads_at
      by_cases h₁ : d.val - 64 < 16
      · rw [dif_pos (by omega), dif_pos h₁]
        exact congrArg (Neg.neg : EReal → EReal) (congrArg (fun k => m ((c : Thread nD τ).loc main_arg0) (ix3 b r k)) (Fin.ext (by show 512 + (16 + (8320 + d.val - 7680 - 512 - 64 - 32 - 32 - 64)) = 512 + (16 + (d.val - 64)); omega)))
      · rw [dif_neg (by omega), dif_neg h₁]
        exact congrArg (fun k => m ((c : Thread nD τ).loc main_arg0) (ix3 b r k)) (Fin.ext (by show 512 + (8320 + d.val - 7680 - 512 - 64 - 32 - 32 - 64 - 16) = 512 + (d.val - 64 - 16); omega))
    · rw [dif_neg (by omega), dif_neg h']
      after_reads_at

theorem at_cos (c : Dev nD) (b : Fin 16) (r : Fin 4096) (d : Fin 128) :
    V (F := Ideal) m c main_v32 (ix3 b r d) = cosT (FloatOps.sitofp (F := Ideal) FTy.f32 (m ((c : Thread nD τ).loc main_arg1) (ix2 b r))) d := by
  unfold V cosT angle; after_reads_at; after_reads_at
  rfl

theorem at_sin (c : Dev nD) (b : Fin 16) (r : Fin 4096) (d : Fin 128) :
    V (F := Ideal) m c main_v34 (ix3 b r d) = sinT (FloatOps.sitofp (F := Ideal) FTy.f32 (m ((c : Thread nD τ).loc main_arg1) (ix2 b r))) d := by
  unfold V sinT angle; after_reads_at; after_reads_at
  rfl

theorem at_gq (c : Dev nD) (k : Fin 256) : V (F := Ideal) m c main_v54 (ix2 0 k) = m ((c : Thread nD τ).loc main_arg2) (ix1 k) := by
  unfold V; after_reads_at

theorem at_gkv (c : Dev nD) (k : Fin 256) : V (F := Ideal) m c main_v55 (ix2 0 k) = m ((c : Thread nD τ).loc main_arg4) (ix1 k) := by
  unfold V; after_reads_at

theorem at_wq (c : Dev nD) (h : Fin 8) (k n : Fin 256) :
    V (F := Ideal) m c main_v52 (ix3 h k n) = wQ (fun k n => m ((c : Thread nD τ).loc main_arg3) (ix2 k n)) h k n := by
  unfold V wQ; after_reads_at; after_reads_at
  rfl

theorem at_wkv (c : Dev nD) (h : Fin 8) (k n : Fin 256) :
    V (F := Ideal) m c main_v53 (ix3 h k n) = wKV (fun k n => m ((c : Thread nD τ).loc main_arg5) (ix2 k n)) h k n := by
  unfold V wKV; after_reads_at; after_reads_at
  rfl

end Cert.Proof.Prep

end
-- ==== Proof.PrepCall.lean ====
/- The results of the call that prepares the latent attention, index by index. -/
module

public import proofs.«01_k».proof.Proof.PrepHost

@[expose] public section

set_option maxRecDepth 16384
set_option maxHeartbeats 4000000

noncomputable section

namespace Cert.Proof.Prep

open Idealize.ShloMosaic Idealize.ShloMosaic.TcCoe Idealize.SL.Sem Cert.Kernel8Ideal Cert.Kernel8Ideal.Gen

variable (m : (ℓ : Loc nD τ sig) → Buf (Elt Ideal) ℓ)

theorem idx : ∀ t : Fin grid0.N, win0_0.index t = ![(grid0.coords t 0).val, (grid0.coords t 1).val, 30] ∧ win0_1.index t = ![(grid0.coords t 0).val, (grid0.coords t 1).val, 31]
    ∧ win0_2.index t = ![(grid0.coords t 0).val, (grid0.coords t 1).val, 64] ∧ win0_3.index t = ![(grid0.coords t 0).val, (grid0.coords t 1).val, 65]
    ∧ win0_4.index t = ![(grid0.coords t 0).val, (grid0.coords t 1).val, 0] ∧ win0_5.index t = ![(grid0.coords t 0).val, (grid0.coords t 1).val, 0]
    ∧ win0_6.index t = ![0, 0] ∧ win0_7.index t = ![0, 0] ∧ win0_8.index t = ![0, 0, 0] ∧ win0_9.index t = ![0, 0, 0]
    ∧ win0_10.index t = ![(grid0.coords t 0).val, 0, (grid0.coords t 1).val, 0] ∧ win0_11.index t = ![(grid0.coords t 0).val, 0, (grid0.coords t 1).val, 0]
    ∧ win0_12.index t = ![(grid0.coords t 0).val, 0, (grid0.coords t 1).val, 0] := by
  decide +kernel

/-- What the call leaves in its three results. -/
def calledQ (c : Dev nD) (j : S16x8x4096x128.Idx) : EReal :=
  qArgs (fun k => m ((c : Thread nD τ).loc main_arg0) (ix3 (j 0) (j 2) k)) (FloatOps.sitofp (F := Ideal) FTy.f32 (m ((c : Thread nD τ).loc main_arg1) (ix2 (j 0) (j 2))))
    (fun k => m ((c : Thread nD τ).loc main_arg2) (ix1 k)) (fun k n => m ((c : Thread nD τ).loc main_arg3) (ix2 k n)) (j 1) (j 3)
def calledK (c : Dev nD) (j : S16x8x4096x128.Idx) : EReal :=
  kArgs (fun k => m ((c : Thread nD τ).loc main_arg0) (ix3 (j 0) (j 2) k)) (FloatOps.sitofp (F := Ideal) FTy.f32 (m ((c : Thread nD τ).loc main_arg1) (ix2 (j 0) (j 2))))
    (fun k => m ((c : Thread nD τ).loc main_arg4) (ix1 k)) (fun k n => m ((c : Thread nD τ).loc main_arg5) (ix2 k n)) (j 1) (j 3)
def calledV (c : Dev nD) (j : S16x8x4096x128.Idx) : EReal :=
  vArgs (fun k => m ((c : Thread nD τ).loc main_arg0) (ix3 (j 0) (j 2) k))
    (fun k => m ((c : Thread nD τ).loc main_arg4) (ix1 k)) (fun k n => m ((c : Thread nD τ).loc main_arg5) (ix2 k n)) (j 1) (j 3)

theorem resultQ (c : Dev nD) : (dats m 0 c).arrAt 10 cfg0.N = calledQ m c := by
  refine (dats m 0 c).arrAt_eq_of_covers 10 _ (by decide +kernel) fun t hf y => ?_
  blk_simp
  rw [after0_10]
  change S1x8x512x128.Idx at y
  idx_vars y
  have h2 := y2.isLt
  have g0 : (grid0.coords t 0).val < 16 := (grid0.coords t 0).isLt
  have g1 : (grid0.coords t 1).val < 8 := (grid0.coords t 1).isLt
  have e : (win0_10.blk t).view.emb (ix4 y0 y1 y2 y3) = (ix4 ⟨(grid0.coords t 0).val, g0⟩ y1 ⟨512 * (grid0.coords t 1).val + y2.val, by omega⟩ y3 : S16x8x4096x128.Idx) := by
    blk_ext [(idx t).2.2.2.2.2.2.2.2.2.2.1]
  rw [e]
  refine (out_q _ _ _ _ _ _ _ _ _ _ _).trans ?_
  show qRow (normed _ _) _ _ _ y3 = qRow (normed _ _) _ _ _ y3
  congr 1
  · congr 1
    · funext k
      refine Eq.trans ?_ (at_cq m c ⟨(grid0.coords t 0).val, g0⟩ ⟨512 * (grid0.coords t 1).val + y2.val, by omega⟩ k)
      blk_ext [iblk, (idx t).1]
    · funext k
      refine Eq.trans ?_ (at_gq m c k)
      blk_ext [iblk, (idx t).2.2.2.2.2.2.1]
  · funext k n
    refine Eq.trans ?_ (at_wq m c y1 k n)
    blk_ext [iblk, (idx t).2.2.2.2.2.2.2.2.1]
  · funext d
    refine Eq.trans ?_ (at_cos m c ⟨(grid0.coords t 0).val, g0⟩ ⟨512 * (grid0.coords t 1).val + y2.val, by omega⟩ d)
    blk_ext [iblk, (idx t).2.2.2.2.1]
  · funext d
    refine Eq.trans ?_ (at_sin m c ⟨(grid0.coords t 0).val, g0⟩ ⟨512 * (grid0.coords t 1).val + y2.val, by omega⟩ d)
    blk_ext [iblk, (idx t).2.2.2.2.2.1]

theorem resultK (c : Dev nD) : (dats m 0 c).arrAt 11 cfg0.N = calledK m c := by
  refine (dats m 0 c).arrAt_eq_of_covers 11 _ (by decide +kernel) fun t hf y => ?_
  blk_simp
  rw [after0_11]
  change S1x8x512x128.Idx at y
  idx_vars y
  have h2 := y2.isLt
  have g0 : (grid0.coords t 0).val < 16 := (grid0.coords t 0).isLt
  have g1 : (grid0.coords t 1).val < 8 := (grid0.coords t 1).isLt
  have e : (win0_11.blk t).view.emb (ix4 y0 y1 y2 y3) = (ix4 ⟨(grid0.coords t 0).val, g0⟩ y1 ⟨512 * (grid0.coords t 1).val + y2.val, by omega⟩ y3 : S16x8x4096x128.Idx) := by
    blk_ext [(idx t).2.2.2.2.2.2.2.2.2.2.2.1]
  rw [e]
  refine (out_k _ _ _ _ _ _ _ _ _ _ _).trans ?_
  show kRow (normed _ _) _ _ _ _ _ y3 = kRow (normed _ _) _ _ _ _ _ y3
  congr 1
  · congr 1
    · funext k
      refine Eq.trans ?_ (at_ckv m c ⟨(grid0.coords t 0).val, g0⟩ ⟨512 * (grid0.coords t 1).val + y2.val, by omega⟩ k)
      blk_ext [iblk, (idx t).2.1]
    · funext k
      refine Eq.trans ?_ (at_gkv m c k)
      blk_ext [iblk, (idx t).2.2.2.2.2.2.2.1]
  · funext k n
    refine Eq.trans ?_ (at_wkv m c y1 k n)
    blk_ext [iblk, (idx t).2.2.2.2.2.2.2.2.2.1]
  · funext d
    refine Eq.trans ?_ (at_kra m c ⟨(grid0.coords t 0).val, g0⟩ ⟨512 * (grid0.coords t 1).val + y2.val, by omega⟩ d)
    blk_ext [iblk, (idx t).2.2.1]
  · funext d
    refine Eq.trans ?_ (at_krb m c ⟨(grid0.coords t 0).val, g0⟩ ⟨512 * (grid0.coords t 1).val + y2.val, by omega⟩ d)
    blk_ext [iblk, (idx t).2.2.2.1]
  · funext d
    refine Eq.trans ?_ (at_cos m c ⟨(grid0.coords t 0).val, g0⟩ ⟨512 * (grid0.coords t 1).val + y2.val, by omega⟩ d)
    blk_ext [iblk, (idx t).2.2.2.2.1]
  · funext d
    refine Eq.trans ?_ (at_sin m c ⟨(grid0.coords t 0).val, g0⟩ ⟨512 * (grid0.coords t 1).val + y2.val, by omega⟩ d)
    blk_ext [iblk, (idx t).2.2.2.2.2.1]

theorem resultV (c : Dev nD) : (dats m 0 c).arrAt 12 cfg0.N = calledV m c := by
  refine (dats m 0 c).arrAt_eq_of_covers 12 _ (by decide +kernel) fun t hf y => ?_
  blk_simp
  rw [after0_12]
  change S1x8x512x128.Idx at y
  idx_vars y
  have h2 := y2.isLt
  have g0 : (grid0.coords t 0).val < 16 := (grid0.coords t 0).isLt
  have g1 : (grid0.coords t 1).val < 8 := (grid0.coords t 1).isLt
  have e : (win0_12.blk t).view.emb (ix4 y0 y1 y2 y3) = (ix4 ⟨(grid0.coords t 0).val, g0⟩ y1 ⟨512 * (grid0.coords t 1).val + y2.val, by omega⟩ y3 : S16x8x4096x128.Idx) := by
    blk_ext [(idx t).2.2.2.2.2.2.2.2.2.2.2.2]
  rw [e]
  refine (out_v _ _ _ _ _ _ _ _ _ _ _).trans ?_
  show vRow (normed _ _) _ y3 = vRow (normed _ _) _ y3
  congr 1
  · congr 1
    · funext k
      refine Eq.trans ?_ (at_ckv m c ⟨(grid0.coords t 0).val, g0⟩ ⟨512 * (grid0.coords t 1).val + y2.val, by omega⟩ k)
      blk_ext [iblk, (idx t).2.1]
    · funext k
      refine Eq.trans ?_ (at_gkv m c k)
      blk_ext [iblk, (idx t).2.2.2.2.2.2.2.1]
  · funext k n
    refine Eq.trans ?_ (at_wkv m c y1 k n)
    blk_ext [iblk, (idx t).2.2.2.2.2.2.2.2.2.1]

end Cert.Proof.Prep

end
-- ==== Proof.PrepReference.lean ====
/- The queries, keys and values the reference prepares, index by index. -/
module

public import proofs.«01_k».proof.Proof.PrepHost
public import proofs.«01_k».proof.Proof.Softmax
public import proofs.«01_k».proof.Proof.Gen.Reference8Ideal.Read

@[expose] public section

set_option maxRecDepth 16384

noncomputable section

namespace Cert.Proof.Prep

open Idealize.ShloMosaic Idealize.ShloMosaic.TcCoe Idealize.SL.Sem Cert.Reference8Ideal Cert.Reference8Ideal.Read

variable (x0 : S16x4096x544.Idx → EReal) (x1 : S16x4096.Idx → BitVec 32) (x2 : S256.Idx → EReal) (x3 : S256x768.Idx → EReal) (x4 : S256.Idx → EReal) (x5 : S256x1024.Idx → EReal)

theorem normed_q_at (b : Fin 16) (r : Fin 4096) (k : Fin 256) :
    val_main_v34 (F := Ideal) x0 x2 (ix3 b r k) = normed (fun k => x0 (ix3 b r ⟨k.val, by omega⟩)) (fun k => x2 (ix1 k)) k := by
  unfold normed
  pointwise [val_main_v34, val_main_v33, val_main_v32, val_main_v31, val_main_v30, val_main_v29, val_main_v28, val_main_v27, val_main_v26, val_main_v25, val_main_v24, val_main_v23, val_main_v22, val_main_v19, val_main_cst_4, val_main_cst_5, val_main_cst_6]

theorem normed_kv_at (b : Fin 16) (r : Fin 4096) (k : Fin 256) :
    val_main_v75 (F := Ideal) x0 x4 (ix3 b r k) = normed (fun k => x0 (ix3 b r ⟨256 + k.val, by omega⟩)) (fun k => x4 (ix1 k)) k := by
  unfold normed
  pointwise [val_main_v75, val_main_v74, val_main_v73, val_main_v72, val_main_v71, val_main_v70, val_main_v69, val_main_v68, val_main_v67, val_main_v66, val_main_v65, val_main_v64, val_main_v63, val_main_v20, val_main_cst_7, val_main_cst_8, val_main_cst_9]

theorem cos_at (b : Fin 16) (r : Fin 4096) (n : Fin 16) :
    val_main_v17 (F := Ideal) x1 (ix3 b r n) = Ideal.cos (angle (FloatOps.sitofp (F := Ideal) FTy.f32 (x1 (ix2 b r))) n.val) := by
  unfold angle
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]

theorem sin_at (b : Fin 16) (r : Fin 4096) (n : Fin 16) :
    val_main_v18 (F := Ideal) x1 (ix3 b r n) = Ideal.sin (angle (FloatOps.sitofp (F := Ideal) FTy.f32 (x1 (ix2 b r))) n.val) := by
  unfold angle
  pointwise [val_main_v18, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]

theorem sum_zero (c : Fin 256 → EReal) (w : Fin 256 → EReal) (h : ∀ k, w k = 0) : ∑ k, c k * w k = 0 :=
  Finset.sum_eq_zero fun k _ => by rw [h k, mul_zero]

section
variable (w : Fin 256 → Fin 1024 → EReal) (v : Fin 256 → Fin 768 → EReal) (h : Fin 8) (k : Fin 256)

theorem wKV_key (n : ℕ) (hn : n < 64) : wKV w h k ⟨n, by omega⟩ = w k ⟨h.val * 128 + n, by omega⟩ := by
  unfold wKV; exact dif_pos hn
theorem wKV_gap (n : ℕ) (h₀ : 64 ≤ n) (hn : n < 128) : wKV w h k ⟨n, by omega⟩ = 0 := by
  unfold wKV; exact (dif_neg (by show ¬ n < 64; omega)).trans (if_pos (by show n - 64 < 64; omega))
theorem wKV_value (n : ℕ) (hn : n < 64) : wKV w h k ⟨128 + n, by omega⟩ = w k ⟨h.val * 128 + (64 + n), by omega⟩ := by
  unfold wKV
  refine (dif_neg (by show ¬ 128 + n < 64; omega)).trans ((if_neg (by show ¬ 128 + n - 64 < 64; omega)).trans ((dif_pos (by show 128 + n - 64 - 64 < 64; omega)).trans ?_))
  exact congrArg (w k) (Fin.ext (by show h.val * 128 + (64 + (128 + n - 64 - 64)) = h.val * 128 + (64 + n); omega))
theorem wKV_rest (n : ℕ) (h₀ : 64 ≤ n) (hn : n < 128) : wKV w h k ⟨128 + n, by omega⟩ = 0 := by
  unfold wKV
  exact (dif_neg (by show ¬ 128 + n < 64; omega)).trans ((if_neg (by show ¬ 128 + n - 64 < 64; omega)).trans (dif_neg (by show ¬ 128 + n - 64 - 64 < 64; omega)))

theorem wQ_plain (n : ℕ) (hn : n < 96) : wQ v h k ⟨n, by omega⟩ = v k ⟨h.val * 96 + n, by omega⟩ := by
  unfold wQ; exact dif_pos hn
theorem wQ_gap (n : ℕ) (h₀ : 96 ≤ n) (hn : n < 128) : wQ v h k ⟨n, by omega⟩ = 0 := by
  unfold wQ; exact (dif_neg (by show ¬ n < 96; omega)).trans (if_pos (by show n - 96 < 32; omega))
theorem wQ_nope (n : ℕ) (hn : n < 64) : wQ v h k ⟨128 + n, by omega⟩ = 0 := by
  unfold wQ
  exact (dif_neg (by show ¬ 128 + n < 96; omega)).trans ((if_neg (by show ¬ 128 + n - 96 < 32; omega)).trans (if_pos (by show 128 + n - 96 - 32 < 64; omega)))
theorem wQ_turned (n : ℕ) (h₀ : 64 ≤ n) (hn : n < 80) : wQ v h k ⟨128 + n, by omega⟩ = -v k ⟨h.val * 96 + (64 + (16 + (n - 64))), by omega⟩ := by
  unfold wQ
  refine (dif_neg (by show ¬ 128 + n < 96; omega)).trans ((if_neg (by show ¬ 128 + n - 96 < 32; omega)).trans ((if_neg (by show ¬ 128 + n - 96 - 32 < 64; omega)).trans
    ((dif_pos (by show 128 + n - 96 - 32 - 64 < 32; omega)).trans ((dif_pos (by show 128 + n - 96 - 32 - 64 < 16; omega)).trans ?_))))
  exact congrArg (fun i => -v k i) (Fin.ext (by show h.val * 96 + (64 + (16 + (128 + n - 96 - 32 - 64))) = h.val * 96 + (64 + (16 + (n - 64))); omega))
theorem wQ_moved (n : ℕ) (h₀ : 80 ≤ n) (hn : n < 96) : wQ v h k ⟨128 + n, by omega⟩ = v k ⟨h.val * 96 + (64 + (n - 64 - 16)), by omega⟩ := by
  unfold wQ
  refine (dif_neg (by show ¬ 128 + n < 96; omega)).trans ((if_neg (by show ¬ 128 + n - 96 < 32; omega)).trans ((if_neg (by show ¬ 128 + n - 96 - 32 < 64; omega)).trans
    ((dif_pos (by show 128 + n - 96 - 32 - 64 < 32; omega)).trans ((dif_neg (by show ¬ 128 + n - 96 - 32 - 64 < 16; omega)).trans ?_))))
  exact congrArg (v k) (Fin.ext (by show h.val * 96 + (64 + (128 + n - 96 - 32 - 64 - 16)) = h.val * 96 + (64 + (n - 64 - 16)); omega))
theorem wQ_rest (n : ℕ) (h₀ : 96 ≤ n) (hn : n < 128) : wQ v h k ⟨128 + n, by omega⟩ = 0 := by
  unfold wQ
  exact (dif_neg (by show ¬ 128 + n < 96; omega)).trans ((if_neg (by show ¬ 128 + n - 96 < 32; omega)).trans ((if_neg (by show ¬ 128 + n - 96 - 32 < 64; omega)).trans
    (dif_neg (by show ¬ 128 + n - 96 - 32 - 64 < 32; omega))))
end

/-- The normed row of real numbers is real. -/
theorem normed_real (x g : Fin 256 → EReal) (hx : ∀ k, ∃ r : ℝ, x k = r) (hg : ∀ k, ∃ r : ℝ, g k = r) (k : Fin 256) : ∃ r : ℝ, normed x g k = r := by
  choose a ha using hx
  choose b hb using hg
  have e₁ : Ideal.ofBits FTy.f32 0x43800000#32 = ((256 : ℝ) : EReal) := by simp [Ideal.ofBits, Ideal.ieee, -EReal.coe_mul]; norm_num
  obtain ⟨ε, hε, e₂⟩ : ∃ ε : ℝ, 0 < ε ∧ Ideal.ofBits FTy.f32 0x358637BD#32 = (ε : EReal) := by
    refine ⟨8796093 / 2 ^ 43, by norm_num, ?_⟩
    simp [Ideal.ofBits, Ideal.ieee, -EReal.coe_mul]; norm_num
  have hs : 0 < (∑ c, a c * a c) * (1 / 256) + ε := by
    have : 0 ≤ ∑ c, a c * a c := Finset.sum_nonneg fun c _ => mul_self_nonneg (a c)
    positivity
  unfold normed
  simp only [ha, hb, ← EReal.coe_mul, ← Softmax.coe_sum]
  rw [e₁, e₂, Ideal.div_coe (by norm_num), ← EReal.coe_mul, ← EReal.coe_add, Ideal.rsqrt_coe, if_neg (not_lt.mpr hs.le), if_neg hs.ne', ← EReal.coe_mul, ← EReal.coe_mul]
  exact ⟨_, rfl⟩

theorem sum_neg (c w : Fin 256 → EReal) (hc : ∀ k, ∃ r : ℝ, c k = r) (hw : ∀ k, ∃ r : ℝ, w k = r) : ∑ k, c k * -w k = -∑ k, c k * w k := by
  choose a ha using hc
  choose b hb using hw
  simp only [ha, hb, ← EReal.coe_neg, ← EReal.coe_mul, ← Softmax.coe_sum]
  congr 1
  simp

section
variable (P : Fin 544 → EReal) (p : EReal) (c : Fin 256 → EReal) (w : Fin 256 → Fin 1024 → EReal) (v : Fin 256 → Fin 768 → EReal) (co si : Fin 16 → EReal) (h : Fin 8) (d : Fin 128)

/-- Lane `d` as the reference has it. -/
def vPlain : EReal := if h₁ : d.val < 64 then ∑ k, c k * w k ⟨h.val * 128 + (64 + d.val), by omega⟩ else if d.val - 64 < 1 then 1 else 0
def kPlain : EReal :=
  if h₁ : d.val < 64 then ∑ k, c k * w k ⟨h.val * 128 + d.val, by omega⟩
  else if h₂ : d.val - 64 < 32 then
    if h₃ : d.val - 64 < 16 then P ⟨512 + (d.val - 64), by omega⟩ * co ⟨d.val - 64, h₃⟩ - P ⟨512 + (16 + (d.val - 64)), by omega⟩ * si ⟨d.val - 64, h₃⟩
    else P ⟨512 + (d.val - 64 - 16), by omega⟩ * si ⟨d.val - 64 - 16, by omega⟩ + P ⟨512 + (16 + (d.val - 64 - 16)), by omega⟩ * co ⟨d.val - 64 - 16, by omega⟩
  else 0
def qPlain : EReal :=
  (if h₁ : d.val < 64 then ∑ k, c k * v k ⟨h.val * 96 + d.val, by omega⟩
  else if h₂ : d.val - 64 < 32 then
    if h₃ : d.val - 64 < 16 then (∑ k, c k * v k ⟨h.val * 96 + (64 + (d.val - 64)), by omega⟩) * co ⟨d.val - 64, h₃⟩
      - (∑ k, c k * v k ⟨h.val * 96 + (64 + (16 + (d.val - 64))), by omega⟩) * si ⟨d.val - 64, h₃⟩
    else (∑ k, c k * v k ⟨h.val * 96 + (64 + (d.val - 64 - 16)), by omega⟩) * si ⟨d.val - 64 - 16, by omega⟩
      + (∑ k, c k * v k ⟨h.val * 96 + (64 + (16 + (d.val - 64 - 16))), by omega⟩) * co ⟨d.val - 64 - 16, by omega⟩
  else 0) * scale

theorem v_eq : vPlain c w h d = vRow c (wKV w h) d := by
  unfold vPlain vRow
  by_cases h₁ : d.val < 64
  · rw [dif_pos h₁, if_neg (by omega), add_zero]
    exact Finset.sum_congr rfl fun k _ => congrArg (c k * ·) (wKV_value w h k d.val h₁).symm
  · rw [dif_neg h₁, sum_zero _ _ (fun k => wKV_rest w h k d.val (by omega) d.isLt), zero_add]
    by_cases h₂ : d.val = 64
    · rw [if_pos h₂, if_pos (by omega)]
    · rw [if_neg h₂, if_neg (by omega)]

theorem k_eq (ec : ∀ n, co n = Ideal.cos (angle p n.val)) (es : ∀ n, si n = Ideal.sin (angle p n.val)) :
    kPlain P c w co si h d = kRow c (wKV w h) (ropeA P) (ropeB P) (cosT p) (sinT p) d := by
  unfold kPlain kRow ropeA ropeB cosT sinT
  by_cases h₁ : d.val < 64
  · rw [dif_pos h₁]
    simp only [if_pos h₁]
    rw [zero_mul, mul_zero, add_zero, add_zero]
    exact Finset.sum_congr rfl fun k _ => congrArg (c k * ·) (wKV_key w h k d.val h₁).symm
  · rw [dif_neg h₁, sum_zero _ _ (fun k => wKV_gap w h k d.val (by omega) d.isLt), zero_add]
    simp only [if_neg h₁]
    by_cases h₂ : d.val - 64 < 32
    · simp only [dif_pos h₂]
      by_cases h₃ : d.val - 64 < 16
      · simp only [dif_pos h₃, if_pos h₃]
        rw [ec, es, sub_eq_add_neg, EReal.neg_mul]
      · simp only [dif_neg h₃, if_neg h₃]
        rw [if_pos (by omega), if_pos (by omega), ec, es, add_comm]
        refine congrArg (· * _ + _) ?_
        exact congrArg P (Fin.ext (by show 512 + (16 + (d.val - 64 - 16)) = 512 + (d.val - 64); omega))
    · simp only [dif_neg h₂]
      rw [zero_mul, zero_mul, add_zero]

theorem q_eq (ec : ∀ n, co n = Ideal.cos (angle p n.val)) (es : ∀ n, si n = Ideal.sin (angle p n.val)) (hc : ∀ k, ∃ t : ℝ, c k = t)
    (hw : ∀ k (n : Fin 32), ∃ t : ℝ, v k ⟨h.val * 96 + (64 + n.val), by omega⟩ = t) :
    qPlain c v co si h d = qRow c (wQ v h) (cosT p) (sinT p) d := by
  unfold qPlain qRow cosT sinT
  refine congrArg (· * scale) ?_
  by_cases h₁ : d.val < 64
  · rw [dif_pos h₁]
    simp only [if_pos h₁]
    rw [mul_zero, mul_one, add_zero]
    exact Finset.sum_congr rfl fun k _ => congrArg (c k * ·) (wQ_plain v h k d.val (by omega)).symm
  · rw [dif_neg h₁]
    simp only [if_neg h₁]
    by_cases h₂ : d.val - 64 < 32
    · rw [dif_pos h₂]
      have e₀ : ∑ k, c k * wQ v h k ⟨d.val, by omega⟩ = ∑ k, c k * v k ⟨h.val * 96 + d.val, by omega⟩ :=
        Finset.sum_congr rfl fun k _ => congrArg (c k * ·) (wQ_plain v h k d.val (by omega))
      by_cases h₃ : d.val - 64 < 16
      · simp only [dif_pos h₃, if_pos h₃]
        have e₁ : ∑ k, c k * wQ v h k ⟨128 + d.val, by omega⟩ = -∑ k, c k * v k ⟨h.val * 96 + (64 + (16 + (d.val - 64))), by omega⟩ :=
          (Finset.sum_congr rfl fun k _ => congrArg (c k * ·) (wQ_turned v h k d.val (by omega) (by omega))).trans
            (sum_neg _ _ hc (fun k => hw k ⟨16 + (d.val - 64), by omega⟩))
        rw [e₀, e₁, ec, es, sub_eq_add_neg, EReal.neg_mul]
        refine congrArg (· * _ + _) ?_
        exact Finset.sum_congr rfl fun k _ => congrArg (fun n => c k * v k n) (Fin.ext (by show h.val * 96 + (64 + (d.val - 64)) = h.val * 96 + d.val; omega))
      · simp only [dif_neg h₃, if_neg h₃]
        have e₁ : ∑ k, c k * wQ v h k ⟨128 + d.val, by omega⟩ = ∑ k, c k * v k ⟨h.val * 96 + (64 + (d.val - 64 - 16)), by omega⟩ :=
          Finset.sum_congr rfl fun k _ => congrArg (c k * ·) (wQ_moved v h k d.val (by omega) (by omega))
        rw [e₀, e₁, if_pos (by omega), if_pos (by omega), ec, es, add_comm]
        refine congrArg (· * _ + _) ?_
        exact Finset.sum_congr rfl fun k _ => congrArg (fun n => c k * v k n) (Fin.ext (by show h.val * 96 + (64 + (16 + (d.val - 64 - 16))) = h.val * 96 + d.val; omega))
    · rw [dif_neg h₂, if_neg (by omega), if_neg (by omega), if_neg (by omega), if_neg (by omega), mul_zero, mul_zero, add_zero]
end

theorem ref_v (b : Fin 16) (h : Fin 8) (r : Fin 4096) (d : Fin 128) :
    val_main_v96 (F := Ideal) x0 x4 x5 (ix4 b h r d) = vArgs (fun k => x0 (ix3 b r k)) (fun k => x4 (ix1 k)) (fun k n => x5 (ix2 k n)) h d := by
  have e : (fun k => val_main_v75 (F := Ideal) x0 x4 (ix3 b r k)) = _ := funext (normed_kv_at x0 x4 b r)
  unfold vArgs
  refine Eq.trans ?_ ((v_eq _ _ h d).trans (congrArg (fun c => vRow c _ d) e))
  unfold vPlain
  unfold val_main_v96 val_main_v95 val_main_v90 val_main_v79 val_main_v77 val_main_v76
  generalize val_main_v75 (F := Ideal) x0 x4 = c
  pointwise [val_main_v88, val_main_v89, val_main_cst_13, val_main_cst_14]
  rfl

theorem ref_k (b : Fin 16) (h : Fin 8) (r : Fin 4096) (d : Fin 128) :
    val_main_v94 (F := Ideal) x0 x1 x4 x5 (ix4 b h r d)
      = kArgs (fun k => x0 (ix3 b r k)) (FloatOps.sitofp (F := Ideal) FTy.f32 (x1 (ix2 b r))) (fun k => x4 (ix1 k)) (fun k n => x5 (ix2 k n)) h d := by
  have e : (fun k => val_main_v75 (F := Ideal) x0 x4 (ix3 b r k)) = _ := funext (normed_kv_at x0 x4 b r)
  unfold kArgs
  refine Eq.trans ?_ ((k_eq _ _ _ _ _ _ h d (cos_at x1 b r) (sin_at x1 b r)).trans (congrArg (fun c => kRow c _ _ _ _ _ d) e))
  unfold kPlain
  unfold val_main_v94 val_main_v93 val_main_v87 val_main_v78 val_main_v77 val_main_v76
  generalize val_main_v75 (F := Ideal) x0 x4 = c
  unfold val_main_v81 val_main_v80 val_main_v62 val_main_v61 val_main_v60 val_main_v59 val_main_v58 val_main_v57 val_main_v56
  generalize val_main_v17 (F := Ideal) x1 = co
  generalize val_main_v18 (F := Ideal) x1 = si
  pointwise [val_main_v55, val_main_v54, val_main_v21, val_main_v86, val_main_cst_12]

theorem ref_q (hx : ∀ b r (k : Fin 256), ∃ t : ℝ, x0 (ix3 b r ⟨k.val, by omega⟩) = t) (hg : ∀ k, ∃ t : ℝ, x2 (ix1 k) = t)
    (hw : ∀ k (h : Fin 8) (n : Fin 32), ∃ t : ℝ, x3 (ix2 k ⟨h.val * 96 + (64 + n.val), by omega⟩) = t) (b : Fin 16) (h : Fin 8) (r : Fin 4096) (d : Fin 128) :
    val_main_v92 (F := Ideal) x0 x1 x2 x3 (ix4 b h r d)
      = qArgs (fun k => x0 (ix3 b r k)) (FloatOps.sitofp (F := Ideal) FTy.f32 (x1 (ix2 b r))) (fun k => x2 (ix1 k)) (fun k n => x3 (ix2 k n)) h d := by
  have e : (fun k => val_main_v34 (F := Ideal) x0 x2 (ix3 b r k)) = _ := funext (normed_q_at x0 x2 b r)
  have hc : ∀ k, ∃ t : ℝ, val_main_v34 (F := Ideal) x0 x2 (ix3 b r k) = (t : EReal) := fun k => by
    rw [normed_q_at]; exact normed_real _ _ (hx b r) hg k
  unfold qArgs
  refine Eq.trans ?_ ((q_eq _ _ (fun k n => x3 (ix2 k n)) _ _ h d (cos_at x1 b r) (sin_at x1 b r) hc (fun k n => hw k h n)).trans (congrArg (fun c => qRow c _ _ _ d) e))
  unfold qPlain scale
  unfold val_main_v92 val_main_v91 val_main_v85 val_main_v83 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35
  clear hc e
  generalize val_main_v34 (F := Ideal) x0 x2 = c
  generalize val_main_v17 (F := Ideal) x1 = co
  generalize val_main_v18 (F := Ideal) x1 = si
  pointwise [val_main_v84, val_main_cst_11, val_main_v82, val_main_cst_10]

end Cert.Proof.Prep

end
-- ==== Proof.PrepPre.lean ====
/- What the precondition of the latent attention's preparation says of each entry. -/
module

public import proofs.«01_k».proof.Pre_finite_queries
public import Idealize.ShloMosaic.Adequacy
public import proofs.«01_k».proof.Proof.Softmax

@[expose] public section

set_option maxRecDepth 16384

noncomputable section

namespace Cert.Proof.Prep

open Idealize.ShloMosaic Idealize.ShloMosaic.TcCoe Idealize.SL.Sem Cert.Pre_finite_queries

theorem pre_queries : Cert.Pre_finite_queries.Facts := by
  constructor <;> decide

/-- The magnitude of `x` is below infinity. -/
def below (x : EReal) : Prop := FloatOps.cmpf (F := Ideal) (φ := .f32) .olt (max x (-x)) (Ideal.ofBits .f32 0x7F800000#32) = 1#1

variable [Cert.Pre_finite_queries.Facts] (x0 : S16x4096x544.Idx → EReal) (x1 : S16x4096.Idx → BitVec 32) (x2 : S256.Idx → EReal) (x3 : S256x768.Idx → EReal)
  (x4 : S256.Idx → EReal) (x5 : S256x1024.Idx → EReal)

theorem pre_row (p : (Cert.Pre_finite_queries.fn (F := Ideal) x0 x1 x2 x3 x4 x5).1 = fun _ => 1#1) (b : Fin 16) (r : Fin 4096) (k : Fin 256) :
    below (x0 (ix3 b r ⟨k.val, by omega⟩)) := by
  have q := congrFun p (ix3 b r k)
  unfold Cert.Pre_finite_queries.fn at q
  pointwise at q
  exact q

theorem pre_gain (p : (Cert.Pre_finite_queries.fn (F := Ideal) x0 x1 x2 x3 x4 x5).2.1 = fun _ => 1#1) (k : Fin 256) : below (x2 (ix1 k)) := by
  have q := congrFun p (ix1 k)
  unfold Cert.Pre_finite_queries.fn at q
  pointwise at q
  exact q

theorem pre_weight (p : (Cert.Pre_finite_queries.fn (F := Ideal) x0 x1 x2 x3 x4 x5).2.2 = fun _ => 1#1) (k : Fin 256) (h : Fin 8) (n : Fin 32) :
    below (x3 (ix2 k ⟨h.val * 96 + (64 + n.val), by omega⟩)) := by
  have q := congrFun p (ix3 k h n)
  unfold Cert.Pre_finite_queries.fn at q
  pointwise at q
  exact q

end Cert.Proof.Prep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Equal
public import proofs.«01_k».proof.Proof.ProjectReference
public import proofs.«01_k».proof.Proof.MergeReference
public import proofs.«01_k».proof.Proof.CrossReference
public import proofs.«01_k».proof.Proof.PlaceReference
public import proofs.«01_k».proof.Proof.ExpertsRun
public import proofs.«01_k».proof.Proof.ExpertsSame
public import proofs.«01_k».proof.Proof.Memory
public import proofs.«01_k».proof.Proof.Short
public import proofs.«01_k».proof.Proof.PrepCall
public import proofs.«01_k».proof.Proof.PrepReference
public import proofs.«01_k».proof.Proof.PrepPre

@[expose] public section

noncomputable section

namespace Cert.Proof

open Idealize.ShloMosaic Idealize.SL.Sem Cert.Kernel

theorem pre_facts : Cert.Pre_finite_scores.Facts := ⟨by decide, by decide, by decide⟩

/-- A magnitude below infinity is a real number's. -/
theorem real_of_abs (x : EReal) (h : FloatOps.cmpf (F := Ideal) (φ := .f32) .olt (max x (-x)) (Ideal.ofBits .f32 0x7F800000#32) = 1#1) : ∃ r : ℝ, x = r := by
  have hT : Ideal.ofBits .f32 0x7F800000#32 = ⊤ := by simp [Ideal.ofBits, Ideal.ieee]
  rw [hT] at h
  induction x using EReal.rec with
  | bot => exact absurd h (by simp [Ideal.cmpf_def, Ideal.cmp])
  | top => exact absurd h (by simp [Ideal.cmpf_def, Ideal.cmp])
  | coe r => exact ⟨r, rfl⟩

theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2, by
    funext s
    rcases s with ⟨_, s⟩
    nomatch s⟩) (Cert.ReferenceIdeal.Value.run (F := Ideal) m g)

theorem algebraic_attention : haveI := pre_facts; Cert.algebraic_KernelIdeal_ReferenceIdeal_pre_finite_scores := by
  intro m g m' g' hpre hargs
  refine ⟨fun c => Heads.called m c, ?_, ?_⟩
  · refine (θ_run _ _ _).mono (fun r h c => ⟨(h c).1.trans (Heads.result m c), (h c).2⟩) (Cert.KernelIdeal.Value.run_blocks (F := Ideal) m g)
  · refine (θ_run _ _ _).mono (fun r h c => ⟨(h c).1.trans ?_, (h c).2⟩) (Cert.ReferenceIdeal.Value.run (F := Ideal) m' g')
    obtain ⟨a0, a1, a2, a3, a4⟩ := hargs c
    obtain ⟨p0, p1, p2, p3⟩ := hpre c
    rw [Cert.ReferenceIdeal.Read.val_main_v19_eq]
    exact (Heads.packs_eq c m _ _ _ _ _ a0.symm a1.symm a2.symm a3.symm a4.symm (fun i => real_of_abs _ ((congrFun a0 i).symm ▸ congrFun p0 i)) (fun i => real_of_abs _ ((congrFun a1 i).symm ▸ congrFun p1 i))
      (fun i => real_of_abs _ ((congrFun a2 i).symm ▸ congrFun p2 i)) (fun i => real_of_abs _ ((congrFun a3 i).symm ▸ congrFun p3 i))).symm

theorem frame_reference2 : haveI := Cert.Reference2Ideal.Gen.facts; Cert.quiescent_Reference2Ideal := fun m g _ =>
  (θ_run _ _ _).mono (fun r h => ⟨fun c => (h c).2, by
    funext s
    rcases s with ⟨_, s⟩
    nomatch s⟩) (Cert.Reference2Ideal.Value.run (F := Ideal) m g)

theorem frame_reference3 : haveI := Cert.Reference3Ideal.Gen.facts; Cert.quiescent_Reference3Ideal := fun m g _ =>
  (θ_run _ _ _).mono (fun r h => ⟨fun c => (h c).2, by
    funext s
    rcases s with ⟨_, s⟩
    nomatch s⟩) (Cert.Reference3Ideal.Value.run (F := Ideal) m g)

theorem frame_reference4 : haveI := Cert.Reference4Ideal.Gen.facts; Cert.quiescent_Reference4Ideal := fun m g _ =>
  (θ_run _ _ _).mono (fun r h => ⟨fun c => (h c).2, by
    funext s
    rcases s with ⟨_, s⟩
    nomatch s⟩) (Cert.Reference4Ideal.Value.run (F := Ideal) m g)

theorem algebraic_project : Cert.algebraic_Kernel2Ideal_Reference2Ideal := by
  intro m g m' g' _ hargs
  refine ⟨fun c => Project.called m c, ?_, ?_⟩
  · exact (θ_run _ _ _).mono (fun r h c => ⟨(h c).1.trans (Project.result m c), (h c).2⟩) (Cert.Kernel2Ideal.Value.run_blocks (F := Ideal) m g)
  · refine (θ_run _ _ _).mono (fun r h c => ⟨(h c).1.trans ?_, (h c).2⟩) (Cert.Reference2Ideal.Value.run (F := Ideal) m' g')
    obtain ⟨a0, a1, a2⟩ := hargs c
    rw [Cert.Reference2Ideal.Read.val_main_v31_eq, a0, a1, a2]
    funext j
    change Cert.Reference2Ideal.S65536x8448.Idx at j
    idx_vars j
    exact Project.ref_at _ _ _ j0 j1

theorem algebraic_merge : Cert.algebraic_Kernel3Ideal_Reference3Ideal := by
  intro m g m' g' _ hargs
  refine ⟨fun c => Merge.called m c, ?_, ?_⟩
  · exact (θ_run _ _ _).mono (fun r h c => ⟨(h c).1.trans (Merge.result m c), (h c).2⟩) (Cert.Kernel3Ideal.Value.run_blocks (F := Ideal) m g)
  · refine (θ_run _ _ _).mono (fun r h c => ⟨(h c).1.trans ?_, (h c).2⟩) (Cert.Reference3Ideal.Value.run (F := Ideal) m' g')
    obtain ⟨a0, a1, a2, a3, a4, a5, a6, a7, a8, a9, a10, a11⟩ := hargs c
    rw [Cert.Reference3Ideal.Read.val_main_v54_eq, a0, a1, a2, a3, a4, a5, a6, a7, a8, a9, a10, a11]
    funext j
    change Cert.Reference3Ideal.S16x4096x1024.Idx at j
    idx_vars j
    exact Merge.ref_at _ _ _ _ _ _ _ _ _ _ _ _ j0 j1 j2

theorem algebraic_cross : Cert.algebraic_Kernel4Ideal_Reference4Ideal := by
  intro m g m' g' _ hargs
  refine ⟨fun c => Cross.called m c, ?_, ?_⟩
  · exact (θ_run _ _ _).mono (fun r h c => ⟨(h c).1.trans (Cross.result m c), (h c).2⟩) (Cert.Kernel4Ideal.Value.run_blocks (F := Ideal) m g)
  · refine (θ_run _ _ _).mono (fun r h c => ⟨(h c).1.trans ?_, (h c).2⟩) (Cert.Reference4Ideal.Value.run (F := Ideal) m' g')
    obtain ⟨a0, a1, a2, a3, a4⟩ := hargs c
    rw [Cert.Reference4Ideal.Read.val_main_v37_eq, a0, a1, a2, a3, a4]
    funext j
    change Cert.Reference4Ideal.S16x4096x1024.Idx at j
    idx_vars j
    exact Cross.ref_at _ _ _ _ _ j0 j1 j2

theorem pre_places : Cert.Pre_places.Facts := ⟨by decide⟩

/-- A word between 0 and 1023, told by the two comparisons. -/
theorem small_of_between (b : BitVec 32) (h : IntOp.andi (IntOp.cmpi .sge b 0#32) (IntOp.cmpi .slt b 1024#32) = 1#1) : b = BitVec.ofNat 32 b.toNat ∧ b.toNat < 1024 := by
  have h0 : (0#32).toInt = 0 := by decide
  have h1 : (1024#32).toInt = 1024 := by decide
  rw [WordCmp.cmpi_sge_eq, WordCmp.cmpi_slt_eq, h0, h1] at h
  have ha : 0 ≤ b.toInt := by
    by_contra hn
    rw [decide_eq_false hn] at h
    exact absurd h (by cases decide (b.toInt < 1024) <;> decide)
  have hb : b.toInt < 1024 := by
    by_contra hn
    rw [decide_eq_false hn] at h
    exact absurd h (by cases decide (0 ≤ b.toInt) <;> decide)
  have e := BitVec.toInt_eq_toNat_cond b
  have := b.isLt
  refine ⟨by simp, ?_⟩
  split at e <;> omega

theorem frame_reference5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0) :=
  (θ_run _ _ _).mono (fun r h => ⟨fun c => (h c).2, by
    funext s
    rcases s with ⟨_, s⟩
    nomatch s⟩) (Cert.Reference5Ideal.Value.run (F := Ideal) m g)

theorem algebraic_place : haveI := pre_places; Cert.algebraic_Kernel5Ideal_Reference5Ideal_pre_places := by
  intro m g m' g' hpre hargs
  refine ⟨fun c => Place.called m c, ?_, ?_⟩
  · exact (θ_run _ _ _).mono (fun r h c => ⟨(h c).1.trans (Place.result m c), (h c).2⟩) (Cert.Kernel5Ideal.Value.run_blocks (F := Ideal) m g)
  · refine (θ_run _ _ _).mono (fun r h c => ⟨(h c).1.trans ?_, (h c).2⟩) (Cert.Reference5Ideal.Value.run (F := Ideal) m' g')
    obtain ⟨a0, a1, a2, a3⟩ := hargs c
    have p0 := hpre c
    rw [Cert.Reference5Ideal.Read.val_main_v19_eq, a0, a1, a2, a3]
    funext j
    change Cert.Reference5Ideal.S65536x1024.Idx at j
    idx_vars j
    exact Place.ref_at _ _ _ _ (fun i => small_of_between _ (congrFun p0 i)) j0 j1

theorem frame_reference6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0) :=
  (θ_run _ _ _).mono (fun r h => ⟨fun c => (h c).2, by
    funext s
    rcases s with ⟨_, s⟩
    nomatch s⟩) (Cert.Reference6Ideal.Value.run (F := Ideal) m g)

theorem algebraic_experts : haveI := Experts.routed_facts; Cert.algebraic_Kernel6Ideal_Reference6Ideal_pre_routed := by
  intro m g m' g' hpre hargs
  haveI := Experts.routed_facts
  have hR : Experts.Routed m := fun c => Experts.pre_at _ _ _ _ _ _ (hpre c)
  refine ⟨fun c => Experts.called m c, Experts.run_called m g hR, ?_⟩
  refine (θ_run _ _ _).mono (fun r h c => ⟨(h c).1.trans ?_, (h c).2⟩) (Cert.Reference6Ideal.Value.run (F := Ideal) m' g')
  obtain ⟨a0, a1, a2, a3, a4, a5⟩ := hargs c
  rw [Cert.Reference6Ideal.Read.val_main_v58_eq, a1, a2, a3, a4, a5]
  funext j
  change Cert.Reference6Ideal.S65536x1024.Idx at j
  idx_vars j
  refine (Experts.ref_at _ _ _ _ _ j0 j1).trans ?_
  rw [Experts.out_0, Experts.out_1, Experts.out_2, Experts.out_3]
  rfl

theorem frame_reference7 : haveI := Cert.Reference7Ideal.Gen.facts; Cert.quiescent_Reference7Ideal := fun m g _ =>
  (θ_run _ _ _).mono (fun r h => ⟨fun c => (h c).2, by
    funext s
    rcases s with ⟨_, s⟩
    nomatch s⟩) (Cert.Reference7Ideal.Value.run (F := Ideal) m g)

theorem algebraic_memory : Cert.algebraic_Kernel7Ideal_Reference7Ideal := by
  intro m g m' g' _ hargs
  refine ⟨fun c => Memory.called m c, ?_, ?_⟩
  · exact (θ_run _ _ _).mono (fun r h c => ⟨(h c).1.trans (Memory.result m c), (h c).2⟩) (Cert.Kernel7Ideal.Value.run_blocks (F := Ideal) m g)
  · refine (θ_run _ _ _).mono (fun r h c => ⟨(h c).1.trans ?_, (h c).2⟩) (Cert.Reference7Ideal.Value.run (F := Ideal) m' g')
    obtain ⟨a0, a1, a2⟩ := hargs c
    rw [Cert.Reference7Ideal.Read.val_main_v14_eq, a0, a1, a2]
    funext j
    change Cert.Reference7Ideal.S16x256x1024.Idx at j
    idx_vars j
    exact Memory.ref_at _ _ _ j0 j1 j2

theorem frame_reference8 (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0) :=
  (θ_run _ _ _).mono (fun r h => ⟨fun c => (h c).2.2.2, by
    funext s
    rcases s with ⟨_, s⟩
    nomatch s⟩) (Cert.Reference8Ideal.Value.run (F := Ideal) m g)

theorem algebraic_prep : haveI := Prep.pre_queries; Cert.algebraic_Kernel8Ideal_Reference8Ideal_pre_finite_queries := by
  intro m g m' g' hpre hargs
  refine ⟨fun c => Prep.calledQ m c, fun c => Prep.calledK m c, fun c => Prep.calledV m c, ?_, ?_⟩
  · exact (θ_run _ _ _).mono (fun r h c => ⟨(h c).1.trans (Prep.resultQ m c), (h c).2.1.trans (Prep.resultK m c), (h c).2.2.1.trans (Prep.resultV m c), (h c).2.2.2⟩)
      (Cert.Kernel8Ideal.Value.run_blocks (F := Ideal) m g)
  · refine (θ_run _ _ _).mono (fun r h c => ⟨(h c).1.trans ?_, (h c).2.1.trans ?_, (h c).2.2.1.trans ?_, (h c).2.2.2⟩) (Cert.Reference8Ideal.Value.run (F := Ideal) m' g')
    all_goals obtain ⟨a0, a1, a2, a3, a4, a5⟩ := hargs c
    · obtain ⟨p0, p1, p2⟩ := hpre c
      haveI := Prep.pre_queries
      rw [Cert.Reference8Ideal.Read.val_main_v92_eq, a0, a1, a2, a3]
      funext j
      change Cert.Reference8Ideal.S16x8x4096x128.Idx at j
      idx_vars j
      exact Prep.ref_q _ _ _ _ (fun b r k => real_of_abs _ (Prep.pre_row _ _ _ _ _ _ p0 b r k)) (fun k => real_of_abs _ (Prep.pre_gain _ _ _ _ _ _ p1 k))
        (fun k h n => real_of_abs _ (Prep.pre_weight _ _ _ _ _ _ p2 k h n)) j0 j1 j2 j3
    · rw [Cert.Reference8Ideal.Read.val_main_v94_eq, a0, a1, a4, a5]
      funext j
      change Cert.Reference8Ideal.S16x8x4096x128.Idx at j
      idx_vars j
      exact Prep.ref_k _ _ _ _ j0 j1 j2 j3
    · rw [Cert.Reference8Ideal.Read.val_main_v96_eq, a0, a4, a5]
      funext j
      change Cert.Reference8Ideal.S16x8x4096x128.Idx at j
      idx_vars j
      exact Prep.ref_v _ _ _ j0 j1 j2 j3

theorem frame_reference9 : haveI := Cert.Reference9Ideal.Gen.facts; Cert.quiescent_Reference9Ideal := fun m g _ =>
  (θ_run _ _ _).mono (fun r h => ⟨fun c => (h c).2, by
    funext s
    rcases s with ⟨_, s⟩
    nomatch s⟩) (Cert.Reference9Ideal.Value.run (F := Ideal) m g)

theorem algebraic_short : Cert.algebraic_Kernel9Ideal_Reference9Ideal := by
  intro m g m' g' _ hargs
  refine ⟨fun c => Short.called m c, ?_, ?_⟩
  · exact (θ_run _ _ _).mono (fun r h c => ⟨(h c).1.trans (Short.result m c), (h c).2⟩) (Cert.Kernel9Ideal.Value.run_blocks (F := Ideal) m g)
  · refine (θ_run _ _ _).mono (fun r h c => ⟨(h c).1.trans ?_, (h c).2⟩) (Cert.Reference9Ideal.Value.run (F := Ideal) m' g')
    obtain ⟨a0, a1⟩ := hargs c
    rw [Cert.Reference9Ideal.Read.val_main_v27_eq, a0, a1]
    funext j
    change Cert.Reference9Ideal.S16x4096x512.Idx at j
    idx_vars j
    exact Short.ref_at _ _ j0 j1 j2

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    pre_facts, pre_places, Experts.routed_facts, Prep.pre_queries,
    fun m g _ => Cert.Kernel.Gen.frame m g, fun m g _ => Cert.KernelIdeal.Gen.frame m g, fun m g _ => Cert.KernelIdeal.Gen.frame m g,
    fun m g _ => frame_reference m g, fun m g _ => frame_reference m g,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, fun m g _ => Cert.Kernel5Ideal.Gen.frame m g,
    fun m g _ => frame_reference5 m g, fun m g _ => frame_reference5 m g,
    fun m g _ => frame_experts m g, fun m g _ => Cert.Kernel6Ideal.Gen.frame m g, fun m g _ => Cert.Kernel6Ideal.Gen.frame m g,
    fun m g _ => frame_reference6 m g, fun m g _ => frame_reference6 m g,
    fun m g _ => Cert.Kernel7.Gen.frame m g, fun m g _ => Cert.Kernel7Ideal.Gen.frame m g, frame_reference7,
    fun m g _ => Cert.Kernel8.Gen.frame m g, fun m g _ => Cert.Kernel8Ideal.Gen.frame m g, fun m g _ => Cert.Kernel8Ideal.Gen.frame m g,
    fun m g _ => frame_reference8 m g, fun m g _ => frame_reference8 m g,
    fun m g _ => Cert.Kernel9.Gen.frame m g, fun m g _ => Cert.Kernel9Ideal.Gen.frame m g, frame_reference9,
    trivial, algebraic_attention, trivial, algebraic_project, trivial, algebraic_merge, trivial, algebraic_cross, trivial, algebraic_place,
    trivial, algebraic_experts, trivial, algebraic_memory, trivial, algebraic_prep, trivial, algebraic_short⟩

end Cert.Proof

end
